-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![8, 1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S8x1024x64x128 : Shape := ⟨4, ![8, 1024, 64, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S8x1024x64x128 : S_.BroadcastsInDim S8x1024x64x128 (![] : Fin 0 → Fin S8x1024x64x128.rank)

variable [Facts]

def fn {F : FTy → Type} [FloatOps F] (main_arg0 : FVec F S1x1024x1024 .f32) (main_arg1 : FVec F S1024x1024 .f32) (main_arg2 : FVec F S8x1024x64x128 .f32) (main_arg3 : FVec F S8x1024x64x128 .f32) (main_arg4 : FVec F S1024x1024 .f32) : IVec S1x1024x1024 1 × IVec S1024x1024 1 × IVec S8x1024x64x128 1 :=
  let main_cst : FVec F S_ .f32 := constant S_ .f32 0xFF800000#32
  let main_v0 : FVec F S1x1024x1024 .f32 := broadcastInDim S1x1024x1024 ![] bcast_S_S1x1024x1024 main_cst
  let main_v1 : IVec S1x1024x1024 1 := cmpf .ogt main_arg0 main_v0
  let main_cst_0 : FVec F S_ .f32 := constant S_ .f32 0x7F800000#32
  let main_v2 : FVec F S1x1024x1024 .f32 := broadcastInDim S1x1024x1024 ![] bcast_S_S1x1024x1024 main_cst_0
  let main_v3 : IVec S1x1024x1024 1 := cmpf .olt main_arg0 main_v2
  let main_v4 : IVec S1x1024x1024 1 := andi main_v1 main_v3
  let main_cst_1 : FVec F S_ .f32 := constant S_ .f32 0xFF800000#32
  let main_v5 : FVec F S1024x1024 .f32 := broadcastInDim S1024x1024 ![] bcast_S_S1024x1024 main_cst_1
  let main_v6 : IVec S1024x1024 1 := cmpf .ogt main_arg1 main_v5
  let main_cst_2 : FVec F S_ .f32 := constant S_ .f32 0x7F800000#32
  let main_v7 : FVec F S1024x1024 .f32 := broadcastInDim S1024x1024 ![] bcast_S_S1024x1024 main_cst_2
  let main_v8 : IVec S1024x1024 1 := cmpf .olt main_arg1 main_v7
  let main_v9 : IVec S1024x1024 1 := andi main_v6 main_v8
  let main_cst_3 : FVec F S_ .f32 := constant S_ .f32 0xFF800000#32
  let main_v10 : FVec F S8x1024x64x128 .f32 := broadcastInDim S8x1024x64x128 ![] bcast_S_S8x1024x64x128 main_cst_3
  let main_v11 : IVec S8x1024x64x128 1 := cmpf .ogt main_arg2 main_v10
  let main_cst_4 : FVec F S_ .f32 := constant S_ .f32 0x7F800000#32
  let main_v12 : FVec F S8x1024x64x128 .f32 := broadcastInDim S8x1024x64x128 ![] bcast_S_S8x1024x64x128 main_cst_4
  let main_v13 : IVec S8x1024x64x128 1 := cmpf .olt main_arg2 main_v12
  let main_v14 : IVec S8x1024x64x128 1 := andi main_v11 main_v13
  (main_v4, main_v9, main_v14)
-- ==== Pre_finite_ReferenceIdeal.lean ====
abbrev S8x1024x1024 : Shape := ⟨3, ![8, 1024, 1024]⟩
abbrev S1024x8192 : Shape := ⟨2, ![1024, 8192]⟩
abbrev S8x1024x64x128 : Shape := ⟨4, ![8, 1024, 64, 128]⟩
abbrev S8192x1024 : Shape := ⟨2, ![8192, 1024]⟩
abbrev S_ : Shape := ⟨0, ![]⟩

class Facts : Prop where
  bcast_S_S8x1024x1024 : S_.BroadcastsInDim S8x1024x1024 (![] : Fin 0 → Fin S8x1024x1024.rank)
  bcast_S_S1024x8192 : S_.BroadcastsInDim S1024x8192 (![] : Fin 0 → Fin S1024x8192.rank)
  bcast_S_S8x1024x64x128 : S_.BroadcastsInDim S8x1024x64x128 (![] : Fin 0 → Fin S8x1024x64x128.rank)

variable [Facts]

def fn {F : FTy → Type} [FloatOps F] (main_arg0 : FVec F S8x1024x1024 .f32) (main_arg1 : FVec F S1024x8192 .f32) (main_arg2 : FVec F S8x1024x64x128 .f32) (main_arg3 : FVec F S8x1024x64x128 .f32) (main_arg4 : FVec F S8192x1024 .f32) : IVec S8x1024x1024 1 × IVec S1024x8192 1 × IVec S8x1024x64x128 1 :=
  let main_cst : FVec F S_ .f32 := constant S_ .f32 0xFF800000#32
  let main_v0 : FVec F S8x1024x1024 .f32 := broadcastInDim S8x1024x1024 ![] bcast_S_S8x1024x1024 main_cst
  let main_v1 : IVec S8x1024x1024 1 := cmpf .ogt main_arg0 main_v0
  let main_cst_0 : FVec F S_ .f32 := constant S_ .f32 0x7F800000#32
  let main_v2 : FVec F S8x1024x1024 .f32 := broadcastInDim S8x1024x1024 ![] bcast_S_S8x1024x1024 main_cst_0
  let main_v3 : IVec S8x1024x1024 1 := cmpf .olt main_arg0 main_v2
  let main_v4 : IVec S8x1024x1024 1 := andi main_v1 main_v3
  let main_cst_1 : FVec F S_ .f32 := constant S_ .f32 0xFF800000#32
  let main_v5 : FVec F S1024x8192 .f32 := broadcastInDim S1024x8192 ![] bcast_S_S1024x8192 main_cst_1
  let main_v6 : IVec S1024x8192 1 := cmpf .ogt main_arg1 main_v5
  let main_cst_2 : FVec F S_ .f32 := constant S_ .f32 0x7F800000#32
  let main_v7 : FVec F S1024x8192 .f32 := broadcastInDim S1024x8192 ![] bcast_S_S1024x8192 main_cst_2
  let main_v8 : IVec S1024x8192 1 := cmpf .olt main_arg1 main_v7
  let main_v9 : IVec S1024x8192 1 := andi main_v6 main_v8
  let main_cst_3 : FVec F S_ .f32 := constant S_ .f32 0xFF800000#32
  let main_v10 : FVec F S8x1024x64x128 .f32 := broadcastInDim S8x1024x64x128 ![] bcast_S_S8x1024x64x128 main_cst_3
  let main_v11 : IVec S8x1024x64x128 1 := cmpf .ogt main_arg2 main_v10
  let main_cst_4 : FVec F S_ .f32 := constant S_ .f32 0x7F800000#32
  let main_v12 : FVec F S8x1024x64x128 .f32 := broadcastInDim S8x1024x64x128 ![] bcast_S_S8x1024x64x128 main_cst_4
  let main_v13 : IVec S8x1024x64x128 1 := cmpf .olt main_arg2 main_v12
  let main_v14 : IVec S8x1024x64x128 1 := andi main_v11 main_v13
  (main_v4, main_v9, main_v14)
-- ==== Kernel.lean ====
abbrev S1x1024x1024 : Shape := ⟨3, ![1, 1024, 1024]⟩
abbrev S1024x1024 : Shape := ⟨2, ![1024, 1024]⟩
abbrev S8x1024x64x128 : Shape := ⟨4, ![8, 1024, 64, 128]⟩
abbrev S3x2x1024x1024 : Shape := ⟨4, ![3, 2, 1024, 1024]⟩
abbrev S2x256x8x128 : Shape := ⟨4, ![2, 256, 8, 128]⟩
abbrev S4 : Shape := ⟨1, ![4]⟩
abbrev S3 : Shape := ⟨1, ![3]⟩
abbrev S_ : Shape := ⟨0, ![]⟩
abbrev S2x4 : Shape := ⟨2, ![2, 4]⟩
abbrev S1x1x1024x1024 : Shape := ⟨4, ![1, 1, 1024, 1024]⟩
abbrev S4x4x64x1024 : Shape := ⟨4, ![4, 4, 64, 1024]⟩
abbrev S1 : Shape := ⟨1, ![1]⟩
abbrev S1x2x1024x1024 : Shape := ⟨4, ![1, 2, 1024, 1024]⟩
abbrev S2x1024x1024 : Shape := ⟨3, ![2, 1024, 1024]⟩
abbrev S1x1 : Shape := ⟨2, ![1, 1]⟩
abbrev S1x64x8x128 : Shape := ⟨4, ![1, 64, 8, 128]⟩
abbrev S64x8x128 : Shape := ⟨3, ![64, 8, 128]⟩
abbrev S256x1024 : Shape := ⟨2, ![256, 1024]⟩
abbrev S256x8x128 : Shape := ⟨3, ![256, 8, 128]⟩
abbrev S1x256x8x128 : Shape := ⟨4, ![1, 256, 8, 128]⟩
abbrev S8x256x256 : Shape := ⟨3, ![8, 256, 256]⟩
abbrev S8x256 : Shape := ⟨2, ![8, 256]⟩
abbrev S8x256x1 : Shape := ⟨3, ![8, 256, 1]⟩
abbrev S8x256x128 : Shape := ⟨3, ![8, 256, 128]⟩
abbrev S1x256x1024 : Shape := ⟨3, ![1, 256, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S8x1024x64x128, .f32⟩
  | .hbm, ⟨3, _⟩ => ⟨S8x1024x64x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S3x2x1024x1024, .bf16⟩
  | .local _ .vmem, ⟨3, _⟩ => ⟨S3x2x1024x1024, .bf16⟩
  | .local _ .vmem, ⟨4, _⟩ => ⟨S1024x1024, .f32⟩
  | .local _ .vmem, ⟨5, _⟩ => ⟨S1024x1024, .bf16⟩
  | .local _ .vmem, ⟨6, _⟩ => ⟨S2x256x8x128, .f32⟩
  | .local _ .vmem, ⟨7, _⟩ => ⟨S2x256x8x128, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => true
  | ⟨1, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 2 33 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_8 : BitVec 32 := 1#32
  let v11 : BitVec 32 := Scalar.muli v4 c1_i32_8
  let v12 : BitVec 32 := Scalar.addi c0_i32_9 v11
  v12.toNat
@[reducible] def k0_t1_loop : Scf.Loop 32 :=
  let c0_i32_28 : BitVec 32 := 0#32
  let c5_i32 : BitVec 32 := 5#32
  let v36 : BitVec 32 := Scalar.addi c0_i32_28 c5_i32
  let c1_i32_29 : BitVec 32 := 1#32
  ⟨c0_i32_28, v36, c1_i32_29⟩
def k0_cond1 (k0_t1 : Fin k0_t1_loop.trips) : BitVec 1 :=
  let c0_i32_28 : BitVec 32 := 0#32
  let c1_i32_29 : BitVec 32 := 1#32
  let arg20 : BitVec 32 := Scf.iv c0_i32_28 c1_i32_29 k0_t1
  let c1_i32_42 : BitVec 32 := 1#32
  let v51 : BitVec 1 := Scalar.cmpi .sge arg20 c1_i32_42
  let v52 : BitVec 32 := Scalar.extui v51
  let c0_i32_43 : BitVec 32 := 0#32
  let v53 : BitVec 1 := Scalar.cmpi .ne v52 c0_i32_43
  v53

def k0_off1 (k0_t1 : Fin k0_t1_loop.trips) : Fin 1 → Nat :=
  let c0_i32_28 : BitVec 32 := 0#32
  let c1_i32_29 : BitVec 32 := 1#32
  let arg20 : BitVec 32 := Scf.iv c0_i32_28 c1_i32_29 k0_t1
  let c1_i32_131 : BitVec 32 := 1#32
  let v135 : BitVec 32 := Scalar.subi arg20 c1_i32_131
  ![v135.toNat]
def k0_off2 (k0_t1 : Fin k0_t1_loop.trips) : Fin 4 → Nat :=
  let c0_i32_28 : BitVec 32 := 0#32
  let c1_i32_29 : BitVec 32 := 1#32
  let arg20 : BitVec 32 := Scf.iv c0_i32_28 c1_i32_29 k0_t1
  let c3_i32 : BitVec 32 := 3#32
  let v45 : BitVec 32 := Scalar.remsi arg20 c3_i32
  let c0_i32_134 : BitVec 32 := 0#32
  let c0_i32_135 : BitVec 32 := 0#32
  let c0_i32_136 : BitVec 32 := 0#32
  ![v45.toNat, 0, 0, 0]
def k0_cond2 (k0_t1 : Fin k0_t1_loop.trips) : BitVec 1 :=
  let c0_i32_28 : BitVec 32 := 0#32
  let c1_i32_29 : BitVec 32 := 1#32
  let arg20 : BitVec 32 := Scf.iv c0_i32_28 c1_i32_29 k0_t1
  let c3_i32_44 : BitVec 32 := 3#32
  let v54 : BitVec 1 := Scalar.cmpi .sle arg20 c3_i32_44
  let v55 : BitVec 32 := Scalar.extui v54
  let c0_i32_45 : BitVec 32 := 0#32
  let v56 : BitVec 1 := Scalar.cmpi .ne v55 c0_i32_45
  v56

def k0_off3 (k0_t1 : Fin k0_t1_loop.trips) : Fin 1 → Nat :=
  let c0_i32_28 : BitVec 32 := 0#32
  let c1_i32_29 : BitVec 32 := 1#32
  let arg20 : BitVec 32 := Scf.iv c0_i32_28 c1_i32_29 k0_t1
  ![arg20.toNat]
def k0_off4 (k0_t1 : Fin k0_t1_loop.trips) : Fin 4 → Nat :=
  let c0_i32_28 : BitVec 32 := 0#32
  let c1_i32_29 : BitVec 32 := 1#32
  let arg20 : BitVec 32 := Scf.iv c0_i32_28 c1_i32_29 k0_t1
  let c1_i32_37 : BitVec 32 := 1#32
  let v46 : BitVec 32 := Scalar.addi arg20 c1_i32_37
  let c3_i32_38 : BitVec 32 := 3#32
  let v47 : BitVec 32 := Scalar.remsi v46 c3_i32_38
  let c0_i32_134 : BitVec 32 := 0#32
  let c0_i32_135 : BitVec 32 := 0#32
  let c0_i32_136 : BitVec 32 := 0#32
  ![v47.toNat, 0, 0, 0]
def k0_off5 (k0_t1 : Fin k0_t1_loop.trips) : Fin 4 → Nat :=
  let c0_i32_28 : BitVec 32 := 0#32
  let c1_i32_29 : BitVec 32 := 1#32
  let arg20 : BitVec 32 := Scf.iv c0_i32_28 c1_i32_29 k0_t1
  let c3_i32 : BitVec 32 := 3#32
  let v45 : BitVec 32 := Scalar.remsi arg20 c3_i32
  let c0_i32_137 : BitVec 32 := 0#32
  let c0_i32_138 : BitVec 32 := 0#32
  let c0_i32_139 : BitVec 32 := 0#32
  ![v45.toNat, 0, 0, 0]
def k0_dev3 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_132 : BitVec 32 := 1#32
  let v137 : BitVec 32 := Scalar.muli v4 c1_i32_132
  let v138 : BitVec 32 := Scalar.addi c0_i32_133 v137
  v138.toNat
def k0_cond4 (k0_t1 : Fin k0_t1_loop.trips) : BitVec 1 :=
  let c0_i32_28 : BitVec 32 := 0#32
  let c1_i32_29 : BitVec 32 := 1#32
  let arg20 : BitVec 32 := Scf.iv c0_i32_28 c1_i32_29 k0_t1
  let c0_i32_46 : BitVec 32 := 0#32
  let v57 : BitVec 1 := Scalar.cmpi .eq arg20 c0_i32_46
  let v58 : BitVec 32 := Scalar.extui v57
  let c0_i32_47 : BitVec 32 := 0#32
  let v59 : BitVec 1 := Scalar.cmpi .ne v58 c0_i32_47
  v59

def k0_dev4 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_134 : BitVec 32 := 1#32
  let v134 : BitVec 32 := Scalar.muli v7 c1_i32_134
  let v135 : BitVec 32 := Scalar.addi c0_i32_135 v134
  v135.toNat
def k0_off6 (k0_t1 : Fin k0_t1_loop.trips) : Fin 4 → Nat :=
  let c0_i32_28 : BitVec 32 := 0#32
  let c1_i32_29 : BitVec 32 := 1#32
  let arg20 : BitVec 32 := Scf.iv c0_i32_28 c1_i32_29 k0_t1
  let c3_i32 : BitVec 32 := 3#32
  let v45 : BitVec 32 := Scalar.remsi arg20 c3_i32
  let v63 : Index := Scalar.indexCast v45
  let c0_50 : Index := 0#32
  let c0_51 : Index := 0#32
  let c0_52 : Index := 0#32
  ![v63.toNat, 0, 0, 0]
def k0_off7 (k0_t1 : Fin k0_t1_loop.trips) : Fin 4 → Nat :=
  let c0_i32_28 : BitVec 32 := 0#32
  let c1_i32_29 : BitVec 32 := 1#32
  let arg20 : BitVec 32 := Scf.iv c0_i32_28 c1_i32_29 k0_t1
  let c3_i32 : BitVec 32 := 3#32
  let v45 : BitVec 32 := Scalar.remsi arg20 c3_i32
  let v66 : Index := Scalar.indexCast v45
  let c1_53 : Index := 1#32
  let c0_54 : Index := 0#32
  let c0_55 : Index := 0#32
  ![v66.toNat, 1, 0, 0]
def k0_off8 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_63 : BitVec 32 := 0#32
  let c8_i32_48 : BitVec 32 := 8#32
  let v60 : BitVec 32 := Scalar.addi v2 c8_i32_48
  let c0_i32_28 : BitVec 32 := 0#32
  let c1_i32_29 : BitVec 32 := 1#32
  let arg20 : BitVec 32 := Scf.iv c0_i32_28 c1_i32_29 k0_t1
  let v61 : BitVec 32 := Scalar.subi v60 arg20
  let c8_i32_49 : BitVec 32 := 8#32
  let v62 : BitVec 32 := Scalar.remsi v61 c8_i32_49
  let c8_i32_56 : BitVec 32 := 8#32
  let v69 : BitVec 32 := Scalar.muli v62 c8_i32_56
  let c0_i32_64 : BitVec 32 := 0#32
  ![v2.toNat, 0, v69.toNat, 0]
def k0_off9 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let c8_i32_48 : BitVec 32 := 8#32
  let v60 : BitVec 32 := Scalar.addi v2 c8_i32_48
  let c0_i32_28 : BitVec 32 := 0#32
  let c1_i32_29 : BitVec 32 := 1#32
  let arg20 : BitVec 32 := Scf.iv c0_i32_28 c1_i32_29 k0_t1
  let v61 : BitVec 32 := Scalar.subi v60 arg20
  let c8_i32_49 : BitVec 32 := 8#32
  let v62 : BitVec 32 := Scalar.remsi v61 c8_i32_49
  let c8_i32_74 : BitVec 32 := 8#32
  let v83 : BitVec 32 := Scalar.muli v62 c8_i32_74
  let c0_i32_80 : BitVec 32 := 0#32
  ![v2.toNat, 256, v83.toNat, 0]
def k0_off10 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let c8_i32_48 : BitVec 32 := 8#32
  let v60 : BitVec 32 := Scalar.addi v2 c8_i32_48
  let c0_i32_28 : BitVec 32 := 0#32
  let c1_i32_29 : BitVec 32 := 1#32
  let arg20 : BitVec 32 := Scf.iv c0_i32_28 c1_i32_29 k0_t1
  let v61 : BitVec 32 := Scalar.subi v60 arg20
  let c8_i32_49 : BitVec 32 := 8#32
  let v62 : BitVec 32 := Scalar.remsi v61 c8_i32_49
  let c8_i32_90 : BitVec 32 := 8#32
  let v97 : BitVec 32 := Scalar.muli v62 c8_i32_90
  let c0_i32_96 : BitVec 32 := 0#32
  ![v2.toNat, 512, v97.toNat, 0]
def k0_off11 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c768_i32 : BitVec 32 := 768#32
  let c8_i32_48 : BitVec 32 := 8#32
  let v60 : BitVec 32 := Scalar.addi v2 c8_i32_48
  let c0_i32_28 : BitVec 32 := 0#32
  let c1_i32_29 : BitVec 32 := 1#32
  let arg20 : BitVec 32 := Scf.iv c0_i32_28 c1_i32_29 k0_t1
  let v61 : BitVec 32 := Scalar.subi v60 arg20
  let c8_i32_49 : BitVec 32 := 8#32
  let v62 : BitVec 32 := Scalar.remsi v61 c8_i32_49
  let c8_i32_106 : BitVec 32 := 8#32
  let v111 : BitVec 32 := Scalar.muli v62 c8_i32_106
  let c0_i32_112 : BitVec 32 := 0#32
  ![v2.toNat, 768, v111.toNat, 0]
@[reducible] def k0_t2_loop : Scf.Loop 32 :=
  let c0_i32_122 : BitVec 32 := 0#32
  let c4_i32 : BitVec 32 := 4#32
  let v125 : BitVec 32 := Scalar.addi c0_i32_122 c4_i32
  let c1_i32_123 : BitVec 32 := 1#32
  ⟨c0_i32_122, v125, c1_i32_123⟩
def k0_cond5 (k0_t2 : Fin k0_t2_loop.trips) : BitVec 1 :=
  let c0_i32_122 : BitVec 32 := 0#32
  let c1_i32_123 : BitVec 32 := 1#32
  let arg21 : BitVec 32 := Scf.iv c0_i32_122 c1_i32_123 k0_t2
  let c3_i32_131 : BitVec 32 := 3#32
  let v135 : BitVec 1 := Scalar.cmpi .slt arg21 c3_i32_131
  let v136 : BitVec 32 := Scalar.extui v135
  let c0_i32_132 : BitVec 32 := 0#32
  let v137 : BitVec 1 := Scalar.cmpi .ne v136 c0_i32_132
  v137

def k0_off12 (k0_t2 : Fin k0_t2_loop.trips) : Fin 2 → Nat :=
  let c0_i32_122 : BitVec 32 := 0#32
  let c1_i32_123 : BitVec 32 := 1#32
  let arg21 : BitVec 32 := Scf.iv c0_i32_122 c1_i32_123 k0_t2
  let c1_i32_218 : BitVec 32 := 1#32
  let v251 : BitVec 32 := Scalar.addi arg21 c1_i32_218
  let c2_i32_219 : BitVec 32 := 2#32
  let v252 : BitVec 32 := Scalar.remsi v251 c2_i32_219
  let c0_i32_223 : BitVec 32 := 0#32
  ![v252.toNat, 0]
def k0_off13 (k0_t2 : Fin k0_t2_loop.trips) : Fin 4 → Nat :=
  let c0_i32_122 : BitVec 32 := 0#32
  let c1_i32_123 : BitVec 32 := 1#32
  let arg21 : BitVec 32 := Scf.iv c0_i32_122 c1_i32_123 k0_t2
  let c1_i32_218 : BitVec 32 := 1#32
  let v251 : BitVec 32 := Scalar.addi arg21 c1_i32_218
  let c2_i32_219 : BitVec 32 := 2#32
  let v252 : BitVec 32 := Scalar.remsi v251 c2_i32_219
  let c0_i32_224 : BitVec 32 := 0#32
  let c0_i32_225 : BitVec 32 := 0#32
  let c0_i32_226 : BitVec 32 := 0#32
  ![v252.toNat, 0, 0, 0]
def k0_off14 (d0 : Dev nD) (k0_t1 : Fin k0_t1_loop.trips) (k0_t2 : Fin k0_t2_loop.trips) (c0_i32_220 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_122 : BitVec 32 := 0#32
  let c1_i32_123 : BitVec 32 := 1#32
  let arg21 : BitVec 32 := Scf.iv c0_i32_122 c1_i32_123 k0_t2
  let c1_i32_217 : BitVec 32 := 1#32
  let v250 : BitVec 32 := Scalar.addi arg21 c1_i32_217
  let v253 : BitVec 32 := Scalar.addi v250 c0_i32_220
  let c64_i32_221 : BitVec 32 := 64#32
  let v254 : BitVec 32 := Scalar.muli v253 c64_i32_221
  let c8_i32_48 : BitVec 32 := 8#32
  let v60 : BitVec 32 := Scalar.addi v2 c8_i32_48
  let c0_i32_28 : BitVec 32 := 0#32
  let c1_i32_29 : BitVec 32 := 1#32
  let arg20 : BitVec 32 := Scf.iv c0_i32_28 c1_i32_29 k0_t1
  let v61 : BitVec 32 := Scalar.subi v60 arg20
  let c8_i32_49 : BitVec 32 := 8#32
  let v62 : BitVec 32 := Scalar.remsi v61 c8_i32_49
  let c8_i32_222 : BitVec 32 := 8#32
  let v255 : BitVec 32 := Scalar.muli v62 c8_i32_222
  let c0_i32_227 : BitVec 32 := 0#32
  ![v2.toNat, v254.toNat, v255.toNat, 0]
def k0_off15 (k0_t2 : Fin k0_t2_loop.trips) : Fin 2 → Nat :=
  let c0_i32_122 : BitVec 32 := 0#32
  let c1_i32_123 : BitVec 32 := 1#32
  let arg21 : BitVec 32 := Scf.iv c0_i32_122 c1_i32_123 k0_t2
  let c1_i32_218 : BitVec 32 := 1#32
  let v251 : BitVec 32 := Scalar.addi arg21 c1_i32_218
  let c2_i32_219 : BitVec 32 := 2#32
  let v252 : BitVec 32 := Scalar.remsi v251 c2_i32_219
  let c1_i32_239 : BitVec 32 := 1#32
  ![v252.toNat, 1]
def k0_off16 (k0_t2 : Fin k0_t2_loop.trips) : Fin 4 → Nat :=
  let c0_i32_122 : BitVec 32 := 0#32
  let c1_i32_123 : BitVec 32 := 1#32
  let arg21 : BitVec 32 := Scf.iv c0_i32_122 c1_i32_123 k0_t2
  let c1_i32_218 : BitVec 32 := 1#32
  let v251 : BitVec 32 := Scalar.addi arg21 c1_i32_218
  let c2_i32_219 : BitVec 32 := 2#32
  let v252 : BitVec 32 := Scalar.remsi v251 c2_i32_219
  let c64_i32_240 : BitVec 32 := 64#32
  let c0_i32_241 : BitVec 32 := 0#32
  let c0_i32_242 : BitVec 32 := 0#32
  ![v252.toNat, 64, 0, 0]
def k0_off17 (k0_t2 : Fin k0_t2_loop.trips) : Fin 2 → Nat :=
  let c0_i32_122 : BitVec 32 := 0#32
  let c1_i32_123 : BitVec 32 := 1#32
  let arg21 : BitVec 32 := Scf.iv c0_i32_122 c1_i32_123 k0_t2
  let c1_i32_218 : BitVec 32 := 1#32
  let v251 : BitVec 32 := Scalar.addi arg21 c1_i32_218
  let c2_i32_219 : BitVec 32 := 2#32
  let v252 : BitVec 32 := Scalar.remsi v251 c2_i32_219
  let c2_i32_255 : BitVec 32 := 2#32
  ![v252.toNat, 2]
def k0_off18 (k0_t2 : Fin k0_t2_loop.trips) : Fin 4 → Nat :=
  let c0_i32_122 : BitVec 32 := 0#32
  let c1_i32_123 : BitVec 32 := 1#32
  let arg21 : BitVec 32 := Scf.iv c0_i32_122 c1_i32_123 k0_t2
  let c1_i32_218 : BitVec 32 := 1#32
  let v251 : BitVec 32 := Scalar.addi arg21 c1_i32_218
  let c2_i32_219 : BitVec 32 := 2#32
  let v252 : BitVec 32 := Scalar.remsi v251 c2_i32_219
  let c128_i32_256 : BitVec 32 := 128#32
  let c0_i32_257 : BitVec 32 := 0#32
  let c0_i32_258 : BitVec 32 := 0#32
  ![v252.toNat, 128, 0, 0]
def k0_off19 (k0_t2 : Fin k0_t2_loop.trips) : Fin 2 → Nat :=
  let c0_i32_122 : BitVec 32 := 0#32
  let c1_i32_123 : BitVec 32 := 1#32
  let arg21 : BitVec 32 := Scf.iv c0_i32_122 c1_i32_123 k0_t2
  let c1_i32_218 : BitVec 32 := 1#32
  let v251 : BitVec 32 := Scalar.addi arg21 c1_i32_218
  let c2_i32_219 : BitVec 32 := 2#32
  let v252 : BitVec 32 := Scalar.remsi v251 c2_i32_219
  let c3_i32_271 : BitVec 32 := 3#32
  ![v252.toNat, 3]
def k0_off20 (k0_t2 : Fin k0_t2_loop.trips) : Fin 4 → Nat :=
  let c0_i32_122 : BitVec 32 := 0#32
  let c1_i32_123 : BitVec 32 := 1#32
  let arg21 : BitVec 32 := Scf.iv c0_i32_122 c1_i32_123 k0_t2
  let c1_i32_218 : BitVec 32 := 1#32
  let v251 : BitVec 32 := Scalar.addi arg21 c1_i32_218
  let c2_i32_219 : BitVec 32 := 2#32
  let v252 : BitVec 32 := Scalar.remsi v251 c2_i32_219
  let c192_i32_272 : BitVec 32 := 192#32
  let c0_i32_273 : BitVec 32 := 0#32
  let c0_i32_274 : BitVec 32 := 0#32
  ![v252.toNat, 192, 0, 0]
def k0_off21 (k0_t2 : Fin k0_t2_loop.trips) : Fin 2 → Nat :=
  let c0_i32_122 : BitVec 32 := 0#32
  let c1_i32_123 : BitVec 32 := 1#32
  let arg21 : BitVec 32 := Scf.iv c0_i32_122 c1_i32_123 k0_t2
  let c2_i32_130 : BitVec 32 := 2#32
  let v134 : BitVec 32 := Scalar.remsi arg21 c2_i32_130
  let c0_i32_136 : BitVec 32 := 0#32
  ![v134.toNat, 0]
def k0_off22 (k0_t2 : Fin k0_t2_loop.trips) : Fin 4 → Nat :=
  let c0_i32_122 : BitVec 32 := 0#32
  let c1_i32_123 : BitVec 32 := 1#32
  let arg21 : BitVec 32 := Scf.iv c0_i32_122 c1_i32_123 k0_t2
  let c2_i32_130 : BitVec 32 := 2#32
  let v134 : BitVec 32 := Scalar.remsi arg21 c2_i32_130
  let c0_i32_137 : BitVec 32 := 0#32
  let c0_i32_138 : BitVec 32 := 0#32
  let c0_i32_139 : BitVec 32 := 0#32
  ![v134.toNat, 0, 0, 0]
def k0_off23 (d0 : Dev nD) (k0_t1 : Fin k0_t1_loop.trips) (k0_t2 : Fin k0_t2_loop.trips) (c0_i32_133 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_122 : BitVec 32 := 0#32
  let c1_i32_123 : BitVec 32 := 1#32
  let arg21 : BitVec 32 := Scf.iv c0_i32_122 c1_i32_123 k0_t2
  let v138 : BitVec 32 := Scalar.addi arg21 c0_i32_133
  let c64_i32_134 : BitVec 32 := 64#32
  let v139 : BitVec 32 := Scalar.muli v138 c64_i32_134
  let c8_i32_48 : BitVec 32 := 8#32
  let v60 : BitVec 32 := Scalar.addi v2 c8_i32_48
  let c0_i32_28 : BitVec 32 := 0#32
  let c1_i32_29 : BitVec 32 := 1#32
  let arg20 : BitVec 32 := Scf.iv c0_i32_28 c1_i32_29 k0_t1
  let v61 : BitVec 32 := Scalar.subi v60 arg20
  let c8_i32_49 : BitVec 32 := 8#32
  let v62 : BitVec 32 := Scalar.remsi v61 c8_i32_49
  let c8_i32_135 : BitVec 32 := 8#32
  let v140 : BitVec 32 := Scalar.muli v62 c8_i32_135
  let c0_i32_140 : BitVec 32 := 0#32
  ![v2.toNat, v139.toNat, v140.toNat, 0]
def k0_off24 (k0_t2 : Fin k0_t2_loop.trips) : Fin 2 → Nat :=
  let c0_i32_122 : BitVec 32 := 0#32
  let c1_i32_123 : BitVec 32 := 1#32
  let arg21 : BitVec 32 := Scf.iv c0_i32_122 c1_i32_123 k0_t2
  let c2_i32_130 : BitVec 32 := 2#32
  let v134 : BitVec 32 := Scalar.remsi arg21 c2_i32_130
  let c1_i32_152 : BitVec 32 := 1#32
  ![v134.toNat, 1]
def k0_off25 (k0_t2 : Fin k0_t2_loop.trips) : Fin 4 → Nat :=
  let c0_i32_122 : BitVec 32 := 0#32
  let c1_i32_123 : BitVec 32 := 1#32
  let arg21 : BitVec 32 := Scf.iv c0_i32_122 c1_i32_123 k0_t2
  let c2_i32_130 : BitVec 32 := 2#32
  let v134 : BitVec 32 := Scalar.remsi arg21 c2_i32_130
  let c64_i32_153 : BitVec 32 := 64#32
  let c0_i32_154 : BitVec 32 := 0#32
  let c0_i32_155 : BitVec 32 := 0#32
  ![v134.toNat, 64, 0, 0]
def k0_off26 (k0_t2 : Fin k0_t2_loop.trips) : Fin 2 → Nat :=
  let c0_i32_122 : BitVec 32 := 0#32
  let c1_i32_123 : BitVec 32 := 1#32
  let arg21 : BitVec 32 := Scf.iv c0_i32_122 c1_i32_123 k0_t2
  let c2_i32_130 : BitVec 32 := 2#32
  let v134 : BitVec 32 := Scalar.remsi arg21 c2_i32_130
  let c2_i32_168 : BitVec 32 := 2#32
  ![v134.toNat, 2]
def k0_off27 (k0_t2 : Fin k0_t2_loop.trips) : Fin 4 → Nat :=
  let c0_i32_122 : BitVec 32 := 0#32
  let c1_i32_123 : BitVec 32 := 1#32
  let arg21 : BitVec 32 := Scf.iv c0_i32_122 c1_i32_123 k0_t2
  let c2_i32_130 : BitVec 32 := 2#32
  let v134 : BitVec 32 := Scalar.remsi arg21 c2_i32_130
  let c128_i32_169 : BitVec 32 := 128#32
  let c0_i32_170 : BitVec 32 := 0#32
  let c0_i32_171 : BitVec 32 := 0#32
  ![v134.toNat, 128, 0, 0]
def k0_off28 (k0_t2 : Fin k0_t2_loop.trips) : Fin 2 → Nat :=
  let c0_i32_122 : BitVec 32 := 0#32
  let c1_i32_123 : BitVec 32 := 1#32
  let arg21 : BitVec 32 := Scf.iv c0_i32_122 c1_i32_123 k0_t2
  let c2_i32_130 : BitVec 32 := 2#32
  let v134 : BitVec 32 := Scalar.remsi arg21 c2_i32_130
  let c3_i32_183 : BitVec 32 := 3#32
  ![v134.toNat, 3]
def k0_off29 (k0_t2 : Fin k0_t2_loop.trips) : Fin 4 → Nat :=
  let c0_i32_122 : BitVec 32 := 0#32
  let c1_i32_123 : BitVec 32 := 1#32
  let arg21 : BitVec 32 := Scf.iv c0_i32_122 c1_i32_123 k0_t2
  let c2_i32_130 : BitVec 32 := 2#32
  let v134 : BitVec 32 := Scalar.remsi arg21 c2_i32_130
  let c192_i32_184 : BitVec 32 := 192#32
  let c0_i32_185 : BitVec 32 := 0#32
  let c0_i32_186 : BitVec 32 := 0#32
  ![v134.toNat, 192, 0, 0]
def k0_off30 (k0_t2 : Fin k0_t2_loop.trips) : Fin 2 → Nat :=
  let c0_i32_122 : BitVec 32 := 0#32
  let c1_i32_123 : BitVec 32 := 1#32
  let arg21 : BitVec 32 := Scf.iv c0_i32_122 c1_i32_123 k0_t2
  let c256_i32_196 : BitVec 32 := 256#32
  let v210 : BitVec 32 := Scalar.muli arg21 c256_i32_196
  let v211 : Index := Scalar.indexCast v210
  let c0_197 : Index := 0#32
  ![v211.toNat, 0]
def k0_off31 (k0_t2 : Fin k0_t2_loop.trips) : Fin 4 → Nat :=
  let c0_i32_122 : BitVec 32 := 0#32
  let c1_i32_123 : BitVec 32 := 1#32
  let arg21 : BitVec 32 := Scf.iv c0_i32_122 c1_i32_123 k0_t2
  let c2_i32_130 : BitVec 32 := 2#32
  let v134 : BitVec 32 := Scalar.remsi arg21 c2_i32_130
  let v218 : Index := Scalar.indexCast v134
  let c0_200 : Index := 0#32
  let c0_201 : Index := 0#32
  let c0_202 : Index := 0#32
  ![v218.toNat, 0, 0, 0]
def k0_off32 (k0_t2 : Fin k0_t2_loop.trips) : Fin 3 → Nat :=
  let c0_212 : Index := 0#32
  let c0_i32_122 : BitVec 32 := 0#32
  let c1_i32_123 : BitVec 32 := 1#32
  let arg21 : BitVec 32 := Scf.iv c0_i32_122 c1_i32_123 k0_t2
  let c256_i32_211 : BitVec 32 := 256#32
  let v240 : BitVec 32 := Scalar.muli arg21 c256_i32_211
  let v241 : Index := Scalar.indexCast v240
  let c0_213 : Index := 0#32
  ![0, v241.toNat, 0]
def k0_cond6 (k0_t1 : Fin k0_t1_loop.trips) : BitVec 1 :=
  let c0_i32_28 : BitVec 32 := 0#32
  let c1_i32_29 : BitVec 32 := 1#32
  let arg20 : BitVec 32 := Scf.iv c0_i32_28 c1_i32_29 k0_t1
  let c1_i32_125 : BitVec 32 := 1#32
  let v126 : BitVec 1 := Scalar.cmpi .sge arg20 c1_i32_125
  let c3_i32_126 : BitVec 32 := 3#32
  let v127 : BitVec 1 := Scalar.cmpi .sle arg20 c3_i32_126
  let v128 : BitVec 1 := Scalar.andi v126 v127
  let v129 : BitVec 32 := Scalar.extui v128
  let c0_i32_127 : BitVec 32 := 0#32
  let v130 : BitVec 1 := Scalar.cmpi .ne v129 c0_i32_127
  v130

def k0_off33 (k0_t1 : Fin k0_t1_loop.trips) : Fin 1 → Nat :=
  let c0_i32_28 : BitVec 32 := 0#32
  let c1_i32_29 : BitVec 32 := 1#32
  let arg20 : BitVec 32 := Scf.iv c0_i32_28 c1_i32_29 k0_t1
  let c1_i32_131 : BitVec 32 := 1#32
  let v135 : BitVec 32 := Scalar.subi arg20 c1_i32_131
  ![v135.toNat]
def k0_off34 (k0_t1 : Fin k0_t1_loop.trips) : Fin 4 → Nat :=
  let c0_i32_28 : BitVec 32 := 0#32
  let c1_i32_29 : BitVec 32 := 1#32
  let arg20 : BitVec 32 := Scf.iv c0_i32_28 c1_i32_29 k0_t1
  let c3_i32 : BitVec 32 := 3#32
  let v45 : BitVec 32 := Scalar.remsi arg20 c3_i32
  let c0_i32_134 : BitVec 32 := 0#32
  let c0_i32_135 : BitVec 32 := 0#32
  let c0_i32_136 : BitVec 32 := 0#32
  ![v45.toNat, 0, 0, 0]
def k0_cond7 (k0_t1 : Fin k0_t1_loop.trips) : BitVec 1 :=
  let c0_i32_28 : BitVec 32 := 0#32
  let c1_i32_29 : BitVec 32 := 1#32
  let arg20 : BitVec 32 := Scf.iv c0_i32_28 c1_i32_29 k0_t1
  let c2_i32_140 : BitVec 32 := 2#32
  let v144 : BitVec 1 := Scalar.cmpi .sle arg20 c2_i32_140
  let v145 : BitVec 32 := Scalar.extui v144
  let c0_i32_141 : BitVec 32 := 0#32
  let v146 : BitVec 1 := Scalar.cmpi .ne v145 c0_i32_141
  v146

def k0_off35 (k0_t1 : Fin k0_t1_loop.trips) : Fin 1 → Nat :=
  let c0_i32_28 : BitVec 32 := 0#32
  let c1_i32_29 : BitVec 32 := 1#32
  let arg20 : BitVec 32 := Scf.iv c0_i32_28 c1_i32_29 k0_t1
  ![arg20.toNat]
def k0_off36 (k0_t1 : Fin k0_t1_loop.trips) : Fin 4 → Nat :=
  let c0_i32_28 : BitVec 32 := 0#32
  let c1_i32_29 : BitVec 32 := 1#32
  let arg20 : BitVec 32 := Scf.iv c0_i32_28 c1_i32_29 k0_t1
  let c1_i32_37 : BitVec 32 := 1#32
  let v46 : BitVec 32 := Scalar.addi arg20 c1_i32_37
  let c3_i32_38 : BitVec 32 := 3#32
  let v47 : BitVec 32 := Scalar.remsi v46 c3_i32_38
  let c0_i32_227 : BitVec 32 := 0#32
  let c0_i32_228 : BitVec 32 := 0#32
  let c0_i32_229 : BitVec 32 := 0#32
  ![v47.toNat, 0, 0, 0]
def k0_off37 (k0_t1 : Fin k0_t1_loop.trips) : Fin 4 → Nat :=
  let c0_i32_28 : BitVec 32 := 0#32
  let c1_i32_29 : BitVec 32 := 1#32
  let arg20 : BitVec 32 := Scf.iv c0_i32_28 c1_i32_29 k0_t1
  let c3_i32 : BitVec 32 := 3#32
  let v45 : BitVec 32 := Scalar.remsi arg20 c3_i32
  let c0_i32_230 : BitVec 32 := 0#32
  let c0_i32_231 : BitVec 32 := 0#32
  let c0_i32_232 : BitVec 32 := 0#32
  ![v45.toNat, 0, 0, 0]
def k0_dev5 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_225 : BitVec 32 := 1#32
  let v212 : BitVec 32 := Scalar.muli v7 c1_i32_225
  let v213 : BitVec 32 := Scalar.addi c0_i32_226 v212
  v213.toNat
def k0_off38 (k0_t1 : Fin k0_t1_loop.trips) : Fin 4 → Nat :=
  let c0_i32_28 : BitVec 32 := 0#32
  let c1_i32_29 : BitVec 32 := 1#32
  let arg20 : BitVec 32 := Scf.iv c0_i32_28 c1_i32_29 k0_t1
  let c3_i32 : BitVec 32 := 3#32
  let v45 : BitVec 32 := Scalar.remsi arg20 c3_i32
  let v149 : Index := Scalar.indexCast v45
  let c0_143 : Index := 0#32
  let c0_144 : Index := 0#32
  let c0_145 : Index := 0#32
  ![v149.toNat, 0, 0, 0]
def k0_off39 (k0_t1 : Fin k0_t1_loop.trips) : Fin 4 → Nat :=
  let c0_i32_28 : BitVec 32 := 0#32
  let c1_i32_29 : BitVec 32 := 1#32
  let arg20 : BitVec 32 := Scf.iv c0_i32_28 c1_i32_29 k0_t1
  let c3_i32 : BitVec 32 := 3#32
  let v45 : BitVec 32 := Scalar.remsi arg20 c3_i32
  let v152 : Index := Scalar.indexCast v45
  let c1_146 : Index := 1#32
  let c0_147 : Index := 0#32
  let c0_148 : Index := 0#32
  ![v152.toNat, 1, 0, 0]
def k0_off40 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_156 : BitVec 32 := 0#32
  let c0_i32_28 : BitVec 32 := 0#32
  let c1_i32_29 : BitVec 32 := 1#32
  let arg20 : BitVec 32 := Scf.iv c0_i32_28 c1_i32_29 k0_t1
  let v147 : BitVec 32 := Scalar.addi v2 arg20
  let c8_i32_142 : BitVec 32 := 8#32
  let v148 : BitVec 32 := Scalar.remsi v147 c8_i32_142
  let c8_i32_149 : BitVec 32 := 8#32
  let v155 : BitVec 32 := Scalar.muli v148 c8_i32_149
  let c0_i32_157 : BitVec 32 := 0#32
  ![v2.toNat, 0, v155.toNat, 0]
def k0_off41 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_174 : BitVec 32 := 256#32
  let c0_i32_28 : BitVec 32 := 0#32
  let c1_i32_29 : BitVec 32 := 1#32
  let arg20 : BitVec 32 := Scf.iv c0_i32_28 c1_i32_29 k0_t1
  let v147 : BitVec 32 := Scalar.addi v2 arg20
  let c8_i32_142 : BitVec 32 := 8#32
  let v148 : BitVec 32 := Scalar.remsi v147 c8_i32_142
  let c8_i32_167 : BitVec 32 := 8#32
  let v169 : BitVec 32 := Scalar.muli v148 c8_i32_167
  let c0_i32_175 : BitVec 32 := 0#32
  ![v2.toNat, 256, v169.toNat, 0]
def k0_off42 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_192 : BitVec 32 := 512#32
  let c0_i32_28 : BitVec 32 := 0#32
  let c1_i32_29 : BitVec 32 := 1#32
  let arg20 : BitVec 32 := Scf.iv c0_i32_28 c1_i32_29 k0_t1
  let v147 : BitVec 32 := Scalar.addi v2 arg20
  let c8_i32_142 : BitVec 32 := 8#32
  let v148 : BitVec 32 := Scalar.remsi v147 c8_i32_142
  let c8_i32_185 : BitVec 32 := 8#32
  let v183 : BitVec 32 := Scalar.muli v148 c8_i32_185
  let c0_i32_193 : BitVec 32 := 0#32
  ![v2.toNat, 512, v183.toNat, 0]
def k0_off43 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c768_i32_210 : BitVec 32 := 768#32
  let c0_i32_28 : BitVec 32 := 0#32
  let c1_i32_29 : BitVec 32 := 1#32
  let arg20 : BitVec 32 := Scf.iv c0_i32_28 c1_i32_29 k0_t1
  let v147 : BitVec 32 := Scalar.addi v2 arg20
  let c8_i32_142 : BitVec 32 := 8#32
  let v148 : BitVec 32 := Scalar.remsi v147 c8_i32_142
  let c8_i32_203 : BitVec 32 := 8#32
  let v197 : BitVec 32 := Scalar.muli v148 c8_i32_203
  let c0_i32_211 : BitVec 32 := 0#32
  ![v2.toNat, 768, v197.toNat, 0]
@[reducible] def k0_t3_loop : Scf.Loop 32 :=
  let c0_i32_221 : BitVec 32 := 0#32
  let c4_i32_222 : BitVec 32 := 4#32
  let v211 : BitVec 32 := Scalar.addi c0_i32_221 c4_i32_222
  let c1_i32_223 : BitVec 32 := 1#32
  ⟨c0_i32_221, v211, c1_i32_223⟩
def k0_cond8 (k0_t3 : Fin k0_t3_loop.trips) : BitVec 1 :=
  let c0_i32_221 : BitVec 32 := 0#32
  let c1_i32_223 : BitVec 32 := 1#32
  let arg21 : BitVec 32 := Scf.iv c0_i32_221 c1_i32_223 k0_t3
  let c3_i32_226 : BitVec 32 := 3#32
  let v213 : BitVec 1 := Scalar.cmpi .slt arg21 c3_i32_226
  let v214 : BitVec 32 := Scalar.extui v213
  let c0_i32_227 : BitVec 32 := 0#32
  let v215 : BitVec 1 := Scalar.cmpi .ne v214 c0_i32_227
  v215

def k0_off44 (k0_t3 : Fin k0_t3_loop.trips) : Fin 2 → Nat :=
  let c0_i32_221 : BitVec 32 := 0#32
  let c1_i32_223 : BitVec 32 := 1#32
  let arg21 : BitVec 32 := Scf.iv c0_i32_221 c1_i32_223 k0_t3
  let c1_i32_313 : BitVec 32 := 1#32
  let v329 : BitVec 32 := Scalar.addi arg21 c1_i32_313
  let c2_i32_314 : BitVec 32 := 2#32
  let v330 : BitVec 32 := Scalar.remsi v329 c2_i32_314
  let c0_i32_318 : BitVec 32 := 0#32
  ![v330.toNat, 0]
def k0_off45 (k0_t3 : Fin k0_t3_loop.trips) : Fin 4 → Nat :=
  let c0_i32_221 : BitVec 32 := 0#32
  let c1_i32_223 : BitVec 32 := 1#32
  let arg21 : BitVec 32 := Scf.iv c0_i32_221 c1_i32_223 k0_t3
  let c1_i32_313 : BitVec 32 := 1#32
  let v329 : BitVec 32 := Scalar.addi arg21 c1_i32_313
  let c2_i32_314 : BitVec 32 := 2#32
  let v330 : BitVec 32 := Scalar.remsi v329 c2_i32_314
  let c0_i32_319 : BitVec 32 := 0#32
  let c0_i32_320 : BitVec 32 := 0#32
  let c0_i32_321 : BitVec 32 := 0#32
  ![v330.toNat, 0, 0, 0]
def k0_off46 (d0 : Dev nD) (k0_t1 : Fin k0_t1_loop.trips) (k0_t3 : Fin k0_t3_loop.trips) (c0_i32_315 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_221 : BitVec 32 := 0#32
  let c1_i32_223 : BitVec 32 := 1#32
  let arg21 : BitVec 32 := Scf.iv c0_i32_221 c1_i32_223 k0_t3
  let c1_i32_312 : BitVec 32 := 1#32
  let v328 : BitVec 32 := Scalar.addi arg21 c1_i32_312
  let v331 : BitVec 32 := Scalar.addi v328 c0_i32_315
  let c64_i32_316 : BitVec 32 := 64#32
  let v332 : BitVec 32 := Scalar.muli v331 c64_i32_316
  let c0_i32_28 : BitVec 32 := 0#32
  let c1_i32_29 : BitVec 32 := 1#32
  let arg20 : BitVec 32 := Scf.iv c0_i32_28 c1_i32_29 k0_t1
  let v147 : BitVec 32 := Scalar.addi v2 arg20
  let c8_i32_142 : BitVec 32 := 8#32
  let v148 : BitVec 32 := Scalar.remsi v147 c8_i32_142
  let c8_i32_317 : BitVec 32 := 8#32
  let v333 : BitVec 32 := Scalar.muli v148 c8_i32_317
  let c0_i32_322 : BitVec 32 := 0#32
  ![v2.toNat, v332.toNat, v333.toNat, 0]
def k0_off47 (k0_t3 : Fin k0_t3_loop.trips) : Fin 2 → Nat :=
  let c0_i32_221 : BitVec 32 := 0#32
  let c1_i32_223 : BitVec 32 := 1#32
  let arg21 : BitVec 32 := Scf.iv c0_i32_221 c1_i32_223 k0_t3
  let c1_i32_313 : BitVec 32 := 1#32
  let v329 : BitVec 32 := Scalar.addi arg21 c1_i32_313
  let c2_i32_314 : BitVec 32 := 2#32
  let v330 : BitVec 32 := Scalar.remsi v329 c2_i32_314
  let c1_i32_334 : BitVec 32 := 1#32
  ![v330.toNat, 1]
def k0_off48 (k0_t3 : Fin k0_t3_loop.trips) : Fin 4 → Nat :=
  let c0_i32_221 : BitVec 32 := 0#32
  let c1_i32_223 : BitVec 32 := 1#32
  let arg21 : BitVec 32 := Scf.iv c0_i32_221 c1_i32_223 k0_t3
  let c1_i32_313 : BitVec 32 := 1#32
  let v329 : BitVec 32 := Scalar.addi arg21 c1_i32_313
  let c2_i32_314 : BitVec 32 := 2#32
  let v330 : BitVec 32 := Scalar.remsi v329 c2_i32_314
  let c64_i32_335 : BitVec 32 := 64#32
  let c0_i32_336 : BitVec 32 := 0#32
  let c0_i32_337 : BitVec 32 := 0#32
  ![v330.toNat, 64, 0, 0]
def k0_off49 (k0_t3 : Fin k0_t3_loop.trips) : Fin 2 → Nat :=
  let c0_i32_221 : BitVec 32 := 0#32
  let c1_i32_223 : BitVec 32 := 1#32
  let arg21 : BitVec 32 := Scf.iv c0_i32_221 c1_i32_223 k0_t3
  let c1_i32_313 : BitVec 32 := 1#32
  let v329 : BitVec 32 := Scalar.addi arg21 c1_i32_313
  let c2_i32_314 : BitVec 32 := 2#32
  let v330 : BitVec 32 := Scalar.remsi v329 c2_i32_314
  let c2_i32_350 : BitVec 32 := 2#32
  ![v330.toNat, 2]
def k0_off50 (k0_t3 : Fin k0_t3_loop.trips) : Fin 4 → Nat :=
  let c0_i32_221 : BitVec 32 := 0#32
  let c1_i32_223 : BitVec 32 := 1#32
  let arg21 : BitVec 32 := Scf.iv c0_i32_221 c1_i32_223 k0_t3
  let c1_i32_313 : BitVec 32 := 1#32
  let v329 : BitVec 32 := Scalar.addi arg21 c1_i32_313
  let c2_i32_314 : BitVec 32 := 2#32
  let v330 : BitVec 32 := Scalar.remsi v329 c2_i32_314
  let c128_i32_351 : BitVec 32 := 128#32
  let c0_i32_352 : BitVec 32 := 0#32
  let c0_i32_353 : BitVec 32 := 0#32
  ![v330.toNat, 128, 0, 0]
def k0_off51 (k0_t3 : Fin k0_t3_loop.trips) : Fin 2 → Nat :=
  let c0_i32_221 : BitVec 32 := 0#32
  let c1_i32_223 : BitVec 32 := 1#32
  let arg21 : BitVec 32 := Scf.iv c0_i32_221 c1_i32_223 k0_t3
  let c1_i32_313 : BitVec 32 := 1#32
  let v329 : BitVec 32 := Scalar.addi arg21 c1_i32_313
  let c2_i32_314 : BitVec 32 := 2#32
  let v330 : BitVec 32 := Scalar.remsi v329 c2_i32_314
  let c3_i32_366 : BitVec 32 := 3#32
  ![v330.toNat, 3]
def k0_off52 (k0_t3 : Fin k0_t3_loop.trips) : Fin 4 → Nat :=
  let c0_i32_221 : BitVec 32 := 0#32
  let c1_i32_223 : BitVec 32 := 1#32
  let arg21 : BitVec 32 := Scf.iv c0_i32_221 c1_i32_223 k0_t3
  let c1_i32_313 : BitVec 32 := 1#32
  let v329 : BitVec 32 := Scalar.addi arg21 c1_i32_313
  let c2_i32_314 : BitVec 32 := 2#32
  let v330 : BitVec 32 := Scalar.remsi v329 c2_i32_314
  let c192_i32_367 : BitVec 32 := 192#32
  let c0_i32_368 : BitVec 32 := 0#32
  let c0_i32_369 : BitVec 32 := 0#32
  ![v330.toNat, 192, 0, 0]
def k0_off53 (k0_t3 : Fin k0_t3_loop.trips) : Fin 2 → Nat :=
  let c0_i32_221 : BitVec 32 := 0#32
  let c1_i32_223 : BitVec 32 := 1#32
  let arg21 : BitVec 32 := Scf.iv c0_i32_221 c1_i32_223 k0_t3
  let c2_i32_225 : BitVec 32 := 2#32
  let v212 : BitVec 32 := Scalar.remsi arg21 c2_i32_225
  let c0_i32_231 : BitVec 32 := 0#32
  ![v212.toNat, 0]
def k0_off54 (k0_t3 : Fin k0_t3_loop.trips) : Fin 4 → Nat :=
  let c0_i32_221 : BitVec 32 := 0#32
  let c1_i32_223 : BitVec 32 := 1#32
  let arg21 : BitVec 32 := Scf.iv c0_i32_221 c1_i32_223 k0_t3
  let c2_i32_225 : BitVec 32 := 2#32
  let v212 : BitVec 32 := Scalar.remsi arg21 c2_i32_225
  let c0_i32_232 : BitVec 32 := 0#32
  let c0_i32_233 : BitVec 32 := 0#32
  let c0_i32_234 : BitVec 32 := 0#32
  ![v212.toNat, 0, 0, 0]
def k0_off55 (d0 : Dev nD) (k0_t1 : Fin k0_t1_loop.trips) (k0_t3 : Fin k0_t3_loop.trips) (c0_i32_228 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_221 : BitVec 32 := 0#32
  let c1_i32_223 : BitVec 32 := 1#32
  let arg21 : BitVec 32 := Scf.iv c0_i32_221 c1_i32_223 k0_t3
  let v216 : BitVec 32 := Scalar.addi arg21 c0_i32_228
  let c64_i32_229 : BitVec 32 := 64#32
  let v217 : BitVec 32 := Scalar.muli v216 c64_i32_229
  let c0_i32_28 : BitVec 32 := 0#32
  let c1_i32_29 : BitVec 32 := 1#32
  let arg20 : BitVec 32 := Scf.iv c0_i32_28 c1_i32_29 k0_t1
  let v147 : BitVec 32 := Scalar.addi v2 arg20
  let c8_i32_142 : BitVec 32 := 8#32
  let v148 : BitVec 32 := Scalar.remsi v147 c8_i32_142
  let c8_i32_230 : BitVec 32 := 8#32
  let v218 : BitVec 32 := Scalar.muli v148 c8_i32_230
  let c0_i32_235 : BitVec 32 := 0#32
  ![v2.toNat, v217.toNat, v218.toNat, 0]
def k0_off56 (k0_t3 : Fin k0_t3_loop.trips) : Fin 2 → Nat :=
  let c0_i32_221 : BitVec 32 := 0#32
  let c1_i32_223 : BitVec 32 := 1#32
  let arg21 : BitVec 32 := Scf.iv c0_i32_221 c1_i32_223 k0_t3
  let c2_i32_225 : BitVec 32 := 2#32
  let v212 : BitVec 32 := Scalar.remsi arg21 c2_i32_225
  let c1_i32_247 : BitVec 32 := 1#32
  ![v212.toNat, 1]
def k0_off57 (k0_t3 : Fin k0_t3_loop.trips) : Fin 4 → Nat :=
  let c0_i32_221 : BitVec 32 := 0#32
  let c1_i32_223 : BitVec 32 := 1#32
  let arg21 : BitVec 32 := Scf.iv c0_i32_221 c1_i32_223 k0_t3
  let c2_i32_225 : BitVec 32 := 2#32
  let v212 : BitVec 32 := Scalar.remsi arg21 c2_i32_225
  let c64_i32_248 : BitVec 32 := 64#32
  let c0_i32_249 : BitVec 32 := 0#32
  let c0_i32_250 : BitVec 32 := 0#32
  ![v212.toNat, 64, 0, 0]
def k0_off58 (k0_t3 : Fin k0_t3_loop.trips) : Fin 2 → Nat :=
  let c0_i32_221 : BitVec 32 := 0#32
  let c1_i32_223 : BitVec 32 := 1#32
  let arg21 : BitVec 32 := Scf.iv c0_i32_221 c1_i32_223 k0_t3
  let c2_i32_225 : BitVec 32 := 2#32
  let v212 : BitVec 32 := Scalar.remsi arg21 c2_i32_225
  let c2_i32_263 : BitVec 32 := 2#32
  ![v212.toNat, 2]
def k0_off59 (k0_t3 : Fin k0_t3_loop.trips) : Fin 4 → Nat :=
  let c0_i32_221 : BitVec 32 := 0#32
  let c1_i32_223 : BitVec 32 := 1#32
  let arg21 : BitVec 32 := Scf.iv c0_i32_221 c1_i32_223 k0_t3
  let c2_i32_225 : BitVec 32 := 2#32
  let v212 : BitVec 32 := Scalar.remsi arg21 c2_i32_225
  let c128_i32_264 : BitVec 32 := 128#32
  let c0_i32_265 : BitVec 32 := 0#32
  let c0_i32_266 : BitVec 32 := 0#32
  ![v212.toNat, 128, 0, 0]
def k0_off60 (k0_t3 : Fin k0_t3_loop.trips) : Fin 2 → Nat :=
  let c0_i32_221 : BitVec 32 := 0#32
  let c1_i32_223 : BitVec 32 := 1#32
  let arg21 : BitVec 32 := Scf.iv c0_i32_221 c1_i32_223 k0_t3
  let c2_i32_225 : BitVec 32 := 2#32
  let v212 : BitVec 32 := Scalar.remsi arg21 c2_i32_225
  let c3_i32_278 : BitVec 32 := 3#32
  ![v212.toNat, 3]
def k0_off61 (k0_t3 : Fin k0_t3_loop.trips) : Fin 4 → Nat :=
  let c0_i32_221 : BitVec 32 := 0#32
  let c1_i32_223 : BitVec 32 := 1#32
  let arg21 : BitVec 32 := Scf.iv c0_i32_221 c1_i32_223 k0_t3
  let c2_i32_225 : BitVec 32 := 2#32
  let v212 : BitVec 32 := Scalar.remsi arg21 c2_i32_225
  let c192_i32_279 : BitVec 32 := 192#32
  let c0_i32_280 : BitVec 32 := 0#32
  let c0_i32_281 : BitVec 32 := 0#32
  ![v212.toNat, 192, 0, 0]
def k0_off62 (k0_t3 : Fin k0_t3_loop.trips) : Fin 2 → Nat :=
  let c0_i32_221 : BitVec 32 := 0#32
  let c1_i32_223 : BitVec 32 := 1#32
  let arg21 : BitVec 32 := Scf.iv c0_i32_221 c1_i32_223 k0_t3
  let c256_i32_291 : BitVec 32 := 256#32
  let v288 : BitVec 32 := Scalar.muli arg21 c256_i32_291
  let v289 : Index := Scalar.indexCast v288
  let c0_292 : Index := 0#32
  ![v289.toNat, 0]
def k0_off63 (k0_t3 : Fin k0_t3_loop.trips) : Fin 4 → Nat :=
  let c0_i32_221 : BitVec 32 := 0#32
  let c1_i32_223 : BitVec 32 := 1#32
  let arg21 : BitVec 32 := Scf.iv c0_i32_221 c1_i32_223 k0_t3
  let c2_i32_225 : BitVec 32 := 2#32
  let v212 : BitVec 32 := Scalar.remsi arg21 c2_i32_225
  let v296 : Index := Scalar.indexCast v212
  let c0_295 : Index := 0#32
  let c0_296 : Index := 0#32
  let c0_297 : Index := 0#32
  ![v296.toNat, 0, 0, 0]
def k0_off64 (k0_t3 : Fin k0_t3_loop.trips) : Fin 3 → Nat :=
  let c0_307 : Index := 0#32
  let c0_i32_221 : BitVec 32 := 0#32
  let c1_i32_223 : BitVec 32 := 1#32
  let arg21 : BitVec 32 := Scf.iv c0_i32_221 c1_i32_223 k0_t3
  let c256_i32_306 : BitVec 32 := 256#32
  let v318 : BitVec 32 := Scalar.muli arg21 c256_i32_306
  let v319 : Index := Scalar.indexCast v318
  let c0_308 : Index := 0#32
  ![0, v319.toNat, 0]
def k0_cond9 (k0_t1 : Fin k0_t1_loop.trips) : BitVec 1 :=
  let c0_i32_28 : BitVec 32 := 0#32
  let c1_i32_29 : BitVec 32 := 1#32
  let arg20 : BitVec 32 := Scf.iv c0_i32_28 c1_i32_29 k0_t1
  let c1_i32_128 : BitVec 32 := 1#32
  let v131 : BitVec 1 := Scalar.cmpi .sge arg20 c1_i32_128
  let v132 : BitVec 32 := Scalar.extui v131
  let c0_i32_129 : BitVec 32 := 0#32
  let v133 : BitVec 1 := Scalar.cmpi .ne v132 c0_i32_129
  v133

def k0_off65 (k0_t1 : Fin k0_t1_loop.trips) : Fin 1 → Nat :=
  let c0_i32_28 : BitVec 32 := 0#32
  let c1_i32_29 : BitVec 32 := 1#32
  let arg20 : BitVec 32 := Scf.iv c0_i32_28 c1_i32_29 k0_t1
  let c1_i32_130 : BitVec 32 := 1#32
  let v134 : BitVec 32 := Scalar.subi arg20 c1_i32_130
  ![v134.toNat]
def k0_off66 (k0_t1 : Fin k0_t1_loop.trips) : Fin 4 → Nat :=
  let c0_i32_28 : BitVec 32 := 0#32
  let c1_i32_29 : BitVec 32 := 1#32
  let arg20 : BitVec 32 := Scf.iv c0_i32_28 c1_i32_29 k0_t1
  let c3_i32_39 : BitVec 32 := 3#32
  let v48 : BitVec 32 := Scalar.addi arg20 c3_i32_39
  let c1_i32_40 : BitVec 32 := 1#32
  let v49 : BitVec 32 := Scalar.subi v48 c1_i32_40
  let c3_i32_41 : BitVec 32 := 3#32
  let v50 : BitVec 32 := Scalar.remsi v49 c3_i32_41
  let c0_i32_132 : BitVec 32 := 0#32
  let c0_i32_133 : BitVec 32 := 0#32
  let c0_i32_134 : BitVec 32 := 0#32
  ![v50.toNat, 0, 0, 0]
def k0_off67 (k0_t1 : Fin k0_t1_loop.trips) : Fin 4 → Nat :=
  let c0_i32_28 : BitVec 32 := 0#32
  let c1_i32_29 : BitVec 32 := 1#32
  let arg20 : BitVec 32 := Scf.iv c0_i32_28 c1_i32_29 k0_t1
  let c3_i32 : BitVec 32 := 3#32
  let v45 : BitVec 32 := Scalar.remsi arg20 c3_i32
  let c0_i32_135 : BitVec 32 := 0#32
  let c0_i32_136 : BitVec 32 := 0#32
  let c0_i32_137 : BitVec 32 := 0#32
  ![v45.toNat, 0, 0, 0]
def k0_cond10 (k0_t1 : Fin k0_t1_loop.trips) : BitVec 1 :=
  let c0_i32_28 : BitVec 32 := 0#32
  let c1_i32_29 : BitVec 32 := 1#32
  let arg20 : BitVec 32 := Scf.iv c0_i32_28 c1_i32_29 k0_t1
  let c3_i32_138 : BitVec 32 := 3#32
  let v141 : BitVec 1 := Scalar.cmpi .sle arg20 c3_i32_138
  let v142 : BitVec 32 := Scalar.extui v141
  let c0_i32_139 : BitVec 32 := 0#32
  let v143 : BitVec 1 := Scalar.cmpi .ne v142 c0_i32_139
  v143

def k0_off68 (k0_t1 : Fin k0_t1_loop.trips) : Fin 1 → Nat :=
  let c0_i32_28 : BitVec 32 := 0#32
  let c1_i32_29 : BitVec 32 := 1#32
  let arg20 : BitVec 32 := Scf.iv c0_i32_28 c1_i32_29 k0_t1
  let c1_i32_142 : BitVec 32 := 1#32
  let v147 : BitVec 32 := Scalar.subi arg20 c1_i32_142
  ![v147.toNat]
def k0_off69 (k0_t1 : Fin k0_t1_loop.trips) : Fin 4 → Nat :=
  let c0_i32_28 : BitVec 32 := 0#32
  let c1_i32_29 : BitVec 32 := 1#32
  let arg20 : BitVec 32 := Scf.iv c0_i32_28 c1_i32_29 k0_t1
  let c3_i32 : BitVec 32 := 3#32
  let v45 : BitVec 32 := Scalar.remsi arg20 c3_i32
  let c0_i32_148 : BitVec 32 := 0#32
  let c0_i32_149 : BitVec 32 := 0#32
  let c0_i32_150 : BitVec 32 := 0#32
  ![v45.toNat, 0, 0, 0]
def k0_cond11 (k0_t1 : Fin k0_t1_loop.trips) : BitVec 1 :=
  let c0_i32_28 : BitVec 32 := 0#32
  let c1_i32_29 : BitVec 32 := 1#32
  let arg20 : BitVec 32 := Scf.iv c0_i32_28 c1_i32_29 k0_t1
  let c2_i32_140 : BitVec 32 := 2#32
  let v144 : BitVec 1 := Scalar.cmpi .sle arg20 c2_i32_140
  let v145 : BitVec 32 := Scalar.extui v144
  let c0_i32_141 : BitVec 32 := 0#32
  let v146 : BitVec 1 := Scalar.cmpi .ne v145 c0_i32_141
  v146

def k0_dev6 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_143 : BitVec 32 := 1#32
  let v147 : BitVec 32 := Scalar.muli v7 c1_i32_143
  let v148 : BitVec 32 := Scalar.addi c0_i32_144 v147
  v148.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x1024x1024 : Shape := ⟨3, ![8, 1024, 1024]⟩
abbrev S1024x8192 : Shape := ⟨2, ![1024, 8192]⟩
abbrev S8x1024x64x128 : Shape := ⟨4, ![8, 1024, 64, 128]⟩
abbrev S8192x1024 : Shape := ⟨2, ![8192, 1024]⟩
abbrev S8x1024x8192 : Shape := ⟨3, ![8, 1024, 8192]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S8x64x1024x1024 : Shape := ⟨4, ![8, 64, 1024, 1024]⟩
abbrev S1x1x1024x1024 : Shape := ⟨4, ![1, 1, 1024, 1024]⟩
abbrev S8x64x1024 : Shape := ⟨3, ![8, 64, 1024]⟩
abbrev S8x64x1024x1 : Shape := ⟨4, ![8, 64, 1024, 1]⟩
abbrev S1x1x1024x1 : Shape := ⟨4, ![1, 1, 1024, 1]⟩
abbrev S8x64x128x1024 : Shape := ⟨4, ![8, 64, 128, 1024]⟩

abbrev nBuf : Space → Nat
  | .hbm => 137
  | .vmem => 0
  | .smem => 0
  | _ => 0

abbrev hbmTy0_0 (i : Nat) : BufTy := match i % 128 with
  | 0 => ⟨S8x1024x1024, .f32⟩
  | 1 => ⟨S1024x8192, .f32⟩
  | 2 => ⟨S8x1024x64x128, .f32⟩
  | 3 => ⟨S8x1024x64x128, .f32⟩
  | 4 => ⟨S8192x1024, .f32⟩
  | 5 => ⟨S8x1024x8192, .f32⟩
  | 6 => ⟨S8x1024x64x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S1024, .i32⟩
  | 28 => ⟨S_, .i32⟩
  | 29 => ⟨S_, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i1⟩
  | 36 => ⟨S1024, .i32⟩
  | 37 => ⟨S1024, .i32⟩
  | 38 => ⟨S_, .i32⟩
  | 39 => ⟨S1024, .i32⟩
  | 40 => ⟨S1024, .i1⟩
  | 41 => ⟨S1024, .i1⟩
  | 42 => ⟨S_, .i32⟩
  | 43 => ⟨S1024, .i32⟩
  | 44 => ⟨S1024, .i32⟩
  | 45 => ⟨S1024, .i32⟩
  | 46 => ⟨S1x1024, .i32⟩
  | 47 => ⟨S1024x1024, .i32⟩
  | 48 => ⟨S1024x1024, .i32⟩
  | 49 => ⟨S1024x1024, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x1024, .i32⟩
  | 57 => ⟨S1x1024, .i32⟩
  | 58 => ⟨S_, .i32⟩
  | 59 => ⟨S1x1024, .i32⟩
  | 60 => ⟨S1x1024, .i1⟩
  | 61 => ⟨S_, .i32⟩
  | 62 => ⟨S1x1024, .i32⟩
  | 63 => ⟨S1x1024, .i1⟩
  | 64 => ⟨S_, .i32⟩
  | 65 => ⟨S_, .i1⟩
  | 66 => ⟨S1x1024, .i1⟩
  | 67 => ⟨S1x1024, .i1⟩
  | 68 => ⟨S1x1024, .i1⟩
  | 69 => ⟨S1x1024, .i32⟩
  | 70 => ⟨S1x1024, .i32⟩
  | 71 => ⟨S1x1024, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x1024, .i32⟩
  | 95 => ⟨S1024x1024, .i32⟩
  | 96 => ⟨S1024x1024, .i1⟩
  | 97 => ⟨S1024x1024, .i1⟩
  | 98 => ⟨S8x64x1024x1024, .f32⟩
  | 99 => ⟨S_, .f32⟩
  | 100 => ⟨S8x64x1024x1024, .f32⟩
  | 101 => ⟨S8x64x1024x1024, .f32⟩
  | 102 => ⟨S1x1x1024x1024, .i1⟩
  | 103 => ⟨S_, .f32⟩
  | 104 => ⟨S_, .f32⟩
  | 105 => ⟨S8x64x1024x1024, .i1⟩
  | 106 => ⟨S8x64x1024x1024, .f32⟩
  | 107 => ⟨S8x64x1024x1024, .f32⟩
  | 108 => ⟨S_, .f32⟩
  | 109 => ⟨S8x64x1024, .f32⟩
  | 110 => ⟨S8x64x1024x1, .f32⟩
  | 111 => ⟨S8x64x1024x1024, .f32⟩
  | 112 => ⟨S8x64x1024x1024, .f32⟩
  | 113 => ⟨S8x64x1024x1024, .f32⟩
  | 114 => ⟨S_, .i1⟩
  | 115 => ⟨S1024, .i1⟩
  | 116 => ⟨S1x1x1024x1, .i1⟩
  | 117 => ⟨S_, .f32⟩
  | 118 => ⟨S8x64x1024, .f32⟩
  | 119 => ⟨S8x64x1024x1, .f32⟩
  | 120 => ⟨S_, .f32⟩
  | 121 => ⟨S_, .f32⟩
  | 122 => ⟨S8x64x1024x1, .i1⟩
  | 123 => ⟨S8x64x1024x1, .f32⟩
  | 124 => ⟨S8x64x1024x1, .f32⟩
  | 125 => ⟨S8x64x1024x1024, .f32⟩
  | 126 => ⟨S8x64x1024x1024, .f32⟩
  | 127 => ⟨S1x1x1024x1, .i1⟩
  | _ => ⟨S8x1024x1024, .f32⟩

abbrev hbmTy0_1 (i : Nat) : BufTy := match i % 128 with
  | 0 => ⟨S_, .f32⟩
  | 1 => ⟨S_, .f32⟩
  | 2 => ⟨S8x64x1024x1024, .i1⟩
  | 3 => ⟨S8x64x1024x1024, .f32⟩
  | 4 => ⟨S8x64x1024x1024, .f32⟩
  | 5 => ⟨S8x64x128x1024, .f32⟩
  | 6 => ⟨S8x1024x64x128, .f32⟩
  | 7 => ⟨S8x1024x8192, .f32⟩
  | 8 => ⟨S8x1024x1024, .f32⟩
  | _ => ⟨S8x1024x1024, .f32⟩

abbrev hbmTy (i : Nat) : BufTy := match i / 128 with
  | 0 => hbmTy0_0 i
  | 1 => hbmTy0_1 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Names.lean ====
/-
The names that the proof gives to the kernel's buffers, ring slots, pieces and semaphores, and the
resource algebra it works in.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the ring's cells (duty names `Bool`), -/
abbrev UB : Type := URounds (GSem nD τ sig) Bool
/-- the two ring slots that each device gives back to its left neighbour, -/
abbrev UK : Type := Release.USlots (Dev nD × Fin 2)
/-- and the whole: the pipeline's rounds, the ring's, the slots given back, the local copies. -/
abbrev UU : Type := UR sig nD τ × (UB × (UK × Counters))

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := Emb.inl.trans embR
abbrev EK : Emb UK (MT nD τ sig ℕ (Elt F) ℕ UU ℕ) := (Emb.inl.trans Emb.inr).trans embR
abbrev EC : UEmb Counters (MT nD τ sig ℕ (Elt F) ℕ UU ℕ) := countersEmb

abbrev 𝒱₀ : Variants := Variants.none

abbrev tc (c : Dev nD) : Thread nD τ := (c : Thread nD τ)

/-! ## Pieces of the key and value buffers -/

abbrev mK : Memref sig .tc .hbm S8x1024x64x128 .f32 := Memref.whole main_arg2
abbrev mV : Memref sig .tc .hbm S8x1024x64x128 .f32 := Memref.whole main_arg3
abbrev bK : Memref sig .tc .vmem S2x256x8x128 .f32 := Memref.whole cc0_scratch4
abbrev bV : Memref sig .tc .vmem S2x256x8x128 .f32 := Memref.whole cc0_scratch5

theorem piece_inb (j : Fin 2) (b : Fin 4) :
    ∀ a, (![j.val, 64 * b.val, 0, 0] : Fin 4 → Nat) a + S1x64x8x128.size a ≤ S2x256x8x128.size a := by
  revert j b; decide +kernel

theorem half_inb (j : Fin 2) :
    ∀ a, (![j.val, 0, 0, 0] : Fin 4 → Nat) a + S1x256x8x128.size a ≤ S2x256x8x128.size a := by
  revert j; decide +kernel

theorem src_inb (c : Dev nD) (u : Fin 8) (g b : Fin 4) :
    ∀ a, (![c.val, 64 * g.val + 256 * b.val, 8 * u.val, 0] : Fin 4 → Nat) a + S1x64x8x128.size a ≤ S8x1024x64x128.size a := by
  revert c u g b; decide +kernel

theorem ksem_inb (j : Fin 2) (b : Fin 4) :
    ∀ a, (![j.val, b.val] : Fin 2 → Nat) a + S1x1.size a ≤ S2x4.size a := by
  revert j b; decide +kernel

/-- Rows `64 b … 64 b + 63` of half `j` of a staging buffer. -/
abbrev piece (M : Memref sig .tc .vmem S2x256x8x128 .f32) (j : Fin 2) (b : Fin 4) : Memref sig .tc .vmem S64x8x128 .f32 :=
  (M.slice (Rect.unit (s := S2x256x8x128) ![j.val, 64 * b.val, 0, 0] S1x64x8x128.size (piece_inb j b)) (fun _ => rfl)).squeeze
    S64x8x128 squeezes_S1x64x8x128_S64x8x128

/-- Device `c`'s keys (or values) for head group `u`, group `g`, block `b`. -/
abbrev srcP (M : Memref sig .tc .hbm S8x1024x64x128 .f32) (c : Dev nD) (u : Fin 8) (g b : Fin 4) : Memref sig .tc .hbm S64x8x128 .f32 :=
  (M.slice (Rect.unit (s := S8x1024x64x128) ![c.val, 64 * g.val + 256 * b.val, 8 * u.val, 0] S1x64x8x128.size (src_inb c u g b)) (fun _ => rfl)).squeeze
    S64x8x128 squeezes_S1x64x8x128_S64x8x128

/-- Cell `(j, b)` of a two by four array of DMA semaphores. -/
abbrev pSem (A : DmaSems sig S2x4) (j : Fin 2) (b : Fin 4) : DmaSem sig :=
  ((A.slice (Rect.unit (s := S2x4) ![j.val, b.val] S1x1.size (ksem_inb j b))).squeeze S_ squeezes_S1x1_S_).sem

/-! ## Ring slots -/

theorem slot_inb (s : Fin 3) :
    ∀ a, (![s.val, 0, 0, 0] : Fin 4 → Nat) a + S1x2x1024x1024.size a ≤ S3x2x1024x1024.size a := by
  revert s; decide +kernel

abbrev mR : Memref sig .tc .vmem S3x2x1024x1024 .bf16 := Memref.whole cc0_scratch0
abbrev mL : Memref sig .tc .vmem S3x2x1024x1024 .bf16 := Memref.whole cc0_scratch1

/-- Slot `s` of a ring buffer. -/
abbrev slotM (M : Memref sig .tc .vmem S3x2x1024x1024 .bf16) (s : Fin 3) : Memref sig .tc .vmem S2x1024x1024 .bf16 :=
  (M.slice (Rect.unit (s := S3x2x1024x1024) ![s.val, 0, 0, 0] S1x2x1024x1024.size (slot_inb s)) (fun _ => rfl)).squeeze
    S2x1024x1024 squeezes_S1x2x1024x1024_S2x1024x1024

end Cert.RingProof
-- ==== Proof.Fetch.lean ====
/-
The copies of the keys and values: a piece at rest, in flight and landed, and the two steps between them.
-/
module

public import proofs.«01_k».proof.Proof.Names
public import Idealize.ShloMosaic.Lib.ValueIdxCore

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig ℕ (Elt F) ℕ UU ℕ

/-- What the device owes, whatever it has waited for. -/
def Ow (c : Dev nD) (O : CellTallies nD τ sig ℕ) : sProp 𝕄 := iprop(∃ W, owes (tc c) O W)

/-- Piece `(j, b)`'s share of the keys and of the values. -/
def shKV (j : Fin 2) (b : Fin 4) : PosShare TreeShare :=
  Transfers.shareTok fullShare 8 ⟨4 * j.val + b.val, by omega⟩

/-- The element of the keys (or values) that lands at element `i` of a staging half. -/
def landIdx (c : Dev nD) (u : Fin 8) (g : Fin 4) (i : S2x256x8x128.Idx) : S8x1024x64x128.Idx :=
  ix4 (⟨c.val, c.isLt⟩ : Fin 8)
    (⟨64 * g.val + 256 * ((i 1).val / 64) + (i 1).val % 64, by
      have := (i 1).isLt; have : (i 1).val < 256 := this; omega⟩ : Fin 1024)
    (⟨8 * u.val + (i 2).val, by have : (i 2).val < 8 := (i 2).isLt; omega⟩ : Fin 64)
    (⟨(i 3).val, (i 3).isLt⟩ : Fin 128)

theorem landIdx_piece (c : Dev nD) (u : Fin 8) (j : Fin 2) (g b : Fin 4) (x : S64x8x128.Idx) :
    (Rect.unit (s := S8x1024x64x128) ![c.val, 64 * g.val + 256 * b.val, 8 * u.val, 0] S1x64x8x128.size (src_inb c u g b)).emb
        (Shape.reshapeEquiv squeezes_S1x64x8x128_S64x8x128.numel_eq x)
      = landIdx c u g
      ((Rect.unit (s := S2x256x8x128) ![j.val, 64 * b.val, 0, 0] S1x64x8x128.size (piece_inb j b)).emb
        (Shape.reshapeEquiv squeezes_S1x64x8x128_S64x8x128.numel_eq x)) := by
  have h0 : (x 0).val < 64 := (x 0).isLt
  rw [Shape.reshapeEquiv_cons_one]
  funext a
  apply Fin.ext
  fin_cases a
  · show c.val + 1 * 0 = c.val
    omega
  · show (64 * g.val + 256 * b.val) + 1 * (x 0).val
      = 64 * g.val + 256 * ((64 * b.val + 1 * (x 0).val) / 64) + (64 * b.val + 1 * (x 0).val) % 64
    omega
  · show 8 * u.val + 1 * (x 1).val = 8 * u.val + (0 + 1 * (x 1).val)
    omega
  · show 0 + 1 * (x 2).val = 0 + 1 * (x 2).val
    rfl

/-! ## The keys' pieces -/

/-- What one piece's copy counts. -/
abbrev NPK : ℕ := (piece bK 0 0).view.dmaCredit

/-- What a half of the keys' buffer holds once group `g` of head group `u` has landed (its other half is not read). -/
def cK (m : (ℓ : Loc nD τ sig) → Buf (Elt F) ℓ) (c : Dev nD) (u : Fin 8) (g : Fin 4) : Buf (Elt F) (bK.view.loc (tc c)) :=
  fun i => (m (mK.view.loc (tc c)) : S8x1024x64x128.Idx → Elt F .f32)
    (landIdx c u g (i : S2x256x8x128.Idx))

/-- A piece at rest: its elements, its cell's counter at zero, and its share of the keys. -/
def IdleK (m : (ℓ : Loc nD τ sig) → Buf (Elt F) ℓ) (c : Dev nD) (j : Fin 2) (b : Fin 4) : sProp 𝕄 :=
  iprop((∃ f, (piece bK j b).view.loc (tc c) ↦[(piece bK j b).view.set]{fullShare} f)
    ∗ semVal (tc c, .dma (pSem cc0_scratch11 j b)) 0
    ∗ (mK.view.loc (tc c) ↦[Finset.univ]{shKV j b} m (mK.view.loc (tc c))))

/-- The piece landed. -/
def LandK (m : (ℓ : Loc nD τ sig) → Buf (Elt F) ℓ) (c : Dev nD) (u : Fin 8) (j : Fin 2) (g b : Fin 4) : sProp 𝕄 :=
  iprop(((piece bK j b).view.loc (tc c) ↦[(piece bK j b).view.set]{fullShare} cK m c u g)
    ∗ semVal (tc c, .dma (pSem cc0_scratch11 j b)) 0
    ∗ (mK.view.loc (tc c) ↦[Finset.univ]{shKV j b} m (mK.view.loc (tc c))))

/-- The piece in flight. -/
def FlyK (m : (ℓ : Loc nD τ sig) → Buf (Elt F) ℓ) (c : Dev nD) (u : Fin 8) (j : Fin 2) (g b : Fin 4) : sProp 𝕄 :=
  iprop(Transfers.Flight EC (tc c) (.dma (pSem cc0_scratch11 j b)) 0 NPK
      iprop(((piece bK j b).view.loc (tc c) ↦[(piece bK j b).view.set]{fullShare} cK m c u g)
        ∗ ((srcP mK c u g b).view.loc (tc c) ↦[(srcP mK c u g b).view.set]{shKV j b} m (mK.view.loc (tc c))))
    ∗ (mK.view.loc (tc c) ↦[Finset.univ \ (srcP mK c u g b).view.set]{shKV j b} m (mK.view.loc (tc c))))

theorem landK_idle {m c u j g b} : LandK (F := F) m c u j g b ⊢ IdleK m c j b := by
  unfold LandK IdleK
  iintro ⟨H, Hs⟩
  isplitl [H]; · iexists _; iexact H
  iexact Hs

theorem cK_agree (m : (ℓ : Loc nD τ sig) → Buf (Elt F) ℓ) (c : Dev nD) (u : Fin 8) (j : Fin 2) (g b : Fin 4)
    (fd : Buf (Elt F) (bK.view.loc (tc c))) :
    ∀ i ∈ (piece bK j b).view.set,
      (piece bK j b).view.write (Elt F) fd ((srcP mK c u g b).view.read (Elt F) (m (mK.view.loc (tc c)))) Finset.univ i
        = cK m c u g i := by
  intro i hi
  obtain ⟨x, -, rfl⟩ := Finset.mem_map.mp hi
  rw [View.write_emb_of_mem _ _ (Finset.mem_univ x)]
  show (m (mK.view.loc (tc c)) : S8x1024x64x128.Idx → Elt F .f32)
      ((Rect.unit (s := S8x1024x64x128) ![c.val, 64 * g.val + 256 * b.val, 8 * u.val, 0] S1x64x8x128.size (src_inb c u g b)).emb
        (Shape.reshapeEquiv squeezes_S1x64x8x128_S64x8x128.numel_eq x)) =
    (m (mK.view.loc (tc c)) : S8x1024x64x128.Idx → Elt F .f32) (landIdx c u g
      ((Rect.unit (s := S2x256x8x128) ![j.val, 64 * b.val, 0, 0] S1x64x8x128.size (piece_inb j b)).emb
        (Shape.reshapeEquiv squeezes_S1x64x8x128_S64x8x128.numel_eq x)))
  rw [landIdx_piece]

/-- Start a piece's copy. -/
theorem issueK {oS : Fin 4 → Nat} {oD : Fin 4 → Nat} {oQ : Fin 2 → Nat}
    (m : (ℓ : Loc nD τ sig) → Buf (Elt F) ℓ) (c : Dev nD) (u : Fin 8) (j : Fin 2) (g b : Fin 4)
    (hS : oS = ![c.val, 64 * g.val + 256 * b.val, 8 * u.val, 0]) (hD : oD = ![j.val, 64 * b.val, 0, 0]) (hQ : oQ = ![j.val, b.val])
    {pS : ∀ a, oS a + S1x64x8x128.size a ≤ S8x1024x64x128.size a} {pD : ∀ a, oD a + S1x64x8x128.size a ≤ S2x256x8x128.size a}
    {pQ : ∀ a, oQ a + S1x1.size a ≤ S2x4.size a} {h1 h2 h3}
    {α : Type} {k : PUnit → Prog (TpuEff nD τ sig (Elt F) Λ₀ .tc) α} {Q : α → sProp 𝕄} :
    IdleK m c j b ⊢ iprop((FlyK m c u j g b -∗ wp frame (wpE defs₀ 𝒱₀ (tc c) none) Set.univ (k ⟨⟩) Q)
      -∗ wp frame (wpE defs₀ 𝒱₀ (tc c) none) Set.univ
        (.op (.enqueueDma
          ((mK.slice (Rect.unit (s := S8x1024x64x128) oS S1x64x8x128.size pS) (fun _ => rfl)).squeeze S64x8x128 squeezes_S1x64x8x128_S64x8x128)
          (.here ((bK.slice (Rect.unit (s := S2x256x8x128) oD S1x64x8x128.size pD) (fun _ => rfl)).squeeze S64x8x128 squeezes_S1x64x8x128_S64x8x128))
          (.dma ((cc0_scratch11.slice (Rect.unit (s := S2x4) oQ S1x1.size pQ)).squeeze S_ squeezes_S1x1_S_).sem) h1 h2 h3) k) Q) := by
  subst hS hD hQ
  unfold IdleK FlyK
  iintro ⟨⟨%fd, Hd⟩, Hv, Hs⟩ Hk
  ihave Hs := ((pointsTo_split_subset (Finset.subset_univ (srcP mK c u g b).view.set)).1) $$ Hs
  icases Hs with ⟨Hs, Hr⟩
  iapply (Transfers.wp_dmaLocal EC 𝒱₀ (tc c) none (src := srcP mK c u g b) (dst := piece bK j b) (Sd := (piece bK j b).view.set)
    (0 : ℕ) NPK rfl (View.dmaCredit_pos _ (by decide)) (Finset.Subset.refl _)) $$ [Hs Hd Hv]
  · isplitl [Hs]; · iexact Hs
    isplitl [Hd]; · iexact Hd
    iexact Hv
  iintro Hf
  iapply Hk
  isplitl [Hf]
  · iapply (Entails.of_eq (congrArg (fun X => Transfers.Flight EC (tc c) (.dma (pSem cc0_scratch11 j b)) (0 : ℕ) NPK
      iprop(X ∗ ((srcP mK c u g b).view.loc (tc c) ↦[(srcP mK c u g b).view.set]{shKV j b} m (mK.view.loc (tc c)))))
      (pointsTo_congr (cK_agree m c u j g b fd)))) $$ Hf
  iexact Hr

/-- Wait for a piece. -/
theorem waitK {oQ : Fin 2 → Nat}
    (m : (ℓ : Loc nD τ sig) → Buf (Elt F) ℓ) (c : Dev nD) (u : Fin 8) (j : Fin 2) (g b : Fin 4)
    (Lv : sProp 𝕄) {O : CellTallies nD τ sig ℕ} (hmw : ∀ s : DmaSem sig, 16 ≤ s.val → Lv ⊢ MayWait (tc c) (.dma s) 0 O)
    (hQ : oQ = ![j.val, b.val]) {oD : Fin 4 → Nat} {pD : ∀ a, oD a + S1x64x8x128.size a ≤ S2x256x8x128.size a}
    {pQ : ∀ a, oQ a + S1x1.size a ≤ S2x4.size a} {srcw : Memref sig .tc .hbm S64x8x128 .f32} {h1 h2}
    {α : Type} {k : PUnit → Prog (TpuEff nD τ sig (Elt F) Λ₀ .tc) α} {Q : α → sProp 𝕄} :
    iprop(Lv ∗ FlyK m c u j g b ∗ Ow c O)
      ⊢ iprop((iprop(LandK m c u j g b ∗ Ow c O) -∗ wp frame (wpE defs₀ 𝒱₀ (tc c) none) Set.univ (k ⟨⟩) Q)
      -∗ wp frame (wpE defs₀ 𝒱₀ (tc c) none) Set.univ
        (.op (.waitDma2 ((cc0_scratch11.slice (Rect.unit (s := S2x4) oQ S1x1.size pQ)).squeeze S_ squeezes_S1x1_S_).sem
          srcw
          ((bK.slice (Rect.unit (s := S2x256x8x128) oD S1x64x8x128.size pD) (fun _ => rfl)).squeeze S64x8x128 squeezes_S1x64x8x128_S64x8x128)
          h1 h2) k) Q) := by
  subst hQ
  unfold FlyK LandK Ow
  iintro ⟨Hlv, ⟨Hf, Hr⟩, ⟨%W, Ho⟩⟩ Hk
  iapply (Transfers.wp_waitLocalO EC 𝒱₀ (tc c) none (sem := pSem cc0_scratch11 j b) (0 : ℕ) (N := NPK) (srcw := srcw) (hsrc := h1) (hdst := h2)
    (dstw := (bK.slice (Rect.unit (s := S2x256x8x128) oD S1x64x8x128.size pD) (fun _ => rfl)).squeeze S64x8x128 squeezes_S1x64x8x128_S64x8x128) rfl) $$ [Hlv Hf Ho]
  · isplitl [Hf]; · iexact Hf
    isplitl [Ho]; · iexact Ho
    iapply (hmw (pSem cc0_scratch11 j b) (by revert j b; decide +kernel)) $$ Hlv
  iintro ⟨⟨Hd, Hs⟩, Hv, Ho⟩
  iapply Hk
  isplitr [Ho]
  · isplitl [Hd]; · iexact Hd
    isplitl [Hv]; · iexact Hv
    iapply ((pointsTo_split_subset (Finset.subset_univ (srcP mK c u g b).view.set)).2)
    isplitl [Hs]; · iexact Hs
    iexact Hr
  iexists _; iexact Ho

/-! ## The values' pieces -/

/-- What one piece's copy counts. -/
abbrev NPV : ℕ := (piece bV 0 0).view.dmaCredit

/-- What a half of the values' buffer holds once group `g` of head group `u` has landed (its other half is not read). -/
def cV (m : (ℓ : Loc nD τ sig) → Buf (Elt F) ℓ) (c : Dev nD) (u : Fin 8) (g : Fin 4) : Buf (Elt F) (bV.view.loc (tc c)) :=
  fun i => (m (mV.view.loc (tc c)) : S8x1024x64x128.Idx → Elt F .f32)
    (landIdx c u g (i : S2x256x8x128.Idx))

/-- A piece at rest: its elements, its cell's counter at zero, and its share of the values. -/
def IdleV (m : (ℓ : Loc nD τ sig) → Buf (Elt F) ℓ) (c : Dev nD) (j : Fin 2) (b : Fin 4) : sProp 𝕄 :=
  iprop((∃ f, (piece bV j b).view.loc (tc c) ↦[(piece bV j b).view.set]{fullShare} f)
    ∗ semVal (tc c, .dma (pSem cc0_scratch12 j b)) 0
    ∗ (mV.view.loc (tc c) ↦[Finset.univ]{shKV j b} m (mV.view.loc (tc c))))

/-- The piece landed. -/
def LandV (m : (ℓ : Loc nD τ sig) → Buf (Elt F) ℓ) (c : Dev nD) (u : Fin 8) (j : Fin 2) (g b : Fin 4) : sProp 𝕄 :=
  iprop(((piece bV j b).view.loc (tc c) ↦[(piece bV j b).view.set]{fullShare} cV m c u g)
    ∗ semVal (tc c, .dma (pSem cc0_scratch12 j b)) 0
    ∗ (mV.view.loc (tc c) ↦[Finset.univ]{shKV j b} m (mV.view.loc (tc c))))

/-- The piece in flight. -/
def FlyV (m : (ℓ : Loc nD τ sig) → Buf (Elt F) ℓ) (c : Dev nD) (u : Fin 8) (j : Fin 2) (g b : Fin 4) : sProp 𝕄 :=
  iprop(Transfers.Flight EC (tc c) (.dma (pSem cc0_scratch12 j b)) 0 NPV
      iprop(((piece bV j b).view.loc (tc c) ↦[(piece bV j b).view.set]{fullShare} cV m c u g)
        ∗ ((srcP mV c u g b).view.loc (tc c) ↦[(srcP mV c u g b).view.set]{shKV j b} m (mV.view.loc (tc c))))
    ∗ (mV.view.loc (tc c) ↦[Finset.univ \ (srcP mV c u g b).view.set]{shKV j b} m (mV.view.loc (tc c))))

theorem landV_idle {m c u j g b} : LandV (F := F) m c u j g b ⊢ IdleV m c j b := by
  unfold LandV IdleV
  iintro ⟨H, Hs⟩
  isplitl [H]; · iexists _; iexact H
  iexact Hs

theorem cV_agree (m : (ℓ : Loc nD τ sig) → Buf (Elt F) ℓ) (c : Dev nD) (u : Fin 8) (j : Fin 2) (g b : Fin 4)
    (fd : Buf (Elt F) (bV.view.loc (tc c))) :
    ∀ i ∈ (piece bV j b).view.set,
      (piece bV j b).view.write (Elt F) fd ((srcP mV c u g b).view.read (Elt F) (m (mV.view.loc (tc c)))) Finset.univ i
        = cV m c u g i := by
  intro i hi
  obtain ⟨x, -, rfl⟩ := Finset.mem_map.mp hi
  rw [View.write_emb_of_mem _ _ (Finset.mem_univ x)]
  show (m (mV.view.loc (tc c)) : S8x1024x64x128.Idx → Elt F .f32)
      ((Rect.unit (s := S8x1024x64x128) ![c.val, 64 * g.val + 256 * b.val, 8 * u.val, 0] S1x64x8x128.size (src_inb c u g b)).emb
        (Shape.reshapeEquiv squeezes_S1x64x8x128_S64x8x128.numel_eq x)) =
    (m (mV.view.loc (tc c)) : S8x1024x64x128.Idx → Elt F .f32) (landIdx c u g
      ((Rect.unit (s := S2x256x8x128) ![j.val, 64 * b.val, 0, 0] S1x64x8x128.size (piece_inb j b)).emb
        (Shape.reshapeEquiv squeezes_S1x64x8x128_S64x8x128.numel_eq x)))
  rw [landIdx_piece]

/-- Start a piece's copy. -/
theorem issueV {oS : Fin 4 → Nat} {oD : Fin 4 → Nat} {oQ : Fin 2 → Nat}
    (m : (ℓ : Loc nD τ sig) → Buf (Elt F) ℓ) (c : Dev nD) (u : Fin 8) (j : Fin 2) (g b : Fin 4)
    (hS : oS = ![c.val, 64 * g.val + 256 * b.val, 8 * u.val, 0]) (hD : oD = ![j.val, 64 * b.val, 0, 0]) (hQ : oQ = ![j.val, b.val])
    {pS : ∀ a, oS a + S1x64x8x128.size a ≤ S8x1024x64x128.size a} {pD : ∀ a, oD a + S1x64x8x128.size a ≤ S2x256x8x128.size a}
    {pQ : ∀ a, oQ a + S1x1.size a ≤ S2x4.size a} {h1 h2 h3}
    {α : Type} {k : PUnit → Prog (TpuEff nD τ sig (Elt F) Λ₀ .tc) α} {Q : α → sProp 𝕄} :
    IdleV m c j b ⊢ iprop((FlyV m c u j g b -∗ wp frame (wpE defs₀ 𝒱₀ (tc c) none) Set.univ (k ⟨⟩) Q)
      -∗ wp frame (wpE defs₀ 𝒱₀ (tc c) none) Set.univ
        (.op (.enqueueDma
          ((mV.slice (Rect.unit (s := S8x1024x64x128) oS S1x64x8x128.size pS) (fun _ => rfl)).squeeze S64x8x128 squeezes_S1x64x8x128_S64x8x128)
          (.here ((bV.slice (Rect.unit (s := S2x256x8x128) oD S1x64x8x128.size pD) (fun _ => rfl)).squeeze S64x8x128 squeezes_S1x64x8x128_S64x8x128))
          (.dma ((cc0_scratch12.slice (Rect.unit (s := S2x4) oQ S1x1.size pQ)).squeeze S_ squeezes_S1x1_S_).sem) h1 h2 h3) k) Q) := by
  subst hS hD hQ
  unfold IdleV FlyV
  iintro ⟨⟨%fd, Hd⟩, Hv, Hs⟩ Hk
  ihave Hs := ((pointsTo_split_subset (Finset.subset_univ (srcP mV c u g b).view.set)).1) $$ Hs
  icases Hs with ⟨Hs, Hr⟩
  iapply (Transfers.wp_dmaLocal EC 𝒱₀ (tc c) none (src := srcP mV c u g b) (dst := piece bV j b) (Sd := (piece bV j b).view.set)
    (0 : ℕ) NPV rfl (View.dmaCredit_pos _ (by decide)) (Finset.Subset.refl _)) $$ [Hs Hd Hv]
  · isplitl [Hs]; · iexact Hs
    isplitl [Hd]; · iexact Hd
    iexact Hv
  iintro Hf
  iapply Hk
  isplitl [Hf]
  · iapply (Entails.of_eq (congrArg (fun X => Transfers.Flight EC (tc c) (.dma (pSem cc0_scratch12 j b)) (0 : ℕ) NPV
      iprop(X ∗ ((srcP mV c u g b).view.loc (tc c) ↦[(srcP mV c u g b).view.set]{shKV j b} m (mV.view.loc (tc c)))))
      (pointsTo_congr (cV_agree m c u j g b fd)))) $$ Hf
  iexact Hr

/-- Wait for a piece. -/
theorem waitV {oQ : Fin 2 → Nat}
    (m : (ℓ : Loc nD τ sig) → Buf (Elt F) ℓ) (c : Dev nD) (u : Fin 8) (j : Fin 2) (g b : Fin 4)
    (Lv : sProp 𝕄) {O : CellTallies nD τ sig ℕ} (hmw : ∀ s : DmaSem sig, 16 ≤ s.val → Lv ⊢ MayWait (tc c) (.dma s) 0 O)
    (hQ : oQ = ![j.val, b.val]) {oD : Fin 4 → Nat} {pD : ∀ a, oD a + S1x64x8x128.size a ≤ S2x256x8x128.size a}
    {pQ : ∀ a, oQ a + S1x1.size a ≤ S2x4.size a} {srcw : Memref sig .tc .hbm S64x8x128 .f32} {h1 h2}
    {α : Type} {k : PUnit → Prog (TpuEff nD τ sig (Elt F) Λ₀ .tc) α} {Q : α → sProp 𝕄} :
    iprop(Lv ∗ FlyV m c u j g b ∗ Ow c O)
      ⊢ iprop((iprop(LandV m c u j g b ∗ Ow c O) -∗ wp frame (wpE defs₀ 𝒱₀ (tc c) none) Set.univ (k ⟨⟩) Q)
      -∗ wp frame (wpE defs₀ 𝒱₀ (tc c) none) Set.univ
        (.op (.waitDma2 ((cc0_scratch12.slice (Rect.unit (s := S2x4) oQ S1x1.size pQ)).squeeze S_ squeezes_S1x1_S_).sem
          srcw
          ((bV.slice (Rect.unit (s := S2x256x8x128) oD S1x64x8x128.size pD) (fun _ => rfl)).squeeze S64x8x128 squeezes_S1x64x8x128_S64x8x128)
          h1 h2) k) Q) := by
  subst hQ
  unfold FlyV LandV Ow
  iintro ⟨Hlv, ⟨Hf, Hr⟩, ⟨%W, Ho⟩⟩ Hk
  iapply (Transfers.wp_waitLocalO EC 𝒱₀ (tc c) none (sem := pSem cc0_scratch12 j b) (0 : ℕ) (N := NPV) (srcw := srcw) (hsrc := h1) (hdst := h2)
    (dstw := (bV.slice (Rect.unit (s := S2x256x8x128) oD S1x64x8x128.size pD) (fun _ => rfl)).squeeze S64x8x128 squeezes_S1x64x8x128_S64x8x128) rfl) $$ [Hlv Hf Ho]
  · isplitl [Hf]; · iexact Hf
    isplitl [Ho]; · iexact Ho
    iapply (hmw (pSem cc0_scratch12 j b) (by revert j b; decide +kernel)) $$ Hlv
  iintro ⟨⟨Hd, Hs⟩, Hv, Ho⟩
  iapply Hk
  isplitr [Ho]
  · isplitl [Hd]; · iexact Hd
    isplitl [Hv]; · iexact Hv
    iapply ((pointsTo_split_subset (Finset.subset_univ (srcP mV c u g b).view.set)).2)
    isplitl [Hs]; · iexact Hs
    iexact Hr
  iexists _; iexact Ho

end Cert.RingProof
-- ==== Proof.Halves.lean ====
/-
One contribution: the loop over the four groups, which waits for a group's keys and values, starts the next
group's copies, and adds the group's part to the output.
-/
module

public import proofs.«01_k».proof.Proof.Fetch
public import Idealize.ShloMosaic.Lib.ValueIdxCore

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig ℕ (Elt F) ℕ UU ℕ

abbrev mX : Memref sig .tc .vmem S1024x1024 .bf16 := Memref.whole cc0_scratch3
abbrev mO : Memref sig .tc .vmem S1x1024x1024 .f32 := Memref.whole cc0_stg1_0

theorem xrow_inb (g : Fin 4) : ∀ a, (![256 * g.val, 0] : Fin 2 → Nat) a + S256x1024.size a ≤ S1024x1024.size a := by
  revert g; decide +kernel

theorem orow_inb (g : Fin 4) : ∀ a, (![0, 256 * g.val, 0] : Fin 3 → Nat) a + S1x256x1024.size a ≤ S1x1024x1024.size a := by
  revert g; decide +kernel

/-! ## Loading a half -/

/-- What the load of a landed half gives: the same for both halves. -/
def ldK (m : (ℓ : Loc nD τ sig) → Buf (Elt F) ℓ) (c : Dev nD) (u : Fin 8) (g : Fin 4) : Vec F S1x256x8x128 .f32 :=
  fun i => (m (mK.view.loc (tc c)) : S8x1024x64x128.Idx → Elt F .f32)
    (landIdx c u g (ix4 (0 : Fin 2) (⟨(i 1).val, (i 1).isLt⟩ : Fin 256) (⟨(i 2).val, (i 2).isLt⟩ : Fin 8) (⟨(i 3).val, (i 3).isLt⟩ : Fin 128)))

def Land4K (m : (ℓ : Loc nD τ sig) → Buf (Elt F) ℓ) (c : Dev nD) (u : Fin 8) (j : Fin 2) (g : Fin 4) : sProp 𝕄 :=
  iprop(LandK m c u j g 0 ∗ LandK m c u j g 1 ∗ LandK m c u j g 2 ∗ LandK m c u j g 3)

theorem mem_pieceK (j : Fin 2) (b : Fin 4) (i : S2x256x8x128.Idx) :
    i ∈ (piece bK j b).view.set ↔ (i 0).val = j.val ∧ 64 * b.val ≤ (i 1).val ∧ (i 1).val < 64 * b.val + 64 := by
  rw [show (piece bK j b).view.set = (Rect.unit (s := S2x256x8x128) ![j.val, 64 * b.val, 0, 0] S1x64x8x128.size (piece_inb j b)).set from
    (View.set_reshape _ _).trans (View.set_slice_whole _ _), Rect.mem_set_unit]
  constructor
  · intro h
    have h0 := h 0; have h1 := h 1
    have h0' : j.val ≤ (i 0).val ∧ (i 0).val < j.val + 1 := h0
    have h1' : 64 * b.val ≤ (i 1).val ∧ (i 1).val < 64 * b.val + 64 := h1
    omega
  · rintro ⟨h0, h1, h2⟩ a
    fin_cases a
    · show j.val ≤ (i 0).val ∧ (i 0).val < j.val + 1
      omega
    · exact ⟨h1, h2⟩
    · exact ⟨Nat.zero_le _, by have : (i 2).val < 8 := (i 2).isLt; show (i 2).val < 0 + 8; omega⟩
    · exact ⟨Nat.zero_le _, by have : (i 3).val < 128 := (i 3).isLt; show (i 3).val < 0 + 128; omega⟩

theorem disj_pieceK (j : Fin 2) (b b' : Fin 4) (h : b ≠ b') : Disjoint (piece bK j b).view.set (piece bK j b').view.set := by
  rw [Finset.disjoint_left]
  intro i hi hi'
  have h1 := (mem_pieceK j b i).1 hi
  have h2 := (mem_pieceK j b' i).1 hi'
  exact h (Fin.ext (by omega))

theorem join4K (c : Dev nD) (j : Fin 2) (f : Buf (Elt F) (bK.view.loc (tc c))) :
    iprop((bK.view.loc (tc c) ↦[(piece bK j 0).view.set]{fullShare} f) ∗ (bK.view.loc (tc c) ↦[(piece bK j 1).view.set]{fullShare} f)
      ∗ (bK.view.loc (tc c) ↦[(piece bK j 2).view.set]{fullShare} f) ∗ (bK.view.loc (tc c) ↦[(piece bK j 3).view.set]{fullShare} f))
    ⊣⊢ (bK.view.loc (tc c) ↦[(piece bK j 0).view.set ∪ ((piece bK j 1).view.set ∪ ((piece bK j 2).view.set ∪ (piece bK j 3).view.set))]{fullShare} f : sProp 𝕄) := by
  have d := disj_pieceK j
  have h3 := pointsTo_union (Val := Elt F) (Ix := ℕ) (Name := ℕ) (U := UU) (Lvl := ℕ) (ℓ := bK.view.loc (tc c)) (q := fullShare) (f := f) (d 2 3 (by decide))
  have h2 := pointsTo_union (Val := Elt F) (Ix := ℕ) (Name := ℕ) (U := UU) (Lvl := ℕ) (ℓ := bK.view.loc (tc c)) (q := fullShare) (f := f)
    (Finset.disjoint_union_right.2 ⟨d 1 2 (by decide), d 1 3 (by decide)⟩)
  have h1 := pointsTo_union (Val := Elt F) (Ix := ℕ) (Name := ℕ) (U := UU) (Lvl := ℕ) (ℓ := bK.view.loc (tc c)) (q := fullShare) (f := f)
    (Finset.disjoint_union_right.2 ⟨d 0 1 (by decide), Finset.disjoint_union_right.2 ⟨d 0 2 (by decide), d 0 3 (by decide)⟩⟩)
  constructor
  · iintro ⟨H0, H1, H2, H3⟩
    iapply h1.2
    isplitl [H0]; · iexact H0
    iapply h2.2
    isplitl [H1]; · iexact H1
    iapply h3.2
    isplitl [H2]; · iexact H2
    iexact H3
  · iintro H
    ihave H := h1.1 $$ H
    icases H with ⟨H0, H⟩
    ihave H := h2.1 $$ H
    icases H with ⟨H1, H⟩
    ihave H := h3.1 $$ H
    icases H with ⟨H2, H3⟩
    isplitl [H0]; · iexact H0
    isplitl [H1]; · iexact H1
    isplitl [H2]; · iexact H2
    iexact H3

theorem half_subK (j : Fin 2) :
    ((bK.access (Rect.unit (s := S2x256x8x128) ![j.val, 0, 0, 0] S1x256x8x128.size (half_inb j))).set : Finset S2x256x8x128.Idx)
      ⊆ (piece bK j 0).view.set ∪ ((piece bK j 1).view.set ∪ ((piece bK j 2).view.set ∪ (piece bK j 3).view.set)) := by
  intro i hi
  rw [show ((bK.access (Rect.unit (s := S2x256x8x128) ![j.val, 0, 0, 0] S1x256x8x128.size (half_inb j))).set : Finset S2x256x8x128.Idx)
    = (Rect.unit (s := S2x256x8x128) ![j.val, 0, 0, 0] S1x256x8x128.size (half_inb j)).set from View.set_slice_whole _ _, Rect.mem_set_unit] at hi
  have h0 : j.val ≤ (i 0).val ∧ (i 0).val < j.val + 1 := hi 0
  have h1 : (i 1).val < 256 := (i 1).isLt
  have hb : (i 1).val / 64 < 4 := by omega
  have := (mem_pieceK j ⟨(i 1).val / 64, hb⟩ i).2 ⟨by omega, by show 64 * ((i 1).val / 64) ≤ _; omega, by show _ < 64 * ((i 1).val / 64) + 64; omega⟩
  simp only [Finset.mem_union]
  have hc : ∀ b : Fin 4, i ∈ (piece bK j b).view.set → i ∈ (piece bK j 0).view.set ∨ i ∈ (piece bK j 1).view.set ∨ i ∈ (piece bK j 2).view.set ∨ i ∈ (piece bK j 3).view.set := by
    intro b hb
    fin_cases b
    · exact .inl hb
    · exact .inr (.inl hb)
    · exact .inr (.inr (.inl hb))
    · exact .inr (.inr (.inr hb))
  exact hc _ this

theorem read_half_K (m : (ℓ : Loc nD τ sig) → Buf (Elt F) ℓ) (c : Dev nD) (u : Fin 8) (j : Fin 2) (g : Fin 4) :
    (bK.access (Rect.unit (s := S2x256x8x128) ![j.val, 0, 0, 0] S1x256x8x128.size (half_inb j))).read (Elt F) (cK m c u g)
      = ldK m c u g := by
  funext i
  show (m (mK.view.loc (tc c)) : S8x1024x64x128.Idx → Elt F .f32) (landIdx c u g _) = (m (mK.view.loc (tc c)) : S8x1024x64x128.Idx → Elt F .f32) (landIdx c u g _)
  congr 1
  funext a
  apply Fin.ext
  fin_cases a
  · rfl
  · show 64 * g.val + 256 * ((0 + 1 * (i 1).val) / 64) + (0 + 1 * (i 1).val) % 64 = 64 * g.val + 256 * ((i 1).val / 64) + (i 1).val % 64
    rw [Nat.zero_add, Nat.one_mul]
  · show 8 * u.val + (0 + 1 * (i 2).val) = 8 * u.val + (i 2).val
    rw [Nat.zero_add, Nat.one_mul]
  · show 0 + 1 * (i 3).val = (i 3).val
    rw [Nat.zero_add, Nat.one_mul]

theorem loadK (m : (ℓ : Loc nD τ sig) → Buf (Elt F) ℓ) (c : Dev nD) (u : Fin 8) (j : Fin 2) (g : Fin 4)
    {o : Fin 4 → Nat} (ho : o = ![j.val, 0, 0, 0]) {p : ∀ a, o a + S1x256x8x128.size a ≤ S2x256x8x128.size a} {hl}
    {α : Type} {k : Vec F S1x256x8x128 .f32 → Prog (TpuEff nD τ sig (Elt F) Λ₀ .tc) α} {Q : α → sProp 𝕄} :
    Land4K m c u j g ⊢ iprop((Land4K m c u j g -∗ wp frame (wpE defs₀ 𝒱₀ (tc c) none) Set.univ (k (ldK m c u g)) Q)
      -∗ wp frame (wpE defs₀ 𝒱₀ (tc c) none) Set.univ
        (.op (.load bK (Rect.unit (s := S2x256x8x128) o S1x256x8x128.size p).toLoadRect hl) k) Q) := by
  subst ho
  unfold Land4K LandK
  iintro ⟨⟨P0, R0⟩, ⟨P1, R1⟩, ⟨P2, R2⟩, P3, R3⟩ Hk
  ihave H := ((join4K c j (cK m c u g)).1) $$ [P0 P1 P2 P3]
  · isplitl [P0]; · iexact P0
    isplitl [P1]; · iexact P1
    isplitl [P2]; · iexact P2
    iexact P3
  iapply (wp_load_rect 𝒱₀ (tc c) none Set.univ (m := bK) (r := Rect.unit (s := S2x256x8x128) ![j.val, 0, 0, 0] S1x256x8x128.size p) (half_subK j)) $$ H
  iintro H
  ihave H := ((join4K c j (cK m c u g)).2) $$ H
  icases H with ⟨P0, P1, P2, P3⟩
  rw [read_half_K]
  iapply Hk
  isplitl [P0 R0]; · isplitl [P0] <;> iassumption
  isplitl [P1 R1]; · isplitl [P1] <;> iassumption
  isplitl [P2 R2]; · isplitl [P2] <;> iassumption
  isplitl [P3] <;> iassumption

/-- What the load of a landed half gives: the same for both halves. -/
def ldV (m : (ℓ : Loc nD τ sig) → Buf (Elt F) ℓ) (c : Dev nD) (u : Fin 8) (g : Fin 4) : Vec F S1x256x8x128 .f32 :=
  fun i => (m (mV.view.loc (tc c)) : S8x1024x64x128.Idx → Elt F .f32)
    (landIdx c u g (ix4 (0 : Fin 2) (⟨(i 1).val, (i 1).isLt⟩ : Fin 256) (⟨(i 2).val, (i 2).isLt⟩ : Fin 8) (⟨(i 3).val, (i 3).isLt⟩ : Fin 128)))

def Land4V (m : (ℓ : Loc nD τ sig) → Buf (Elt F) ℓ) (c : Dev nD) (u : Fin 8) (j : Fin 2) (g : Fin 4) : sProp 𝕄 :=
  iprop(LandV m c u j g 0 ∗ LandV m c u j g 1 ∗ LandV m c u j g 2 ∗ LandV m c u j g 3)

theorem mem_pieceV (j : Fin 2) (b : Fin 4) (i : S2x256x8x128.Idx) :
    i ∈ (piece bV j b).view.set ↔ (i 0).val = j.val ∧ 64 * b.val ≤ (i 1).val ∧ (i 1).val < 64 * b.val + 64 := by
  rw [show (piece bV j b).view.set = (Rect.unit (s := S2x256x8x128) ![j.val, 64 * b.val, 0, 0] S1x64x8x128.size (piece_inb j b)).set from
    (View.set_reshape _ _).trans (View.set_slice_whole _ _), Rect.mem_set_unit]
  constructor
  · intro h
    have h0 := h 0; have h1 := h 1
    have h0' : j.val ≤ (i 0).val ∧ (i 0).val < j.val + 1 := h0
    have h1' : 64 * b.val ≤ (i 1).val ∧ (i 1).val < 64 * b.val + 64 := h1
    omega
  · rintro ⟨h0, h1, h2⟩ a
    fin_cases a
    · show j.val ≤ (i 0).val ∧ (i 0).val < j.val + 1
      omega
    · exact ⟨h1, h2⟩
    · exact ⟨Nat.zero_le _, by have : (i 2).val < 8 := (i 2).isLt; show (i 2).val < 0 + 8; omega⟩
    · exact ⟨Nat.zero_le _, by have : (i 3).val < 128 := (i 3).isLt; show (i 3).val < 0 + 128; omega⟩

theorem disj_pieceV (j : Fin 2) (b b' : Fin 4) (h : b ≠ b') : Disjoint (piece bV j b).view.set (piece bV j b').view.set := by
  rw [Finset.disjoint_left]
  intro i hi hi'
  have h1 := (mem_pieceV j b i).1 hi
  have h2 := (mem_pieceV j b' i).1 hi'
  exact h (Fin.ext (by omega))

theorem join4V (c : Dev nD) (j : Fin 2) (f : Buf (Elt F) (bV.view.loc (tc c))) :
    iprop((bV.view.loc (tc c) ↦[(piece bV j 0).view.set]{fullShare} f) ∗ (bV.view.loc (tc c) ↦[(piece bV j 1).view.set]{fullShare} f)
      ∗ (bV.view.loc (tc c) ↦[(piece bV j 2).view.set]{fullShare} f) ∗ (bV.view.loc (tc c) ↦[(piece bV j 3).view.set]{fullShare} f))
    ⊣⊢ (bV.view.loc (tc c) ↦[(piece bV j 0).view.set ∪ ((piece bV j 1).view.set ∪ ((piece bV j 2).view.set ∪ (piece bV j 3).view.set))]{fullShare} f : sProp 𝕄) := by
  have d := disj_pieceV j
  have h3 := pointsTo_union (Val := Elt F) (Ix := ℕ) (Name := ℕ) (U := UU) (Lvl := ℕ) (ℓ := bV.view.loc (tc c)) (q := fullShare) (f := f) (d 2 3 (by decide))
  have h2 := pointsTo_union (Val := Elt F) (Ix := ℕ) (Name := ℕ) (U := UU) (Lvl := ℕ) (ℓ := bV.view.loc (tc c)) (q := fullShare) (f := f)
    (Finset.disjoint_union_right.2 ⟨d 1 2 (by decide), d 1 3 (by decide)⟩)
  have h1 := pointsTo_union (Val := Elt F) (Ix := ℕ) (Name := ℕ) (U := UU) (Lvl := ℕ) (ℓ := bV.view.loc (tc c)) (q := fullShare) (f := f)
    (Finset.disjoint_union_right.2 ⟨d 0 1 (by decide), Finset.disjoint_union_right.2 ⟨d 0 2 (by decide), d 0 3 (by decide)⟩⟩)
  constructor
  · iintro ⟨H0, H1, H2, H3⟩
    iapply h1.2
    isplitl [H0]; · iexact H0
    iapply h2.2
    isplitl [H1]; · iexact H1
    iapply h3.2
    isplitl [H2]; · iexact H2
    iexact H3
  · iintro H
    ihave H := h1.1 $$ H
    icases H with ⟨H0, H⟩
    ihave H := h2.1 $$ H
    icases H with ⟨H1, H⟩
    ihave H := h3.1 $$ H
    icases H with ⟨H2, H3⟩
    isplitl [H0]; · iexact H0
    isplitl [H1]; · iexact H1
    isplitl [H2]; · iexact H2
    iexact H3

theorem half_subV (j : Fin 2) :
    ((bV.access (Rect.unit (s := S2x256x8x128) ![j.val, 0, 0, 0] S1x256x8x128.size (half_inb j))).set : Finset S2x256x8x128.Idx)
      ⊆ (piece bV j 0).view.set ∪ ((piece bV j 1).view.set ∪ ((piece bV j 2).view.set ∪ (piece bV j 3).view.set)) := by
  intro i hi
  rw [show ((bV.access (Rect.unit (s := S2x256x8x128) ![j.val, 0, 0, 0] S1x256x8x128.size (half_inb j))).set : Finset S2x256x8x128.Idx)
    = (Rect.unit (s := S2x256x8x128) ![j.val, 0, 0, 0] S1x256x8x128.size (half_inb j)).set from View.set_slice_whole _ _, Rect.mem_set_unit] at hi
  have h0 : j.val ≤ (i 0).val ∧ (i 0).val < j.val + 1 := hi 0
  have h1 : (i 1).val < 256 := (i 1).isLt
  have hb : (i 1).val / 64 < 4 := by omega
  have := (mem_pieceV j ⟨(i 1).val / 64, hb⟩ i).2 ⟨by omega, by show 64 * ((i 1).val / 64) ≤ _; omega, by show _ < 64 * ((i 1).val / 64) + 64; omega⟩
  simp only [Finset.mem_union]
  have hc : ∀ b : Fin 4, i ∈ (piece bV j b).view.set → i ∈ (piece bV j 0).view.set ∨ i ∈ (piece bV j 1).view.set ∨ i ∈ (piece bV j 2).view.set ∨ i ∈ (piece bV j 3).view.set := by
    intro b hb
    fin_cases b
    · exact .inl hb
    · exact .inr (.inl hb)
    · exact .inr (.inr (.inl hb))
    · exact .inr (.inr (.inr hb))
  exact hc _ this

theorem read_half_V (m : (ℓ : Loc nD τ sig) → Buf (Elt F) ℓ) (c : Dev nD) (u : Fin 8) (j : Fin 2) (g : Fin 4) :
    (bV.access (Rect.unit (s := S2x256x8x128) ![j.val, 0, 0, 0] S1x256x8x128.size (half_inb j))).read (Elt F) (cV m c u g)
      = ldV m c u g := by
  funext i
  show (m (mV.view.loc (tc c)) : S8x1024x64x128.Idx → Elt F .f32) (landIdx c u g _) = (m (mV.view.loc (tc c)) : S8x1024x64x128.Idx → Elt F .f32) (landIdx c u g _)
  congr 1
  funext a
  apply Fin.ext
  fin_cases a
  · rfl
  · show 64 * g.val + 256 * ((0 + 1 * (i 1).val) / 64) + (0 + 1 * (i 1).val) % 64 = 64 * g.val + 256 * ((i 1).val / 64) + (i 1).val % 64
    rw [Nat.zero_add, Nat.one_mul]
  · show 8 * u.val + (0 + 1 * (i 2).val) = 8 * u.val + (i 2).val
    rw [Nat.zero_add, Nat.one_mul]
  · show 0 + 1 * (i 3).val = (i 3).val
    rw [Nat.zero_add, Nat.one_mul]

theorem loadV (m : (ℓ : Loc nD τ sig) → Buf (Elt F) ℓ) (c : Dev nD) (u : Fin 8) (j : Fin 2) (g : Fin 4)
    {o : Fin 4 → Nat} (ho : o = ![j.val, 0, 0, 0]) {p : ∀ a, o a + S1x256x8x128.size a ≤ S2x256x8x128.size a} {hl}
    {α : Type} {k : Vec F S1x256x8x128 .f32 → Prog (TpuEff nD τ sig (Elt F) Λ₀ .tc) α} {Q : α → sProp 𝕄} :
    Land4V m c u j g ⊢ iprop((Land4V m c u j g -∗ wp frame (wpE defs₀ 𝒱₀ (tc c) none) Set.univ (k (ldV m c u g)) Q)
      -∗ wp frame (wpE defs₀ 𝒱₀ (tc c) none) Set.univ
        (.op (.load bV (Rect.unit (s := S2x256x8x128) o S1x256x8x128.size p).toLoadRect hl) k) Q) := by
  subst ho
  unfold Land4V LandV
  iintro ⟨⟨P0, R0⟩, ⟨P1, R1⟩, ⟨P2, R2⟩, P3, R3⟩ Hk
  ihave H := ((join4V c j (cV m c u g)).1) $$ [P0 P1 P2 P3]
  · isplitl [P0]; · iexact P0
    isplitl [P1]; · iexact P1
    isplitl [P2]; · iexact P2
    iexact P3
  iapply (wp_load_rect 𝒱₀ (tc c) none Set.univ (m := bV) (r := Rect.unit (s := S2x256x8x128) ![j.val, 0, 0, 0] S1x256x8x128.size p) (half_subV j)) $$ H
  iintro H
  ihave H := ((join4V c j (cV m c u g)).2) $$ H
  icases H with ⟨P0, P1, P2, P3⟩
  rw [read_half_V]
  iapply Hk
  isplitl [P0 R0]; · isplitl [P0] <;> iassumption
  isplitl [P1 R1]; · isplitl [P1] <;> iassumption
  isplitl [P2 R2]; · isplitl [P2] <;> iassumption
  isplitl [P3] <;> iassumption

end Cert.RingProof
-- ==== Proof.Consume.lean ====
/-
The loop over the four groups of one contribution: it waits for a group's keys and values, starts the next
group's copies, and adds the group's part to the output.
-/
module

public import proofs.«01_k».proof.Proof.Halves

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig ℕ (Elt F) ℕ UU ℕ

/-! ## Loads and stores of a buffer held whole -/

theorem ldAll {cs : CoreSpace} {s : Shape} {e : EltTy} (M : Memref sig .tc cs s e) (c : Dev nD) {r : Rect s} {hl : M.view.LoadsAt r.toLoadRect} {q : PosShare TreeShare}
    {f : Buf (Elt F) (M.view.loc (tc c))} {α : Type} {k : (r.shape.Idx → Elt F e) → Prog (TpuEff nD τ sig (Elt F) Λ₀ .tc) α} {Q : α → sProp 𝕄} :
    (M.view.loc (tc c) ↦[Finset.univ]{q} f) ⊢ iprop(((M.view.loc (tc c) ↦[Finset.univ]{q} f)
        -∗ wp frame (wpE defs₀ 𝒱₀ (tc c) none) Set.univ (k ((M.access r).read (Elt F) f)) Q)
      -∗ wp frame (wpE defs₀ 𝒱₀ (tc c) none) Set.univ (.op (.load M r.toLoadRect hl) k) Q) :=
  wp_load_rect 𝒱₀ (tc c) none Set.univ (m := M) (r := r) (Finset.subset_univ _)

theorem stAll {cs : CoreSpace} {s : Shape} {e : EltTy} (M : Memref sig .tc cs s e) (c : Dev nD) {r : Rect s} {w : r.shape.Idx → Elt F e} {hx hm}
    {f : Buf (Elt F) (M.view.loc (tc c))} {α : Type} {k : PUnit → Prog (TpuEff nD τ sig (Elt F) Λ₀ .tc) α} {Q : α → sProp 𝕄} :
    (M.view.loc (tc c) ↦[Finset.univ]{fullShare} f) ⊢ iprop(((M.view.loc (tc c) ↦[Finset.univ]{fullShare} ((M.access r).write (Elt F) f w Finset.univ))
        -∗ wp frame (wpE defs₀ 𝒱₀ (tc c) none) Set.univ (k ⟨⟩) Q)
      -∗ wp frame (wpE defs₀ 𝒱₀ (tc c) none) Set.univ (.op (.store M r w Finset.univ hx hm) k) Q) :=
  wp_store 𝒱₀ (tc c) none Set.univ (m := M) (r := r) (Finset.subset_univ _)

/-! ## The eight pieces of a half -/

def Idle8 (m : (ℓ : Loc nD τ sig) → Buf (Elt F) ℓ) (c : Dev nD) (j : Fin 2) : sProp 𝕄 :=
  iprop(IdleK m c j 0 ∗ IdleV m c j 0 ∗ IdleK m c j 1 ∗ IdleV m c j 1 ∗ IdleK m c j 2 ∗ IdleV m c j 2 ∗ IdleK m c j 3 ∗ IdleV m c j 3)

def Fly8 (m : (ℓ : Loc nD τ sig) → Buf (Elt F) ℓ) (c : Dev nD) (u : Fin 8) (j : Fin 2) (g : Fin 4) : sProp 𝕄 :=
  iprop(FlyK m c u j g 0 ∗ FlyV m c u j g 0 ∗ FlyK m c u j g 1 ∗ FlyV m c u j g 1 ∗ FlyK m c u j g 2 ∗ FlyV m c u j g 2 ∗ FlyK m c u j g 3 ∗ FlyV m c u j g 3)

/-- The half that holds group `k`'s pieces. -/
def half (k : ℕ) : Fin 2 := ⟨k % 2, Nat.mod_lt _ (by decide)⟩

/-- The two halves before trip `k`: group `k` in flight in its half, the other half at rest. -/
def Bufs (m : (ℓ : Loc nD τ sig) → Buf (Elt F) ℓ) (c : Dev nD) (u : Fin 8) (k : ℕ) : sProp 𝕄 :=
  iprop((if h : k < 4 then Fly8 m c u (half k) ⟨k, h⟩ else Idle8 m c (half k)) ∗ Idle8 m c (half (k + 1)))

/-! ## What a trip leaves in the output -/

abbrev rowsO (g : Fin 4) := mO.access (Rect.unit (s := S1x1024x1024) ![0, 256 * g.val, 0] S1x256x1024.size (orow_inb g))
abbrev rowsX (g : Fin 4) := mX.access (Rect.unit (s := S1024x1024) ![256 * g.val, 0] S256x1024.size (xrow_inb g))

/-- Group `g`'s part of one contribution, added to the output's rows. -/
def grpStep (m : (ℓ : Loc nD τ sig) → Buf (Elt F) ℓ) (c : Dev nD) (u : Fin 8) (xg : Buf (Elt F) (mX.view.loc (tc c)))
    (wq wo : FVec F S1024x1024 .bf16) (g : Fin 4) (o : Buf (Elt F) (mO.view.loc (tc c))) : Buf (Elt F) (mO.view.loc (tc c)) :=
  (rowsO g).write (Elt F) o
    (k0_pay3 wo (k0_pay6 wq ((rowsX g).read (Elt F) xg)) (k0_pay7 (ldK m c u g)) (k0_pay8 (ldV m c u g))
      (constant S8x256x256 .f32 0x00000000#32) ((rowsO g).read (Elt F) o)) Finset.univ

/-- The output after `k` groups of a contribution. -/
def outAfter (m : (ℓ : Loc nD τ sig) → Buf (Elt F) ℓ) (c : Dev nD) (u : Fin 8) (xg : Buf (Elt F) (mX.view.loc (tc c)))
    (wq wo : FVec F S1024x1024 .bf16) (o : Buf (Elt F) (mO.view.loc (tc c))) : ℕ → Buf (Elt F) (mO.view.loc (tc c))
  | 0 => o
  | k + 1 => if h : k < 4 then grpStep m c u xg wq wo ⟨k, h⟩ (outAfter m c u xg wq wo o k) else outAfter m c u xg wq wo o k

/-- What the loop holds before trip `k`. -/
def GI (m : (ℓ : Loc nD τ sig) → Buf (Elt F) ℓ) (c : Dev nD) (u : Fin 8) (Lv : sProp 𝕄) (O : CellTallies nD τ sig ℕ)
    (xg : Buf (Elt F) (mX.view.loc (tc c))) (wq wo : FVec F S1024x1024 .bf16) (o : Buf (Elt F) (mO.view.loc (tc c))) (k : ℕ) : sProp 𝕄 :=
  iprop(Lv ∗ Bufs m c u k ∗ (mX.view.loc (tc c) ↦[Finset.univ]{fullShare} xg)
    ∗ (mO.view.loc (tc c) ↦[Finset.univ]{fullShare} outAfter m c u xg wq wo o k) ∗ Ow c O)

theorem trips2 : k0_t2_loop.trips = 4 := by decide +kernel
theorem trips3 : k0_t3_loop.trips = 4 := by decide +kernel
theorem cond5_iff : ∀ g : Fin k0_t2_loop.trips, k0_cond5 g = 1#1 ↔ g.val < 3 := by decide +kernel
theorem cond8_iff : ∀ g : Fin k0_t3_loop.trips, k0_cond8 g = 1#1 ↔ g.val < 3 := by decide +kernel

theorem out2_eq (m : (ℓ : Loc nD τ sig) → Buf (Elt F) ℓ) (c : Dev nD) (u : Fin 8) (xg : Buf (Elt F) (mX.view.loc (tc c)))
    (wq wo : FVec F S1024x1024 .bf16) (o : Buf (Elt F) (mO.view.loc (tc c))) (g : Fin k0_t2_loop.trips) (hg4 : g.val < 4)
    {pO : ∀ a, k0_off32 g a + S1x256x1024.size a ≤ S1x1024x1024.size a} {pX : ∀ a, k0_off30 g a + S256x1024.size a ≤ S1024x1024.size a} :
    (mO.access (Rect.unit (s := S1x1024x1024) (k0_off32 g) S1x256x1024.size pO)).write (Elt F) (outAfter m c u xg wq wo o g.val)
      (k0_pay3 wo (k0_pay6 wq ((mX.access (Rect.unit (s := S1024x1024) (k0_off30 g) S256x1024.size pX)).read (Elt F) xg)) (k0_pay7 (ldK m c u ⟨g.val, hg4⟩)) (k0_pay8 (ldV m c u ⟨g.val, hg4⟩))
        (constant S8x256x256 .f32 0x00000000#32)
        ((mO.access (Rect.unit (s := S1x1024x1024) (k0_off32 g) S1x256x1024.size pO)).read (Elt F) (outAfter m c u xg wq wo o g.val))) Finset.univ
      = outAfter m c u xg wq wo o (g.val + 1) := by
  have key : ∀ (oO : Fin 3 → ℕ) (oX : Fin 2 → ℕ) (hO : oO = ![0, 256 * g.val, 0]) (hX : oX = ![256 * g.val, 0])
      (pO : ∀ a, oO a + S1x256x1024.size a ≤ S1x1024x1024.size a) (pX : ∀ a, oX a + S256x1024.size a ≤ S1024x1024.size a),
      (mO.access (Rect.unit (s := S1x1024x1024) oO S1x256x1024.size pO)).write (Elt F) (outAfter m c u xg wq wo o g.val)
        (k0_pay3 wo (k0_pay6 wq ((mX.access (Rect.unit (s := S1024x1024) oX S256x1024.size pX)).read (Elt F) xg)) (k0_pay7 (ldK m c u ⟨g.val, hg4⟩)) (k0_pay8 (ldV m c u ⟨g.val, hg4⟩))
          (constant S8x256x256 .f32 0x00000000#32)
          ((mO.access (Rect.unit (s := S1x1024x1024) oO S1x256x1024.size pO)).read (Elt F) (outAfter m c u xg wq wo o g.val))) Finset.univ
        = outAfter m c u xg wq wo o (g.val + 1) := by
    intro oO oX hO hX pO pX
    subst hO hX
    show _ = (if h : g.val < 4 then grpStep m c u xg wq wo ⟨g.val, h⟩ (outAfter m c u xg wq wo o g.val) else outAfter m c u xg wq wo o g.val)
    rw [dif_pos hg4]
    rfl
  exact key _ _ (k0_off32_eq g) (k0_off30_eq g) pO pX

theorem out3_eq (m : (ℓ : Loc nD τ sig) → Buf (Elt F) ℓ) (c : Dev nD) (u : Fin 8) (xg : Buf (Elt F) (mX.view.loc (tc c)))
    (wq wo : FVec F S1024x1024 .bf16) (o : Buf (Elt F) (mO.view.loc (tc c))) (g : Fin k0_t3_loop.trips) (hg4 : g.val < 4)
    {pO : ∀ a, k0_off64 g a + S1x256x1024.size a ≤ S1x1024x1024.size a} {pX : ∀ a, k0_off62 g a + S256x1024.size a ≤ S1024x1024.size a} :
    (mO.access (Rect.unit (s := S1x1024x1024) (k0_off64 g) S1x256x1024.size pO)).write (Elt F) (outAfter m c u xg wq wo o g.val)
      (k0_pay4 wo (k0_pay9 wq ((mX.access (Rect.unit (s := S1024x1024) (k0_off62 g) S256x1024.size pX)).read (Elt F) xg)) (k0_pay10 (ldK m c u ⟨g.val, hg4⟩)) (k0_pay11 (ldV m c u ⟨g.val, hg4⟩))
        (constant S8x256x256 .f32 0x00000000#32)
        ((mO.access (Rect.unit (s := S1x1024x1024) (k0_off64 g) S1x256x1024.size pO)).read (Elt F) (outAfter m c u xg wq wo o g.val))) Finset.univ
      = outAfter m c u xg wq wo o (g.val + 1) := by
  have key : ∀ (oO : Fin 3 → ℕ) (oX : Fin 2 → ℕ) (hO : oO = ![0, 256 * g.val, 0]) (hX : oX = ![256 * g.val, 0])
      (pO : ∀ a, oO a + S1x256x1024.size a ≤ S1x1024x1024.size a) (pX : ∀ a, oX a + S256x1024.size a ≤ S1024x1024.size a),
      (mO.access (Rect.unit (s := S1x1024x1024) oO S1x256x1024.size pO)).write (Elt F) (outAfter m c u xg wq wo o g.val)
        (k0_pay4 wo (k0_pay9 wq ((mX.access (Rect.unit (s := S1024x1024) oX S256x1024.size pX)).read (Elt F) xg)) (k0_pay10 (ldK m c u ⟨g.val, hg4⟩)) (k0_pay11 (ldV m c u ⟨g.val, hg4⟩))
          (constant S8x256x256 .f32 0x00000000#32)
          ((mO.access (Rect.unit (s := S1x1024x1024) oO S1x256x1024.size pO)).read (Elt F) (outAfter m c u xg wq wo o g.val))) Finset.univ
        = outAfter m c u xg wq wo o (g.val + 1) := by
    intro oO oX hO hX pO pX
    subst hO hX
    show _ = (if h : g.val < 4 then grpStep m c u xg wq wo ⟨g.val, h⟩ (outAfter m c u xg wq wo o g.val) else outAfter m c u xg wq wo o g.val)
    rw [dif_pos hg4]
    rfl
  exact key _ _ (k0_off64_eq g) (k0_off62_eq g) pO pX

/-! ## Trip of loop 2 -/

theorem trip2 (m : (ℓ : Loc nD τ sig) → Buf (Elt F) ℓ) (c : Dev nD) (t1 : Fin k0_t1_loop.trips) (u : Fin 8)
    (hu : u.val = (c.val + 8 - t1.val) % 8) (Lv : sProp 𝕄) [Persistent Lv] {O : CellTallies nD τ sig ℕ}
    (hmw : ∀ s : DmaSem sig, 16 ≤ s.val → Lv ⊢ MayWait (tc c) (.dma s) 0 O)
    (xg : Buf (Elt F) (mX.view.loc (tc c))) (wq wo : FVec F S1024x1024 .bf16) (o : Buf (Elt F) (mO.view.loc (tc c)))
    (v62 : BitVec 32) (g : Fin k0_t2_loop.trips) :
    GI m c u Lv O xg wq wo o g.val ⊢ wp frame (wpE defs₀ 𝒱₀ (tc c) none) Set.univ
      (k0_t2_body (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c t1 v62 wq wo g ⟨⟩)
      (fun _ => GI m c u Lv O xg wq wo o (g.val + 1)) := by
  have hg4 : g.val < 4 := lt_of_lt_of_eq g.isLt trips2
  unfold GI Bufs
  rw [dif_pos hg4]
  simp only [k0_t2_body, k0_part1_eq_skeleton, k0_part1_skel, k0_part2_eq_skeleton, k0_part2_skel, k0_part3_eq_skeleton, k0_part3_skel, k0_part4_eq_skeleton, k0_part4_skel, k0_part5_eq_skeleton, k0_part5_skel, Prog.lift, Prog.bind_op, Prog.bind_ret, Prog.pure_eq_ret]
  unfold Fly8 Idle8
  iintro ⟨#Hlv, ⟨⟨FK0, FV0, FK1, FV1, FK2, FV2, FK3, FV3⟩, ⟨IK0, IV0, IK1, IV1, IK2, IV2, IK3, IV3⟩⟩, HX, HO, Hw⟩
  by_cases hg : g.val < 3
  · rw [dif_pos ((cond5_iff g).2 hg)]
    simp only [Prog.bind_op, Prog.bind_ret]
    iapply (issueK m c u (half (g.val + 1)) ⟨g.val + 1, by omega⟩ 0
      (hS := by rw [hu]; exact (k0_off14_eq c t1 g 0).trans (congrArg (fun z => ![c.val, z, _, 0]) (show 64 * g.val + 256 * 0 + 64 = 64 * (g.val + 1) + 256 * 0 by omega))) (hD := k0_off13_eq g) (hQ := k0_off12_eq g)) $$ IK0
    iintro NK0
    iapply (issueV m c u (half (g.val + 1)) ⟨g.val + 1, by omega⟩ 0
      (hS := by rw [hu]; exact (k0_off14_eq c t1 g 0).trans (congrArg (fun z => ![c.val, z, _, 0]) (show 64 * g.val + 256 * 0 + 64 = 64 * (g.val + 1) + 256 * 0 by omega))) (hD := k0_off13_eq g) (hQ := k0_off12_eq g)) $$ IV0
    iintro NV0
    iapply (issueK m c u (half (g.val + 1)) ⟨g.val + 1, by omega⟩ 1
      (hS := by rw [hu]; exact (k0_off14_eq c t1 g 1).trans (congrArg (fun z => ![c.val, z, _, 0]) (show 64 * g.val + 256 * 1 + 64 = 64 * (g.val + 1) + 256 * 1 by omega))) (hD := k0_off16_eq g) (hQ := k0_off15_eq g)) $$ IK1
    iintro NK1
    iapply (issueV m c u (half (g.val + 1)) ⟨g.val + 1, by omega⟩ 1
      (hS := by rw [hu]; exact (k0_off14_eq c t1 g 1).trans (congrArg (fun z => ![c.val, z, _, 0]) (show 64 * g.val + 256 * 1 + 64 = 64 * (g.val + 1) + 256 * 1 by omega))) (hD := k0_off16_eq g) (hQ := k0_off15_eq g)) $$ IV1
    iintro NV1
    iapply (issueK m c u (half (g.val + 1)) ⟨g.val + 1, by omega⟩ 2
      (hS := by rw [hu]; exact (k0_off14_eq c t1 g 2).trans (congrArg (fun z => ![c.val, z, _, 0]) (show 64 * g.val + 256 * 2 + 64 = 64 * (g.val + 1) + 256 * 2 by omega))) (hD := k0_off18_eq g) (hQ := k0_off17_eq g)) $$ IK2
    iintro NK2
    iapply (issueV m c u (half (g.val + 1)) ⟨g.val + 1, by omega⟩ 2
      (hS := by rw [hu]; exact (k0_off14_eq c t1 g 2).trans (congrArg (fun z => ![c.val, z, _, 0]) (show 64 * g.val + 256 * 2 + 64 = 64 * (g.val + 1) + 256 * 2 by omega))) (hD := k0_off18_eq g) (hQ := k0_off17_eq g)) $$ IV2
    iintro NV2
    iapply (issueK m c u (half (g.val + 1)) ⟨g.val + 1, by omega⟩ 3
      (hS := by rw [hu]; exact (k0_off14_eq c t1 g 3).trans (congrArg (fun z => ![c.val, z, _, 0]) (show 64 * g.val + 256 * 3 + 64 = 64 * (g.val + 1) + 256 * 3 by omega))) (hD := k0_off20_eq g) (hQ := k0_off19_eq g)) $$ IK3
    iintro NK3
    iapply (issueV m c u (half (g.val + 1)) ⟨g.val + 1, by omega⟩ 3
      (hS := by rw [hu]; exact (k0_off14_eq c t1 g 3).trans (congrArg (fun z => ![c.val, z, _, 0]) (show 64 * g.val + 256 * 3 + 64 = 64 * (g.val + 1) + 256 * 3 by omega))) (hD := k0_off20_eq g) (hQ := k0_off19_eq g)) $$ IV3
    iintro NV3
    iapply (waitK m c u (half g.val) ⟨g.val, hg4⟩ 0 Lv hmw (k0_off21_eq g)) $$ [FK0 Hw]
    · isplitl []; · iexact Hlv
      isplitl [FK0]; · iexact FK0
      iexact Hw
    iintro ⟨LK0, Hw⟩
    iapply (waitV m c u (half g.val) ⟨g.val, hg4⟩ 0 Lv hmw (k0_off21_eq g)) $$ [FV0 Hw]
    · isplitl []; · iexact Hlv
      isplitl [FV0]; · iexact FV0
      iexact Hw
    iintro ⟨LV0, Hw⟩
    iapply (waitK m c u (half g.val) ⟨g.val, hg4⟩ 1 Lv hmw (k0_off24_eq g)) $$ [FK1 Hw]
    · isplitl []; · iexact Hlv
      isplitl [FK1]; · iexact FK1
      iexact Hw
    iintro ⟨LK1, Hw⟩
    iapply (waitV m c u (half g.val) ⟨g.val, hg4⟩ 1 Lv hmw (k0_off24_eq g)) $$ [FV1 Hw]
    · isplitl []; · iexact Hlv
      isplitl [FV1]; · iexact FV1
      iexact Hw
    iintro ⟨LV1, Hw⟩
    iapply (waitK m c u (half g.val) ⟨g.val, hg4⟩ 2 Lv hmw (k0_off26_eq g)) $$ [FK2 Hw]
    · isplitl []; · iexact Hlv
      isplitl [FK2]; · iexact FK2
      iexact Hw
    iintro ⟨LK2, Hw⟩
    iapply (waitV m c u (half g.val) ⟨g.val, hg4⟩ 2 Lv hmw (k0_off26_eq g)) $$ [FV2 Hw]
    · isplitl []; · iexact Hlv
      isplitl [FV2]; · iexact FV2
      iexact Hw
    iintro ⟨LV2, Hw⟩
    iapply (waitK m c u (half g.val) ⟨g.val, hg4⟩ 3 Lv hmw (k0_off28_eq g)) $$ [FK3 Hw]
    · isplitl []; · iexact Hlv
      isplitl [FK3]; · iexact FK3
      iexact Hw
    iintro ⟨LK3, Hw⟩
    iapply (waitV m c u (half g.val) ⟨g.val, hg4⟩ 3 Lv hmw (k0_off28_eq g)) $$ [FV3 Hw]
    · isplitl []; · iexact Hlv
      isplitl [FV3]; · iexact FV3
      iexact Hw
    iintro ⟨LV3, Hw⟩
    iapply (ldAll mX c) $$ HX
    iintro HX
    iapply (loadK m c u (half g.val) ⟨g.val, hg4⟩ (k0_off31_eq g)) $$ [LK0 LK1 LK2 LK3]
    · unfold Land4K
      isplitl [LK0]; · iexact LK0
      isplitl [LK1]; · iexact LK1
      isplitl [LK2]; · iexact LK2
      iexact LK3
    iintro LK
    unfold Land4K
    icases LK with ⟨LK0, LK1, LK2, LK3⟩
    iapply (loadV m c u (half g.val) ⟨g.val, hg4⟩ (k0_off31_eq g)) $$ [LV0 LV1 LV2 LV3]
    · unfold Land4V
      isplitl [LV0]; · iexact LV0
      isplitl [LV1]; · iexact LV1
      isplitl [LV2]; · iexact LV2
      iexact LV3
    iintro LV
    unfold Land4V
    icases LV with ⟨LV0, LV1, LV2, LV3⟩
    iapply (ldAll mO c) $$ HO
    iintro HO
    iapply (ldAll mO c) $$ HO
    iintro HO
    iapply (stAll mO c) $$ HO
    iintro HO
    simp only [wp_ret]
    imodintro
    isplitl []; · iexact Hlv
    isplitr [HX HO Hw]
    · rw [dif_pos (show g.val + 1 < 4 by omega)]
      isplitl [NK0 NV0 NK1 NV1 NK2 NV2 NK3 NV3]
      · isplitl [NK0]; · iexact NK0
        isplitl [NV0]; · iexact NV0
        isplitl [NK1]; · iexact NK1
        isplitl [NV1]; · iexact NV1
        isplitl [NK2]; · iexact NK2
        isplitl [NV2]; · iexact NV2
        isplitl [NK3]; · iexact NK3
        iexact NV3
      · rw [show half (g.val + 1 + 1) = half g.val from Fin.ext (by show (g.val + 1 + 1) % 2 = g.val % 2; omega)]
        isplitl [LK0]; · iapply landK_idle $$ LK0
        isplitl [LV0]; · iapply landV_idle $$ LV0
        isplitl [LK1]; · iapply landK_idle $$ LK1
        isplitl [LV1]; · iapply landV_idle $$ LV1
        isplitl [LK2]; · iapply landK_idle $$ LK2
        isplitl [LV2]; · iapply landV_idle $$ LV2
        isplitl [LK3]; · iapply landK_idle $$ LK3
        iapply landV_idle $$ LV3
    isplitl [HX]; · iexact HX
    isplitl [HO]
    · iapply (Entails.of_eq (congrArg (fun X => (mO.view.loc (tc c) ↦[Finset.univ]{fullShare} X : sProp 𝕄)) (out2_eq m c u xg wq wo o g hg4))) $$ HO
    iexact Hw
  · rw [dif_neg (fun h => hg ((cond5_iff g).1 h))]
    simp only [Prog.bind_op, Prog.bind_ret]
    iapply (waitK m c u (half g.val) ⟨g.val, hg4⟩ 0 Lv hmw (k0_off21_eq g)) $$ [FK0 Hw]
    · isplitl []; · iexact Hlv
      isplitl [FK0]; · iexact FK0
      iexact Hw
    iintro ⟨LK0, Hw⟩
    iapply (waitV m c u (half g.val) ⟨g.val, hg4⟩ 0 Lv hmw (k0_off21_eq g)) $$ [FV0 Hw]
    · isplitl []; · iexact Hlv
      isplitl [FV0]; · iexact FV0
      iexact Hw
    iintro ⟨LV0, Hw⟩
    iapply (waitK m c u (half g.val) ⟨g.val, hg4⟩ 1 Lv hmw (k0_off24_eq g)) $$ [FK1 Hw]
    · isplitl []; · iexact Hlv
      isplitl [FK1]; · iexact FK1
      iexact Hw
    iintro ⟨LK1, Hw⟩
    iapply (waitV m c u (half g.val) ⟨g.val, hg4⟩ 1 Lv hmw (k0_off24_eq g)) $$ [FV1 Hw]
    · isplitl []; · iexact Hlv
      isplitl [FV1]; · iexact FV1
      iexact Hw
    iintro ⟨LV1, Hw⟩
    iapply (waitK m c u (half g.val) ⟨g.val, hg4⟩ 2 Lv hmw (k0_off26_eq g)) $$ [FK2 Hw]
    · isplitl []; · iexact Hlv
      isplitl [FK2]; · iexact FK2
      iexact Hw
    iintro ⟨LK2, Hw⟩
    iapply (waitV m c u (half g.val) ⟨g.val, hg4⟩ 2 Lv hmw (k0_off26_eq g)) $$ [FV2 Hw]
    · isplitl []; · iexact Hlv
      isplitl [FV2]; · iexact FV2
      iexact Hw
    iintro ⟨LV2, Hw⟩
    iapply (waitK m c u (half g.val) ⟨g.val, hg4⟩ 3 Lv hmw (k0_off28_eq g)) $$ [FK3 Hw]
    · isplitl []; · iexact Hlv
      isplitl [FK3]; · iexact FK3
      iexact Hw
    iintro ⟨LK3, Hw⟩
    iapply (waitV m c u (half g.val) ⟨g.val, hg4⟩ 3 Lv hmw (k0_off28_eq g)) $$ [FV3 Hw]
    · isplitl []; · iexact Hlv
      isplitl [FV3]; · iexact FV3
      iexact Hw
    iintro ⟨LV3, Hw⟩
    iapply (ldAll mX c) $$ HX
    iintro HX
    iapply (loadK m c u (half g.val) ⟨g.val, hg4⟩ (k0_off31_eq g)) $$ [LK0 LK1 LK2 LK3]
    · unfold Land4K
      isplitl [LK0]; · iexact LK0
      isplitl [LK1]; · iexact LK1
      isplitl [LK2]; · iexact LK2
      iexact LK3
    iintro LK
    unfold Land4K
    icases LK with ⟨LK0, LK1, LK2, LK3⟩
    iapply (loadV m c u (half g.val) ⟨g.val, hg4⟩ (k0_off31_eq g)) $$ [LV0 LV1 LV2 LV3]
    · unfold Land4V
      isplitl [LV0]; · iexact LV0
      isplitl [LV1]; · iexact LV1
      isplitl [LV2]; · iexact LV2
      iexact LV3
    iintro LV
    unfold Land4V
    icases LV with ⟨LV0, LV1, LV2, LV3⟩
    iapply (ldAll mO c) $$ HO
    iintro HO
    iapply (ldAll mO c) $$ HO
    iintro HO
    iapply (stAll mO c) $$ HO
    iintro HO
    simp only [wp_ret]
    imodintro
    isplitl []; · iexact Hlv
    isplitr [HX HO Hw]
    · rw [dif_neg (show ¬ g.val + 1 < 4 by omega)]
      isplitl [IK0 IV0 IK1 IV1 IK2 IV2 IK3 IV3]
      · isplitl [IK0]; · iexact IK0
        isplitl [IV0]; · iexact IV0
        isplitl [IK1]; · iexact IK1
        isplitl [IV1]; · iexact IV1
        isplitl [IK2]; · iexact IK2
        isplitl [IV2]; · iexact IV2
        isplitl [IK3]; · iexact IK3
        iexact IV3
      · rw [show half (g.val + 1 + 1) = half g.val from Fin.ext (by show (g.val + 1 + 1) % 2 = g.val % 2; omega)]
        isplitl [LK0]; · iapply landK_idle $$ LK0
        isplitl [LV0]; · iapply landV_idle $$ LV0
        isplitl [LK1]; · iapply landK_idle $$ LK1
        isplitl [LV1]; · iapply landV_idle $$ LV1
        isplitl [LK2]; · iapply landK_idle $$ LK2
        isplitl [LV2]; · iapply landV_idle $$ LV2
        isplitl [LK3]; · iapply landK_idle $$ LK3
        iapply landV_idle $$ LV3
    isplitl [HX]; · iexact HX
    isplitl [HO]
    · iapply (Entails.of_eq (congrArg (fun X => (mO.view.loc (tc c) ↦[Finset.univ]{fullShare} X : sProp 𝕄)) (out2_eq m c u xg wq wo o g hg4))) $$ HO
    iexact Hw

/-! ## Trip of loop 3 -/

theorem trip3 (m : (ℓ : Loc nD τ sig) → Buf (Elt F) ℓ) (c : Dev nD) (t1 : Fin k0_t1_loop.trips) (u : Fin 8)
    (hu : u.val = (c.val + t1.val) % 8) (Lv : sProp 𝕄) [Persistent Lv] {O : CellTallies nD τ sig ℕ}
    (hmw : ∀ s : DmaSem sig, 16 ≤ s.val → Lv ⊢ MayWait (tc c) (.dma s) 0 O)
    (xg : Buf (Elt F) (mX.view.loc (tc c))) (wq wo : FVec F S1024x1024 .bf16) (o : Buf (Elt F) (mO.view.loc (tc c)))
    (h6 : k0_cond6 t1 = 1#1) (v148 : BitVec 32) (c0 : BitVec 32) (hc0 : c0 = 0#32) (g : Fin k0_t3_loop.trips) :
    GI m c u Lv O xg wq wo o g.val ⊢ wp frame (wpE defs₀ 𝒱₀ (tc c) none) Set.univ
      (k0_t3_body (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c t1 h6 v148 wq wo c0 g ⟨⟩)
      (fun _ => GI m c u Lv O xg wq wo o (g.val + 1)) := by
  have hg4 : g.val < 4 := lt_of_lt_of_eq g.isLt trips3
  subst hc0
  unfold GI Bufs
  rw [dif_pos hg4]
  simp only [k0_t3_body, k0_part6_eq_skeleton, k0_part6_skel, k0_part7_eq_skeleton, k0_part7_skel, k0_part8_eq_skeleton, k0_part8_skel, k0_part9_eq_skeleton, k0_part9_skel, k0_part10_eq_skeleton, k0_part10_skel, Prog.lift, Prog.bind_op, Prog.bind_ret, Prog.pure_eq_ret]
  unfold Fly8 Idle8
  iintro ⟨#Hlv, ⟨⟨FK0, FV0, FK1, FV1, FK2, FV2, FK3, FV3⟩, ⟨IK0, IV0, IK1, IV1, IK2, IV2, IK3, IV3⟩⟩, HX, HO, Hw⟩
  by_cases hg : g.val < 3
  · rw [dif_pos ((cond8_iff g).2 hg)]
    simp only [Prog.bind_op, Prog.bind_ret]
    iapply (issueK m c u (half (g.val + 1)) ⟨g.val + 1, by omega⟩ 0
      (hS := by rw [hu]; exact (k0_off46_eq c t1 g 0).trans (congrArg (fun z => ![c.val, z, _, 0]) (show 64 * g.val + 256 * 0 + 64 = 64 * (g.val + 1) + 256 * 0 by omega))) (hD := k0_off45_eq g) (hQ := k0_off44_eq g)) $$ IK0
    iintro NK0
    iapply (issueV m c u (half (g.val + 1)) ⟨g.val + 1, by omega⟩ 0
      (hS := by rw [hu]; exact (k0_off46_eq c t1 g 0).trans (congrArg (fun z => ![c.val, z, _, 0]) (show 64 * g.val + 256 * 0 + 64 = 64 * (g.val + 1) + 256 * 0 by omega))) (hD := k0_off45_eq g) (hQ := k0_off44_eq g)) $$ IV0
    iintro NV0
    iapply (issueK m c u (half (g.val + 1)) ⟨g.val + 1, by omega⟩ 1
      (hS := by rw [hu]; exact (k0_off46_eq c t1 g 1).trans (congrArg (fun z => ![c.val, z, _, 0]) (show 64 * g.val + 256 * 1 + 64 = 64 * (g.val + 1) + 256 * 1 by omega))) (hD := k0_off48_eq g) (hQ := k0_off47_eq g)) $$ IK1
    iintro NK1
    iapply (issueV m c u (half (g.val + 1)) ⟨g.val + 1, by omega⟩ 1
      (hS := by rw [hu]; exact (k0_off46_eq c t1 g 1).trans (congrArg (fun z => ![c.val, z, _, 0]) (show 64 * g.val + 256 * 1 + 64 = 64 * (g.val + 1) + 256 * 1 by omega))) (hD := k0_off48_eq g) (hQ := k0_off47_eq g)) $$ IV1
    iintro NV1
    iapply (issueK m c u (half (g.val + 1)) ⟨g.val + 1, by omega⟩ 2
      (hS := by rw [hu]; exact (k0_off46_eq c t1 g 2).trans (congrArg (fun z => ![c.val, z, _, 0]) (show 64 * g.val + 256 * 2 + 64 = 64 * (g.val + 1) + 256 * 2 by omega))) (hD := k0_off50_eq g) (hQ := k0_off49_eq g)) $$ IK2
    iintro NK2
    iapply (issueV m c u (half (g.val + 1)) ⟨g.val + 1, by omega⟩ 2
      (hS := by rw [hu]; exact (k0_off46_eq c t1 g 2).trans (congrArg (fun z => ![c.val, z, _, 0]) (show 64 * g.val + 256 * 2 + 64 = 64 * (g.val + 1) + 256 * 2 by omega))) (hD := k0_off50_eq g) (hQ := k0_off49_eq g)) $$ IV2
    iintro NV2
    iapply (issueK m c u (half (g.val + 1)) ⟨g.val + 1, by omega⟩ 3
      (hS := by rw [hu]; exact (k0_off46_eq c t1 g 3).trans (congrArg (fun z => ![c.val, z, _, 0]) (show 64 * g.val + 256 * 3 + 64 = 64 * (g.val + 1) + 256 * 3 by omega))) (hD := k0_off52_eq g) (hQ := k0_off51_eq g)) $$ IK3
    iintro NK3
    iapply (issueV m c u (half (g.val + 1)) ⟨g.val + 1, by omega⟩ 3
      (hS := by rw [hu]; exact (k0_off46_eq c t1 g 3).trans (congrArg (fun z => ![c.val, z, _, 0]) (show 64 * g.val + 256 * 3 + 64 = 64 * (g.val + 1) + 256 * 3 by omega))) (hD := k0_off52_eq g) (hQ := k0_off51_eq g)) $$ IV3
    iintro NV3
    iapply (waitK m c u (half g.val) ⟨g.val, hg4⟩ 0 Lv hmw (k0_off53_eq g)) $$ [FK0 Hw]
    · isplitl []; · iexact Hlv
      isplitl [FK0]; · iexact FK0
      iexact Hw
    iintro ⟨LK0, Hw⟩
    iapply (waitV m c u (half g.val) ⟨g.val, hg4⟩ 0 Lv hmw (k0_off53_eq g)) $$ [FV0 Hw]
    · isplitl []; · iexact Hlv
      isplitl [FV0]; · iexact FV0
      iexact Hw
    iintro ⟨LV0, Hw⟩
    iapply (waitK m c u (half g.val) ⟨g.val, hg4⟩ 1 Lv hmw (k0_off56_eq g)) $$ [FK1 Hw]
    · isplitl []; · iexact Hlv
      isplitl [FK1]; · iexact FK1
      iexact Hw
    iintro ⟨LK1, Hw⟩
    iapply (waitV m c u (half g.val) ⟨g.val, hg4⟩ 1 Lv hmw (k0_off56_eq g)) $$ [FV1 Hw]
    · isplitl []; · iexact Hlv
      isplitl [FV1]; · iexact FV1
      iexact Hw
    iintro ⟨LV1, Hw⟩
    iapply (waitK m c u (half g.val) ⟨g.val, hg4⟩ 2 Lv hmw (k0_off58_eq g)) $$ [FK2 Hw]
    · isplitl []; · iexact Hlv
      isplitl [FK2]; · iexact FK2
      iexact Hw
    iintro ⟨LK2, Hw⟩
    iapply (waitV m c u (half g.val) ⟨g.val, hg4⟩ 2 Lv hmw (k0_off58_eq g)) $$ [FV2 Hw]
    · isplitl []; · iexact Hlv
      isplitl [FV2]; · iexact FV2
      iexact Hw
    iintro ⟨LV2, Hw⟩
    iapply (waitK m c u (half g.val) ⟨g.val, hg4⟩ 3 Lv hmw (k0_off60_eq g)) $$ [FK3 Hw]
    · isplitl []; · iexact Hlv
      isplitl [FK3]; · iexact FK3
      iexact Hw
    iintro ⟨LK3, Hw⟩
    iapply (waitV m c u (half g.val) ⟨g.val, hg4⟩ 3 Lv hmw (k0_off60_eq g)) $$ [FV3 Hw]
    · isplitl []; · iexact Hlv
      isplitl [FV3]; · iexact FV3
      iexact Hw
    iintro ⟨LV3, Hw⟩
    iapply (ldAll mX c) $$ HX
    iintro HX
    iapply (loadK m c u (half g.val) ⟨g.val, hg4⟩ (k0_off63_eq g)) $$ [LK0 LK1 LK2 LK3]
    · unfold Land4K
      isplitl [LK0]; · iexact LK0
      isplitl [LK1]; · iexact LK1
      isplitl [LK2]; · iexact LK2
      iexact LK3
    iintro LK
    unfold Land4K
    icases LK with ⟨LK0, LK1, LK2, LK3⟩
    iapply (loadV m c u (half g.val) ⟨g.val, hg4⟩ (k0_off63_eq g)) $$ [LV0 LV1 LV2 LV3]
    · unfold Land4V
      isplitl [LV0]; · iexact LV0
      isplitl [LV1]; · iexact LV1
      isplitl [LV2]; · iexact LV2
      iexact LV3
    iintro LV
    unfold Land4V
    icases LV with ⟨LV0, LV1, LV2, LV3⟩
    iapply (ldAll mO c) $$ HO
    iintro HO
    iapply (ldAll mO c) $$ HO
    iintro HO
    iapply (stAll mO c) $$ HO
    iintro HO
    simp only [wp_ret]
    imodintro
    isplitl []; · iexact Hlv
    isplitr [HX HO Hw]
    · rw [dif_pos (show g.val + 1 < 4 by omega)]
      isplitl [NK0 NV0 NK1 NV1 NK2 NV2 NK3 NV3]
      · isplitl [NK0]; · iexact NK0
        isplitl [NV0]; · iexact NV0
        isplitl [NK1]; · iexact NK1
        isplitl [NV1]; · iexact NV1
        isplitl [NK2]; · iexact NK2
        isplitl [NV2]; · iexact NV2
        isplitl [NK3]; · iexact NK3
        iexact NV3
      · rw [show half (g.val + 1 + 1) = half g.val from Fin.ext (by show (g.val + 1 + 1) % 2 = g.val % 2; omega)]
        isplitl [LK0]; · iapply landK_idle $$ LK0
        isplitl [LV0]; · iapply landV_idle $$ LV0
        isplitl [LK1]; · iapply landK_idle $$ LK1
        isplitl [LV1]; · iapply landV_idle $$ LV1
        isplitl [LK2]; · iapply landK_idle $$ LK2
        isplitl [LV2]; · iapply landV_idle $$ LV2
        isplitl [LK3]; · iapply landK_idle $$ LK3
        iapply landV_idle $$ LV3
    isplitl [HX]; · iexact HX
    isplitl [HO]
    · iapply (Entails.of_eq (congrArg (fun X => (mO.view.loc (tc c) ↦[Finset.univ]{fullShare} X : sProp 𝕄)) (out3_eq m c u xg wq wo o g hg4))) $$ HO
    iexact Hw
  · rw [dif_neg (fun h => hg ((cond8_iff g).1 h))]
    simp only [Prog.bind_op, Prog.bind_ret]
    iapply (waitK m c u (half g.val) ⟨g.val, hg4⟩ 0 Lv hmw (k0_off53_eq g)) $$ [FK0 Hw]
    · isplitl []; · iexact Hlv
      isplitl [FK0]; · iexact FK0
      iexact Hw
    iintro ⟨LK0, Hw⟩
    iapply (waitV m c u (half g.val) ⟨g.val, hg4⟩ 0 Lv hmw (k0_off53_eq g)) $$ [FV0 Hw]
    · isplitl []; · iexact Hlv
      isplitl [FV0]; · iexact FV0
      iexact Hw
    iintro ⟨LV0, Hw⟩
    iapply (waitK m c u (half g.val) ⟨g.val, hg4⟩ 1 Lv hmw (k0_off56_eq g)) $$ [FK1 Hw]
    · isplitl []; · iexact Hlv
      isplitl [FK1]; · iexact FK1
      iexact Hw
    iintro ⟨LK1, Hw⟩
    iapply (waitV m c u (half g.val) ⟨g.val, hg4⟩ 1 Lv hmw (k0_off56_eq g)) $$ [FV1 Hw]
    · isplitl []; · iexact Hlv
      isplitl [FV1]; · iexact FV1
      iexact Hw
    iintro ⟨LV1, Hw⟩
    iapply (waitK m c u (half g.val) ⟨g.val, hg4⟩ 2 Lv hmw (k0_off58_eq g)) $$ [FK2 Hw]
    · isplitl []; · iexact Hlv
      isplitl [FK2]; · iexact FK2
      iexact Hw
    iintro ⟨LK2, Hw⟩
    iapply (waitV m c u (half g.val) ⟨g.val, hg4⟩ 2 Lv hmw (k0_off58_eq g)) $$ [FV2 Hw]
    · isplitl []; · iexact Hlv
      isplitl [FV2]; · iexact FV2
      iexact Hw
    iintro ⟨LV2, Hw⟩
    iapply (waitK m c u (half g.val) ⟨g.val, hg4⟩ 3 Lv hmw (k0_off60_eq g)) $$ [FK3 Hw]
    · isplitl []; · iexact Hlv
      isplitl [FK3]; · iexact FK3
      iexact Hw
    iintro ⟨LK3, Hw⟩
    iapply (waitV m c u (half g.val) ⟨g.val, hg4⟩ 3 Lv hmw (k0_off60_eq g)) $$ [FV3 Hw]
    · isplitl []; · iexact Hlv
      isplitl [FV3]; · iexact FV3
      iexact Hw
    iintro ⟨LV3, Hw⟩
    iapply (ldAll mX c) $$ HX
    iintro HX
    iapply (loadK m c u (half g.val) ⟨g.val, hg4⟩ (k0_off63_eq g)) $$ [LK0 LK1 LK2 LK3]
    · unfold Land4K
      isplitl [LK0]; · iexact LK0
      isplitl [LK1]; · iexact LK1
      isplitl [LK2]; · iexact LK2
      iexact LK3
    iintro LK
    unfold Land4K
    icases LK with ⟨LK0, LK1, LK2, LK3⟩
    iapply (loadV m c u (half g.val) ⟨g.val, hg4⟩ (k0_off63_eq g)) $$ [LV0 LV1 LV2 LV3]
    · unfold Land4V
      isplitl [LV0]; · iexact LV0
      isplitl [LV1]; · iexact LV1
      isplitl [LV2]; · iexact LV2
      iexact LV3
    iintro LV
    unfold Land4V
    icases LV with ⟨LV0, LV1, LV2, LV3⟩
    iapply (ldAll mO c) $$ HO
    iintro HO
    iapply (ldAll mO c) $$ HO
    iintro HO
    iapply (stAll mO c) $$ HO
    iintro HO
    simp only [wp_ret]
    imodintro
    isplitl []; · iexact Hlv
    isplitr [HX HO Hw]
    · rw [dif_neg (show ¬ g.val + 1 < 4 by omega)]
      isplitl [IK0 IV0 IK1 IV1 IK2 IV2 IK3 IV3]
      · isplitl [IK0]; · iexact IK0
        isplitl [IV0]; · iexact IV0
        isplitl [IK1]; · iexact IK1
        isplitl [IV1]; · iexact IV1
        isplitl [IK2]; · iexact IK2
        isplitl [IV2]; · iexact IV2
        isplitl [IK3]; · iexact IK3
        iexact IV3
      · rw [show half (g.val + 1 + 1) = half g.val from Fin.ext (by show (g.val + 1 + 1) % 2 = g.val % 2; omega)]
        isplitl [LK0]; · iapply landK_idle $$ LK0
        isplitl [LV0]; · iapply landV_idle $$ LV0
        isplitl [LK1]; · iapply landK_idle $$ LK1
        isplitl [LV1]; · iapply landV_idle $$ LV1
        isplitl [LK2]; · iapply landK_idle $$ LK2
        isplitl [LV2]; · iapply landV_idle $$ LV2
        isplitl [LK3]; · iapply landK_idle $$ LK3
        iapply landV_idle $$ LV3
    isplitl [HX]; · iexact HX
    isplitl [HO]
    · iapply (Entails.of_eq (congrArg (fun X => (mO.view.loc (tc c) ↦[Finset.univ]{fullShare} X : sProp 𝕄)) (out3_eq m c u xg wq wo o g hg4))) $$ HO
    iexact Hw

theorem loop2 (m : (ℓ : Loc nD τ sig) → Buf (Elt F) ℓ) (c : Dev nD) (t1 : Fin k0_t1_loop.trips) (u : Fin 8)
    (hu : u.val = (c.val + 8 - t1.val) % 8) (Lv : sProp 𝕄) [Persistent Lv] {O : CellTallies nD τ sig ℕ}
    (hmw : ∀ s : DmaSem sig, 16 ≤ s.val → Lv ⊢ MayWait (tc c) (.dma s) 0 O)
    (xg : Buf (Elt F) (mX.view.loc (tc c))) (wq wo : FVec F S1024x1024 .bf16) (o : Buf (Elt F) (mO.view.loc (tc c)))
    (v62 : BitVec 32) {β : Type} {kk : Unit → Prog (TpuEff nD τ sig (Elt F) Λ₀ .tc) β} {Q : β → sProp 𝕄} :
    GI m c u Lv O xg wq wo o 0 ⊢ iprop((GI m c u Lv O xg wq wo o 4 -∗ wp frame (wpE defs₀ 𝒱₀ (tc c) none) Set.univ (kk ⟨⟩) Q)
      -∗ wp frame (wpE defs₀ 𝒱₀ (tc c) none) Set.univ
        (Scf.Loop.for k0_t2_loop k0_t2_ok ⟨⟩ (k0_t2_body (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c t1 v62 wq wo) >>= kk) Q) := by
  iintro H Hk
  iapply (Scf.wp_for_bind frame (wpE defs₀ 𝒱₀ (tc c) none) Set.univ _ _ _ k0_t2_ok (⟨⟩ : Unit) _ (fun k _ => GI m c u Lv O xg wq wo o k)
    (fun g _ => trip2 m c t1 u hu Lv hmw xg wq wo o v62 g)) $$ H
  iintro %acc H
  rw [show Scf.trips k0_t2_loop.lb k0_t2_loop.ub k0_t2_loop.st = 4 from trips2]
  iapply Hk
  iexact H

theorem loop3 (m : (ℓ : Loc nD τ sig) → Buf (Elt F) ℓ) (c : Dev nD) (t1 : Fin k0_t1_loop.trips) (u : Fin 8)
    (hu : u.val = (c.val + t1.val) % 8) (Lv : sProp 𝕄) [Persistent Lv] {O : CellTallies nD τ sig ℕ}
    (hmw : ∀ s : DmaSem sig, 16 ≤ s.val → Lv ⊢ MayWait (tc c) (.dma s) 0 O)
    (xg : Buf (Elt F) (mX.view.loc (tc c))) (wq wo : FVec F S1024x1024 .bf16) (o : Buf (Elt F) (mO.view.loc (tc c)))
    (h6 : k0_cond6 t1 = 1#1) (v148 : BitVec 32) (c0 : BitVec 32) (hc0 : c0 = 0#32) {β : Type} {kk : Unit → Prog (TpuEff nD τ sig (Elt F) Λ₀ .tc) β} {Q : β → sProp 𝕄} :
    GI m c u Lv O xg wq wo o 0 ⊢ iprop((GI m c u Lv O xg wq wo o 4 -∗ wp frame (wpE defs₀ 𝒱₀ (tc c) none) Set.univ (kk ⟨⟩) Q)
      -∗ wp frame (wpE defs₀ 𝒱₀ (tc c) none) Set.univ
        (Scf.Loop.for k0_t3_loop (k0_t3_ok t1 h6) ⟨⟩ (k0_t3_body (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c t1 h6 v148 wq wo c0) >>= kk) Q) := by
  iintro H Hk
  iapply (Scf.wp_for_bind frame (wpE defs₀ 𝒱₀ (tc c) none) Set.univ _ _ _ (k0_t3_ok t1 h6) (⟨⟩ : Unit) _ (fun k _ => GI m c u Lv O xg wq wo o k)
    (fun g _ => trip3 m c t1 u hu Lv hmw xg wq wo o h6 v148 c0 hc0 g)) $$ H
  iintro %acc H
  rw [show Scf.trips k0_t3_loop.lb k0_t3_loop.ub k0_t3_loop.st = 4 from trips3]
  iapply Hk
  iexact H

end Cert.RingProof
-- ==== Proof.Protocol.lean ====
/-
The ring's protocol: its cells, what each is paid and by whom, what each landing hands over, what every
device owes at each point, and the order in which cells are waited for.
-/
module

public import proofs.«01_k».proof.Proof.Consume

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Neighbours -/

def nxt (c : Dev nD) : Dev nD := ⟨(c.val + 1) % 8, Nat.mod_lt _ (by decide)⟩
def prv (c : Dev nD) : Dev nD := ⟨(c.val + 7) % 8, Nat.mod_lt _ (by decide)⟩
/-- The device `k` places to the left, and to the right. -/
def bk (k : ℕ) (c : Dev nD) : Dev nD := ⟨(c.val + 8 - k) % 8, Nat.mod_lt _ (by decide)⟩
def fw (k : ℕ) (c : Dev nD) : Dev nD := ⟨(c.val + k) % 8, Nat.mod_lt _ (by decide)⟩

theorem prv_nxt (c : Dev nD) : prv (nxt c) = c := by revert c; decide +kernel
theorem nxt_prv (c : Dev nD) : nxt (prv c) = c := by revert c; decide +kernel
theorem bk_zero (c : Dev nD) : bk 0 c = c := by revert c; decide +kernel
theorem fw_zero (c : Dev nD) : fw 0 c = c := by revert c; decide +kernel
theorem bk_nxt (k : Fin 4) (c : Dev nD) : bk (k.val + 1) (nxt c) = bk k.val c := by revert c k; decide +kernel
theorem fw_prv (k : Fin 4) (c : Dev nD) : fw (k.val + 1) (prv c) = fw k.val c := by revert c k; decide +kernel

/-! ## What the ring slots hold -/

/-- Device `j`'s projections, as the ring carries them. -/
def wqv (m : (ℓ : Loc nD τ sig) → Buf (Elt F) ℓ) (j : Dev nD) : FVec F S1024x1024 .bf16 :=
  truncf .bf16 (m ((Memref.whole main_arg1 : Memref sig .tc .hbm S1024x1024 .f32).view.loc (tc j)) : FVec F S1024x1024 .f32) bitsLt_bf16_f32
def wov (m : (ℓ : Loc nD τ sig) → Buf (Elt F) ℓ) (j : Dev nD) : FVec F S1024x1024 .bf16 :=
  truncf .bf16 (m ((Memref.whole main_arg4 : Memref sig .tc .hbm S1024x1024 .f32).view.loc (tc j)) : FVec F S1024x1024 .f32) bitsLt_bf16_f32

/-- The pair at an index of a slot: the query projection in row 0, the output projection in row 1. -/
def pairAt (m : (ℓ : Loc nD τ sig) → Buf (Elt F) ℓ) (j : Dev nD) (r : ℕ) (a b : Fin 1024) : Elt F .bf16 :=
  if r = 0 then wqv m j (ix2 a b) else wov m j (ix2 a b)

/-- The pair at an index of a ring buffer, whatever the slot. -/
def cP (m : (ℓ : Loc nD τ sig) → Buf (Elt F) ℓ) (j : Dev nD) (i : S3x2x1024x1024.Idx) : Elt F .bf16 :=
  pairAt m j (i 1).val (⟨(i 2).val, (i 2).isLt⟩ : Fin 1024) (⟨(i 3).val, (i 3).isLt⟩ : Fin 1024)

/-- A ring buffer all of whose slots hold device `j`'s pair. -/
def cR (m : (ℓ : Loc nD τ sig) → Buf (Elt F) ℓ) (c j : Dev nD) : Buf (Elt F) (mR.view.loc (tc c)) :=
  fun i => cP m j (i : S3x2x1024x1024.Idx)
def cL (m : (ℓ : Loc nD τ sig) → Buf (Elt F) ℓ) (c j : Dev nD) : Buf (Elt F) (mL.view.loc (tc c)) :=
  fun i => cP m j (i : S3x2x1024x1024.Idx)

/-- Slot `s` of device `c`'s right-going buffer holding device `j`'s pair, at a share; the same, at any contents. -/
def rIs (m : (ℓ : Loc nD τ sig) → Buf (Elt F) ℓ) (c : Dev nD) (s : Fin 3) (q : PosShare TreeShare) (j : Dev nD) : sProp 𝕄 :=
  iprop((slotM mR s).view.loc (tc c) ↦[(slotM mR s).view.set]{q} cR m c j)
def lIs (m : (ℓ : Loc nD τ sig) → Buf (Elt F) ℓ) (c : Dev nD) (s : Fin 3) (q : PosShare TreeShare) (j : Dev nD) : sProp 𝕄 :=
  iprop((slotM mL s).view.loc (tc c) ↦[(slotM mL s).view.set]{q} cL m c j)
def rAny (c : Dev nD) (s : Fin 3) : sProp 𝕄 :=
  iprop(∃ f, (slotM mR s).view.loc (tc c) ↦[(slotM mR s).view.set]{fullShare} f)
def lAny (c : Dev nD) (s : Fin 3) : sProp 𝕄 :=
  iprop(∃ f, (slotM mL s).view.loc (tc c) ↦[(slotM mL s).view.set]{fullShare} f)

theorem rIs_any {m c s j} : rIs (F := F) m c s fullShare j ⊢ rAny c s := by
  unfold rIs rAny; iintro H; iexists _; iexact H
theorem lIs_any {m c s j} : lIs (F := F) m c s fullShare j ⊢ lAny c s := by
  unfold lIs lAny; iintro H; iexists _; iexact H

abbrev shL : PosShare TreeShare := fullShare.left
abbrev shR : PosShare TreeShare := fullShare.right
abbrev shRL : PosShare TreeShare := fullShare.right.left
abbrev shRR : PosShare TreeShare := fullShare.right.right

theorem rIs_halves {m c s j} : rIs (F := F) m c s fullShare j ⊣⊢ iprop(rIs m c s shL j ∗ rIs m c s shR j) :=
  pointsTo_share fullShare.mem_left_op_right
theorem lIs_halves {m c s j} : lIs (F := F) m c s fullShare j ⊣⊢ iprop(lIs m c s shL j ∗ lIs m c s shR j) :=
  pointsTo_share fullShare.mem_left_op_right
theorem rIs_quarters {m c s j} : rIs (F := F) m c s shR j ⊣⊢ iprop(rIs m c s shRL j ∗ rIs m c s shRR j) :=
  pointsTo_share fullShare.right.mem_left_op_right

/-! ## The cells -/

abbrev barS : Sem sig := ((SemArray.scalar (sig.barrier 0 rfl) : Sems sig S_)).sem

/-- Cell `i` of a device: 0 the entry barrier, 1 the credit, 2–5 the right-going sends, 6–9 the right-going
    arrivals, 10–12 the left-going sends, 13–15 the left-going arrivals. -/
def csem (i : Fin 16) : SemLoc sig :=
  if i.val = 0 then .reg barS else if i.val = 1 then .reg cc0_scratch13.sem else .dma ⟨i.val, lt_of_lt_of_le i.isLt (by decide)⟩

abbrev kcell (c : Dev nD) (i : Fin 16) : GSem nD τ sig := (tc c, csem i)

/-- The number of a cell among the sixteen; 99 and above for the others. -/
def semIx : SemLoc sig → ℕ
  | .reg s => if s = barS then 0 else 1
  | .dma q => if q.val < 2 then 99 else q.val

theorem semIx_csem (i : Fin 16) : semIx (csem i) = i.val := by revert i; decide +kernel
theorem csem_inj : Function.Injective csem := fun i j h => Fin.ext (by rw [← semIx_csem i, h, semIx_csem])
theorem kcell_inj : Function.Injective (fun p : Dev nD × Fin 16 => kcell p.1 p.2) := by
  rintro ⟨c, i⟩ ⟨c', i'⟩ h
  have h1 := congrArg (fun g : GSem nD τ sig => g.1.1) h
  have h2 : csem i = csem i' := congrArg Prod.snd h
  exact Prod.ext h1 (csem_inj h2)

/-! ## The schedule -/

/-- What one pair's copy counts. -/
def NW : ℕ := (slotM mR 0).view.dmaCredit
theorem NW_pos : 0 < NW := View.dmaCredit_pos _ (by decide)

/-- What the payments of cell `i` of device `c` hand over. -/
def payload (m : (ℓ : Loc nD τ sig) → Buf (Elt F) ℓ) (c : Dev nD) : ℕ → Bool → sProp 𝕄
  | 0, false => iprop(rAny (nxt c) 1 ∗ rAny (nxt c) 2)
  | 0, true => iprop(lAny (prv c) 0 ∗ lAny (prv c) 1 ∗ lAny (prv c) 2)
  | 1, false => Release.released EK (nxt c, (0 : Fin 2)) 1
  | 1, true => iprop(Release.released EK (nxt c, (0 : Fin 2)) 1 ∗ Release.released EK (nxt c, (1 : Fin 2)) 1)
  | 2, _ => rIs m c 0 shRL (bk 0 c)
  | 3, _ => rIs m c 1 shR (bk 1 c)
  | 4, _ => rIs m c 2 shR (bk 2 c)
  | 5, _ => rIs m c 0 shR (bk 3 c)
  | 6, _ => rIs m c 1 fullShare (bk 1 c)
  | 7, _ => rIs m c 2 fullShare (bk 2 c)
  | 8, _ => rIs m c 0 fullShare (bk 3 c)
  | 9, _ => rIs m c 1 fullShare (bk 4 c)
  | 10, _ => rIs m c 0 shRR (bk 0 c)
  | 11, _ => lIs m c 1 shR (fw 1 c)
  | 12, _ => lIs m c 2 shR (fw 2 c)
  | 13, _ => lIs m c 1 fullShare (fw 1 c)
  | 14, _ => lIs m c 2 fullShare (fw 2 c)
  | 15, _ => lIs m c 0 fullShare (fw 3 c)
  | _, _ => iprop(emp)

instance rIs_storable (m : (ℓ : Loc nD τ sig) → Buf (Elt F) ℓ) (c s q j) : BI.Storable (upEmb : UEmb _ 𝕄) (rIs (F := F) m c s q j) := by
  unfold rIs; infer_instance
instance lIs_storable (m : (ℓ : Loc nD τ sig) → Buf (Elt F) ℓ) (c s q j) : BI.Storable (upEmb : UEmb _ 𝕄) (lIs (F := F) m c s q j) := by
  unfold lIs; infer_instance
instance rAny_storable (c s) : BI.Storable (upEmb : UEmb _ 𝕄) (rAny (F := F) c s) := by
  unfold rAny; infer_instance
instance lAny_storable (c s) : BI.Storable (upEmb : UEmb _ 𝕄) (lAny (F := F) c s) := by
  unfold lAny; infer_instance

/-- One round: the barrier and the credit are paid one unit twice, the other cells a pair's copy once. -/
def ringRd (m : (ℓ : Loc nD τ sig) → Buf (Elt F) ℓ) : Rounds.Schedule (GSem nD τ sig) Bool 𝕄 where
  duties g r := if r = 0 ∧ g.1.2 = .tc ∧ semIx g.2 < 16 then (if semIx g.2 ≤ 1 then Finset.univ else {false}) else ∅
  unitless _ := False
  amount g _ _ := if semIx g.2 ≤ 1 then 1 else NW
  payload g _ d := payload m g.1.1 (semIx g.2) d
  amount_pos g _ _ _ := by
    by_cases h : semIx g.2 ≤ 1
    · rw [if_pos h]; exact Nat.one_pos
    · rw [if_neg h]; exact NW_pos

instance payload_storable (m : (ℓ : Loc nD τ sig) → Buf (Elt F) ℓ) (g : GSem nD τ sig) (r : ℕ) (d : Bool) :
    BI.Storable (upEmb : UEmb _ 𝕄) ((ringRd (F := F) m).payload g r d) := by
  show BI.Storable upEmb (payload m g.1.1 (semIx g.2) d)
  unfold payload
  split <;> infer_instance

section Sched
variable (m : (ℓ : Loc nD τ sig) → Buf (Elt F) ℓ) (c : Dev nD) (i : Fin 16)

theorem duties_two (h : i.val ≤ 1) : (ringRd (F := F) m).duties (kcell c i) 0 = Finset.univ := by
  show (if (0 : ℕ) = 0 ∧ (kcell c i).1.2 = .tc ∧ semIx (csem i) < 16 then (if semIx (csem i) ≤ 1 then Finset.univ else {false}) else ∅) = _
  rw [semIx_csem, if_pos ⟨rfl, rfl, i.isLt⟩, if_pos h]
theorem duties_one (h : 2 ≤ i.val) : (ringRd (F := F) m).duties (kcell c i) 0 = {false} := by
  show (if (0 : ℕ) = 0 ∧ (kcell c i).1.2 = .tc ∧ semIx (csem i) < 16 then (if semIx (csem i) ≤ 1 then Finset.univ else {false}) else ∅) = _
  rw [semIx_csem, if_pos ⟨rfl, rfl, i.isLt⟩, if_neg (by omega)]
theorem duties_later (g : GSem nD τ sig) : ∀ r, 1 ≤ r → (ringRd (F := F) m).duties g r = ∅ :=
  fun r hr => if_neg fun h => by omega
theorem amount_two (h : i.val ≤ 1) (d : Bool) : (ringRd (F := F) m).amount (kcell c i) 0 d = 1 := by
  show (if semIx (csem i) ≤ 1 then 1 else NW) = 1
  rw [semIx_csem, if_pos h]
theorem amount_one (h : 2 ≤ i.val) (d : Bool) : (ringRd (F := F) m).amount (kcell c i) 0 d = NW := by
  show (if semIx (csem i) ≤ 1 then 1 else NW) = NW
  rw [semIx_csem, if_neg (by omega)]
theorem expect_two (h : i.val ≤ 1) : (ringRd (F := F) m).expect (kcell c i) 0 = 2 := by
  unfold Schedule.expect Schedule.amountOf
  rw [duties_two m c i h, Finset.sum_congr rfl fun d _ => amount_two m c i h d, Finset.sum_const, Finset.card_univ, Fintype.card_bool, smul_eq_mul]
theorem expect_one (h : 2 ≤ i.val) : (ringRd (F := F) m).expect (kcell c i) 0 = NW := by
  unfold Schedule.expect Schedule.amountOf
  rw [duties_one m c i h, Finset.sum_singleton, amount_one m c i h]
theorem payload_at (d : Bool) : (ringRd (F := F) m).payload (kcell c i) 0 d = payload m c i.val d := by
  show payload m c (semIx (csem i)) d = _
  rw [semIx_csem]
theorem rest_one (h : 2 ≤ i.val) : bigSep ((ringRd (F := F) m).duties (kcell c i) 0 \ ∅) (fun d => (ringRd (F := F) m).payload (kcell c i) 0 d)
    = payload m c i.val false := by
  rw [Finset.sdiff_empty, duties_one m c i h, bigSep_singleton, payload_at]
theorem rest_two (h : i.val ≤ 1) : bigSep ((ringRd (F := F) m).duties (kcell c i) 0 \ ∅) (fun d => (ringRd (F := F) m).payload (kcell c i) 0 d)
    = iprop(payload m c i.val false ∗ payload m c i.val true) := by
  rw [Finset.sdiff_empty, duties_two m c i h, bigSep_univ_eq_bigSepL [false, true] (by decide) (by decide), bigSepL_cons_cons, bigSepL_singleton,
    payload_at, payload_at]
  rfl

end Sched

/-! ## What a device owes, in the order it pays, last first -/

def payS : ℕ → Fin 16
  | 0 => 9 | 1 => 1 | 2 => 15 | 3 => 8 | 4 => 1 | 5 => 14 | 6 => 7 | 7 => 13 | 8 => 6 | _ => 0
/-- Whether payment `k` goes to the right. -/
def payR : ℕ → Bool
  | 0 => true | 3 => true | 6 => true | 8 => true | 9 => true | _ => false
def payI : ℕ → ℕ
  | 1 => 1 | _ => 0
def payA (k : ℕ) : ℕ := if (payS k).val ≤ 1 then 1 else NW
def payD (c : Dev nD) (k : ℕ) : Dev nD := if payR k then nxt c else prv c

/-- What is owed with the last `k` payments outstanding. -/
def Od (c : Dev nD) : ℕ → CellTallies nD τ sig ℕ
  | 0 => 0
  | k + 1 => Od c k + tallyAt (kcell (payD c k) (payS k)) (payI k) (payA k)

theorem Od_pos (c : Dev nD) (k : ℕ) {g : GSem nD τ sig} {u : ℕ} (h : 0 < Od c k g u) :
    ∃ k', k' < k ∧ g = kcell (payD c k') (payS k') ∧ u = payI k' := by
  induction k with
  | zero => exact absurd h (Nat.lt_irrefl 0)
  | succ k ih =>
    have h' : 0 < Od c k g u + tallyAt (kcell (payD c k) (payS k)) (payI k) (payA k) g u := h
    rw [tallyAt_apply] at h'
    by_cases hg : g = kcell (payD c k) (payS k) ∧ u = payI k
    · exact ⟨k, Nat.lt_succ_self k, hg⟩
    · rw [if_neg hg, Nat.add_zero] at h'
      obtain ⟨k', hk, hk'⟩ := ih h'
      exact ⟨k', Nat.lt_succ_of_lt hk, hk'⟩

/-! ## Levels -/

def lvN : ℕ → ℕ → ℕ
  | 0, _ => 1
  | 1, 0 => 4
  | 1, _ => 6
  | 2, _ => 3 | 3, _ => 5 | 4, _ => 6 | 5, _ => 6
  | 6, _ => 2 | 7, _ => 3 | 8, _ => 5 | 9, _ => 7
  | 10, _ => 3 | 11, _ => 5 | 12, _ => 6
  | 13, _ => 2 | 14, _ => 3 | 15, _ => 5
  | _, _ => 0

def L (g : GSem nD τ sig) : Finset ℕ := if g.1.2 = .tc then {0, 1} else ∅
def lv (g : GSem nD τ sig) (u : ℕ) : ℕ := lvN (semIx g.2) u

theorem L_of_ne (g : GSem nD τ sig) (h : g.1.2 ≠ .tc) : L g = ∅ := if_neg h
theorem L_tc (c : Dev nD) (sm : SemLoc sig) : L (tc c, sm) = {0, 1} := if_pos rfl
theorem payI_mem (k : ℕ) : payI k ∈ ({0, 1} : Finset ℕ) := by
  unfold payI; split <;> decide

theorem mayWait_lv (c : Dev nD) (sm : SemLoc sig) (u k : ℕ) (hu : u = 0 ∨ u = 1)
    (h : ∀ k' < k, lvN (semIx sm) u < lvN (payS k').val (payI k')) :
    (levAts L lv : sProp 𝕄) ⊢ MayWait (tc c) sm u (Od c k) :=
  MayOwe.of_cut (L := L) (lev := lv) (lvN (semIx sm) u)
    (fun p hp => by rw [Finset.mem_singleton.mp hp, L_tc]; show u ∈ ({0, 1} : Finset ℕ); rcases hu with rfl | rfl <;> decide)
    (fun g u' hg => by
      obtain ⟨k', -, rfl, rfl⟩ := Od_pos c k hg
      rw [L_tc]; exact payI_mem k')
    (fun p hp => by rw [Finset.mem_singleton.mp hp]; exact le_rfl)
    (fun g u' hg => by
      obtain ⟨k', hk, rfl, rfl⟩ := Od_pos c k hg
      show _ < lvN (semIx (csem (payS k'))) _
      rw [semIx_csem]; exact h k' hk)

theorem mayWait_cell (c : Dev nD) (i : Fin 16) (u k : ℕ) (hu : u = 0 ∨ u = 1)
    (h : ∀ k' < k, lvN i.val u < lvN (payS k').val (payI k')) :
    (levAts L lv : sProp 𝕄) ⊢ MayWait (tc c) (csem i) u (Od c k) :=
  mayWait_lv c (csem i) u k hu (by rw [semIx_csem]; exact h)

theorem lvN_pos (k' : ℕ) (h : k' < 11) : 0 < lvN (payS k').val (payI k') := by
  revert k' h; decide

/-- The copies that stay on the device are waited for whatever is owed. -/
theorem mayWait_local (c : Dev nD) (q : DmaSem sig) (hq : 16 ≤ q.val ∨ q.val < 2) (k : ℕ) (hk : k ≤ 11) :
    (levAts L lv : sProp 𝕄) ⊢ MayWait (tc c) (.dma q) 0 (Od c k) := by
  refine mayWait_lv c (.dma q) 0 k (.inl rfl) fun k' hk' => ?_
  have h0 : lvN (semIx (.dma q)) 0 = 0 := by
    revert q; decide +kernel
  rw [h0]; exact lvN_pos k' (by omega)

end Cert.RingProof
-- ==== Proof.Slots.lean ====
/-
The ring's operations, each as one step: loading a row of a slot, sending a slot to a neighbour, waiting for
a slot, and the credits that give a slot back.
-/
module

public import proofs.«01_k».proof.Proof.Protocol
public import Idealize.ShloMosaic.Lib.ValueLayout

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem bigSep_get {I : Type} [DecidableEq I] {s : Finset I} {i : I} (h : i ∈ s) {Φ : I → sProp 𝕄} : (bigSep s Φ : sProp 𝕄) ⊢ Φ i := bigSep_elim h

/-! ## What all devices know -/

abbrev slotNo (i : Fin 2) : Fin 3 := ⟨i.val, by omega⟩
/-- A ring slot that is given back. -/
abbrev Sl (k : Dev nD × Fin 2) : sProp 𝕄 := rAny (F := F) k.1 (slotNo k.2)

def Env (m : (ℓ : Loc nD τ sig) → Buf (Elt F) ℓ) (K : Dev nD × Fin 16 → ℕ) (KR : Dev nD × Fin 2 → ℕ) : sProp 𝕄 :=
  iprop(bigSep Finset.univ (fun p : Dev nD × Fin 16 => cellInv ER (ringRd m) (K p) (kcell p.1 p.2))
    ∗ bigSep Finset.univ (fun p : Dev nD × Fin 16 => reached ER (kcell p.1 p.2) 0)
    ∗ bigSep Finset.univ (fun k : Dev nD × Fin 2 => Release.slotInv EK (KR k) k (Sl k))
    ∗ levAts L lv)

instance Env_persistent (m : (ℓ : Loc nD τ sig) → Buf (Elt F) ℓ) (K KR) : Persistent (Env (F := F) m K KR) := by
  unfold Env; infer_instance

section Env
variable {m : (ℓ : Loc nD τ sig) → Buf (Elt F) ℓ} {K : Dev nD × Fin 16 → ℕ} {KR : Dev nD × Fin 2 → ℕ}

theorem env_inv (c : Dev nD) (i : Fin 16) : Env (F := F) m K KR ⊢ cellInv ER (ringRd m) (K (c, i)) (kcell c i) := by
  have h := bigSep_get (Φ := fun p : Dev nD × Fin 16 => cellInv ER (ringRd (F := F) m) (K p) (kcell p.1 p.2)) (Finset.mem_univ (c, i))
  unfold Env
  iintro ⟨H, -, -, -⟩
  iapply h $$ H
theorem env_reached (c : Dev nD) (i : Fin 16) : Env (F := F) m K KR ⊢ reached ER (kcell c i) 0 := by
  have h := bigSep_get (Φ := fun p : Dev nD × Fin 16 => (reached ER (kcell p.1 p.2) 0 : sProp 𝕄)) (Finset.mem_univ (c, i))
  unfold Env
  iintro ⟨-, H, -, -⟩
  iapply h $$ H
theorem env_slot (k : Dev nD × Fin 2) : Env (F := F) m K KR ⊢ Release.slotInv EK (KR k) k (Sl k) := by
  have h := bigSep_get (Φ := fun k : Dev nD × Fin 2 => Release.slotInv EK (KR k) k (Sl (F := F) k)) (Finset.mem_univ k)
  unfold Env
  iintro ⟨-, -, H, -⟩
  iapply h $$ H
theorem env_lev : Env (F := F) m K KR ⊢ levAts L lv := by
  unfold Env
  iintro ⟨-, -, -, H⟩
  iexact H

end Env

/-! ## The elements of a slot -/

theorem mem_slot (M : Memref sig .tc .vmem S3x2x1024x1024 .bf16) (i : S3x2x1024x1024.Idx) (s : Fin 3) :
    i ∈ (Rect.unit (s := S3x2x1024x1024) ![s.val, 0, 0, 0] S1x2x1024x1024.size (slot_inb s)).set ↔ (i 0).val = s.val := by
  rw [Rect.mem_set_unit]
  constructor
  · intro h
    have h0 : s.val ≤ (i 0).val ∧ (i 0).val < s.val + 1 := h 0
    omega
  · intro h a
    fin_cases a
    · show s.val ≤ (i 0).val ∧ (i 0).val < s.val + 1
      omega
    · exact ⟨Nat.zero_le _, by have : (i 1).val < 2 := (i 1).isLt; show (i 1).val < 0 + 2; omega⟩
    · exact ⟨Nat.zero_le _, by have : (i 2).val < 1024 := (i 2).isLt; show (i 2).val < 0 + 1024; omega⟩
    · exact ⟨Nat.zero_le _, by have : (i 3).val < 1024 := (i 3).isLt; show (i 3).val < 0 + 1024; omega⟩

theorem set_slotR (s : Fin 3) : ((slotM mR s).view.set : Finset S3x2x1024x1024.Idx)
    = (Rect.unit (s := S3x2x1024x1024) ![s.val, 0, 0, 0] S1x2x1024x1024.size (slot_inb s)).set :=
  (View.set_reshape _ _).trans (View.set_slice_whole _ _)
theorem set_slotL (s : Fin 3) : ((slotM mL s).view.set : Finset S3x2x1024x1024.Idx)
    = (Rect.unit (s := S3x2x1024x1024) ![s.val, 0, 0, 0] S1x2x1024x1024.size (slot_inb s)).set :=
  (View.set_reshape _ _).trans (View.set_slice_whole _ _)
theorem mem_slotR (s : Fin 3) (i : S3x2x1024x1024.Idx) : i ∈ ((slotM mR s).view.set : Finset S3x2x1024x1024.Idx) ↔ (i 0).val = s.val := by
  rw [set_slotR, mem_slot mR]
theorem mem_slotL (s : Fin 3) (i : S3x2x1024x1024.Idx) : i ∈ ((slotM mL s).view.set : Finset S3x2x1024x1024.Idx) ↔ (i 0).val = s.val := by
  rw [set_slotL, mem_slot mL]

/-! ## Loading a row -/

/-- Row `r` of device `j`'s pair, as a load of one row gives it. -/
def rowOf (m : (ℓ : Loc nD τ sig) → Buf (Elt F) ℓ) (j : Dev nD) (r : Fin 2) : Vec F S1x1x1024x1024 .bf16 :=
  fun i => pairAt m j r.val (⟨(i 2).val, (i 2).isLt⟩ : Fin 1024) (⟨(i 3).val, (i 3).isLt⟩ : Fin 1024)

theorem ix2_eta' (i : S1024x1024.Idx) : i = (ix2 (⟨(i 0).val, (i 0).isLt⟩ : Fin 1024) (⟨(i 1).val, (i 1).isLt⟩ : Fin 1024) : S1024x1024.Idx) := by
  funext a; fin_cases a <;> rfl

theorem pay14_row (m : (ℓ : Loc nD τ sig) → Buf (Elt F) ℓ) (j : Dev nD) : k0_pay14 (rowOf m j 0) = wqv m j := by
  funext i
  rw [ix2_eta' i]
  show rowOf m j 0 (Shape.reshapeEquiv _ _) = _
  rw [reshapeEquiv_ix2_11ab]
  rfl
theorem pay15_row (m : (ℓ : Loc nD τ sig) → Buf (Elt F) ℓ) (j : Dev nD) : k0_pay15 (rowOf m j 1) = wov m j := by
  funext i
  rw [ix2_eta' i]
  show rowOf m j 1 (Shape.reshapeEquiv _ _) = _
  rw [reshapeEquiv_ix2_11ab]
  rfl
theorem pay12_row (m : (ℓ : Loc nD τ sig) → Buf (Elt F) ℓ) (j : Dev nD) : k0_pay12 (rowOf m j 0) = wqv m j := pay14_row m j
theorem pay13_row (m : (ℓ : Loc nD τ sig) → Buf (Elt F) ℓ) (j : Dev nD) : k0_pay13 (rowOf m j 1) = wov m j := pay15_row m j
theorem pay16_row (m : (ℓ : Loc nD τ sig) → Buf (Elt F) ℓ) (j : Dev nD) :
    k0_pay16 (m ((Memref.whole main_arg1 : Memref sig .tc .hbm S1024x1024 .f32).view.loc (tc j)) : FVec F S1024x1024 .f32) = rowOf m j 0 := by
  have h := congrArg (fun v => shapeCast S1x1x1024x1024 v shapeCasts_S1024x1024_S1x1x1024x1024) (pay14_row m j)
  refine Eq.trans h.symm ?_
  exact shapeCast_shapeCast _ _ _
theorem pay17_row (m : (ℓ : Loc nD τ sig) → Buf (Elt F) ℓ) (j : Dev nD) :
    k0_pay17 (m ((Memref.whole main_arg4 : Memref sig .tc .hbm S1024x1024 .f32).view.loc (tc j)) : FVec F S1024x1024 .f32) = rowOf m j 1 := by
  have h := congrArg (fun v => shapeCast S1x1x1024x1024 v shapeCasts_S1024x1024_S1x1x1024x1024) (pay15_row m j)
  refine Eq.trans h.symm ?_
  exact shapeCast_shapeCast _ _ _

theorem row_inb (s : Fin 3) (r : Fin 2) :
    ∀ a, (![s.val, r.val, 0, 0] : Fin 4 → Nat) a + S1x1x1024x1024.size a ≤ S3x2x1024x1024.size a := by
  revert s r; decide +kernel

theorem row_subR (s : Fin 3) (r : Fin 2) :
    ((mR.access (Rect.unit (s := S3x2x1024x1024) ![s.val, r.val, 0, 0] S1x1x1024x1024.size (row_inb s r))).set : Finset S3x2x1024x1024.Idx)
      ⊆ (slotM mR s).view.set := by
  intro i hi
  rw [show ((mR.access (Rect.unit (s := S3x2x1024x1024) ![s.val, r.val, 0, 0] S1x1x1024x1024.size (row_inb s r))).set : Finset S3x2x1024x1024.Idx)
    = (Rect.unit (s := S3x2x1024x1024) ![s.val, r.val, 0, 0] S1x1x1024x1024.size (row_inb s r)).set from View.set_slice_whole _ _, Rect.mem_set_unit] at hi
  have h0 : s.val ≤ (i 0).val ∧ (i 0).val < s.val + 1 := hi 0
  exact (mem_slotR s i).2 (by omega)

theorem read_rowR (m : (ℓ : Loc nD τ sig) → Buf (Elt F) ℓ) (c j : Dev nD) (s : Fin 3) (r : Fin 2) :
    (mR.access (Rect.unit (s := S3x2x1024x1024) ![s.val, r.val, 0, 0] S1x1x1024x1024.size (row_inb s r))).read (Elt F) (cR m c j) = rowOf m j r := by
  funext i
  show pairAt m j (r.val + 1 * (i 1).val) _ _ = pairAt m j r.val _ _
  have h1 : (i 1).val < 1 := (i 1).isLt
  have e1 : r.val + 1 * (i 1).val = r.val := by omega
  rw [e1]
  congr 1
  · apply Fin.ext
    show 0 + 1 * (i 2).val = (i 2).val
    omega
  · apply Fin.ext
    show 0 + 1 * (i 3).val = (i 3).val
    omega

theorem loadR (m : (ℓ : Loc nD τ sig) → Buf (Elt F) ℓ) (c j : Dev nD) (s : Fin 3) (r : Fin 2) (q : PosShare TreeShare)
    {o : Fin 4 → Nat} (ho : o = ![s.val, r.val, 0, 0]) {p : ∀ a, o a + S1x1x1024x1024.size a ≤ S3x2x1024x1024.size a} {hl}
    {α : Type} {k : Vec F S1x1x1024x1024 .bf16 → Prog (TpuEff nD τ sig (Elt F) Λ₀ .tc) α} {Q : α → sProp 𝕄} :
    rIs m c s q j ⊢ iprop((rIs m c s q j -∗ wp frame (wpE defs₀ 𝒱₀ (tc c) none) Set.univ (k (rowOf m j r)) Q)
      -∗ wp frame (wpE defs₀ 𝒱₀ (tc c) none) Set.univ
        (.op (.load mR (Rect.unit (s := S3x2x1024x1024) o S1x1x1024x1024.size p).toLoadRect hl) k) Q) := by
  subst ho
  unfold rIs
  iintro H Hk
  iapply (wp_load_rect 𝒱₀ (tc c) none Set.univ (m := mR) (r := Rect.unit (s := S3x2x1024x1024) ![s.val, r.val, 0, 0] S1x1x1024x1024.size p) (row_subR s r)) $$ H
  iintro H
  rw [read_rowR]
  iapply Hk
  iexact H

theorem row_subL (s : Fin 3) (r : Fin 2) :
    ((mL.access (Rect.unit (s := S3x2x1024x1024) ![s.val, r.val, 0, 0] S1x1x1024x1024.size (row_inb s r))).set : Finset S3x2x1024x1024.Idx)
      ⊆ (slotM mL s).view.set := by
  intro i hi
  rw [show ((mL.access (Rect.unit (s := S3x2x1024x1024) ![s.val, r.val, 0, 0] S1x1x1024x1024.size (row_inb s r))).set : Finset S3x2x1024x1024.Idx)
    = (Rect.unit (s := S3x2x1024x1024) ![s.val, r.val, 0, 0] S1x1x1024x1024.size (row_inb s r)).set from View.set_slice_whole _ _, Rect.mem_set_unit] at hi
  have h0 : s.val ≤ (i 0).val ∧ (i 0).val < s.val + 1 := hi 0
  exact (mem_slotL s i).2 (by omega)

theorem read_rowL (m : (ℓ : Loc nD τ sig) → Buf (Elt F) ℓ) (c j : Dev nD) (s : Fin 3) (r : Fin 2) :
    (mL.access (Rect.unit (s := S3x2x1024x1024) ![s.val, r.val, 0, 0] S1x1x1024x1024.size (row_inb s r))).read (Elt F) (cL m c j) = rowOf m j r := by
  funext i
  show pairAt m j (r.val + 1 * (i 1).val) _ _ = pairAt m j r.val _ _
  have h1 : (i 1).val < 1 := (i 1).isLt
  have e1 : r.val + 1 * (i 1).val = r.val := by omega
  rw [e1]
  congr 1
  · apply Fin.ext
    show 0 + 1 * (i 2).val = (i 2).val
    omega
  · apply Fin.ext
    show 0 + 1 * (i 3).val = (i 3).val
    omega

theorem loadL (m : (ℓ : Loc nD τ sig) → Buf (Elt F) ℓ) (c j : Dev nD) (s : Fin 3) (r : Fin 2) (q : PosShare TreeShare)
    {o : Fin 4 → Nat} (ho : o = ![s.val, r.val, 0, 0]) {p : ∀ a, o a + S1x1x1024x1024.size a ≤ S3x2x1024x1024.size a} {hl}
    {α : Type} {k : Vec F S1x1x1024x1024 .bf16 → Prog (TpuEff nD τ sig (Elt F) Λ₀ .tc) α} {Q : α → sProp 𝕄} :
    lIs m c s q j ⊢ iprop((lIs m c s q j -∗ wp frame (wpE defs₀ 𝒱₀ (tc c) none) Set.univ (k (rowOf m j r)) Q)
      -∗ wp frame (wpE defs₀ 𝒱₀ (tc c) none) Set.univ
        (.op (.load mL (Rect.unit (s := S3x2x1024x1024) o S1x1x1024x1024.size p).toLoadRect hl) k) Q) := by
  subst ho
  unfold lIs
  iintro H Hk
  iapply (wp_load_rect 𝒱₀ (tc c) none Set.univ (m := mL) (r := Rect.unit (s := S3x2x1024x1024) ![s.val, r.val, 0, 0] S1x1x1024x1024.size p) (row_subL s r)) $$ H
  iintro H
  rw [read_rowL]
  iapply Hk
  iexact H
end Cert.RingProof
-- ==== Proof.Sends.lean ====
/-
Sending a slot to a neighbour and waiting for one.
-/
module

public import proofs.«01_k».proof.Proof.Slots

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem cP_slot (m : (ℓ : Loc nD τ sig) → Buf (Elt F) ℓ) (j : Dev nD) (s s' : Fin 3) (y : S1x2x1024x1024.Idx) :
    cP m j ((Rect.unit (s := S3x2x1024x1024) ![s.val, 0, 0, 0] S1x2x1024x1024.size (slot_inb s)).emb y)
      = cP m j ((Rect.unit (s := S3x2x1024x1024) ![s'.val, 0, 0, 0] S1x2x1024x1024.size (slot_inb s')).emb y) := rfl

theorem readGR (c : Dev nD) (f : Buf (Elt F) (mR.view.loc (tc c))) (s : Fin 3) (x : S2x1024x1024.Idx) :
    (slotM mR s).view.read (Elt F) f x = (f : S3x2x1024x1024.Idx → Elt F .bf16) ((slotM mR s).view.emb x : S3x2x1024x1024.Idx) := rfl
theorem readGL (c : Dev nD) (f : Buf (Elt F) (mL.view.loc (tc c))) (s : Fin 3) (x : S2x1024x1024.Idx) :
    (slotM mL s).view.read (Elt F) f x = (f : S3x2x1024x1024.Idx → Elt F .bf16) ((slotM mL s).view.emb x : S3x2x1024x1024.Idx) := rfl
theorem writeGR (n : Dev nD) (s : Fin 3) (fd : Buf (Elt F) (mR.view.loc (tc n))) (w : S2x1024x1024.Idx → Elt F .bf16) (x : S2x1024x1024.Idx) :
    (slotM mR s).view.write (Elt F) fd w Finset.univ ((slotM mR s).view.emb x) = w x := by
  rw [View.write_emb_of_mem _ _ (Finset.mem_univ x)]
  rfl
theorem writeGL (n : Dev nD) (s : Fin 3) (fd : Buf (Elt F) (mL.view.loc (tc n))) (w : S2x1024x1024.Idx → Elt F .bf16) (x : S2x1024x1024.Idx) :
    (slotM mL s).view.write (Elt F) fd w Finset.univ ((slotM mL s).view.emb x) = w x := by
  rw [View.write_emb_of_mem _ _ (Finset.mem_univ x)]
  rfl

theorem agreeRR (m : (ℓ : Loc nD τ sig) → Buf (Elt F) ℓ) (c n j : Dev nD) (s s' : Fin 3) (fd : Buf (Elt F) (mR.view.loc (tc n))) :
    ∀ i ∈ (slotM mR s').view.set,
      (slotM mR s').view.write (Elt F) fd ((slotM mR s).view.read (Elt F) (cR m c j)) Finset.univ i = cR m n j i := by
  intro i hi
  obtain ⟨x, -, rfl⟩ := Finset.mem_map.mp hi
  refine (writeGR n s' fd _ x).trans ((readGR c (cR m c j) s x).trans ?_)
  show cP m j ((Rect.unit (s := S3x2x1024x1024) ![s.val, 0, 0, 0] S1x2x1024x1024.size (slot_inb s)).emb
        (Shape.reshapeEquiv squeezes_S1x2x1024x1024_S2x1024x1024.numel_eq x)) =
    cP m j ((Rect.unit (s := S3x2x1024x1024) ![s'.val, 0, 0, 0] S1x2x1024x1024.size (slot_inb s')).emb
        (Shape.reshapeEquiv squeezes_S1x2x1024x1024_S2x1024x1024.numel_eq x))
  exact cP_slot m j s s' _

/-- Send a slot: the share lent goes to the sending cell, the slot as it lands to the neighbour's. -/
theorem sendRR {oS oD : Fin 4 → Nat} {sS sR : DmaSem sig} {n : Dev nD} (m : (ℓ : Loc nD τ sig) → Buf (Elt F) ℓ) (K KR) (c nx : Dev nD) (s s' : Fin 3)
    (q : PosShare TreeShare) (j : Dev nD) (iS iR : Fin 16) (k : ℕ)
    (hS : oS = ![s.val, 0, 0, 0]) (hD : oD = ![s'.val, 0, 0, 0]) (hsS : (SemLoc.dma sS : SemLoc sig) = csem iS) (hsR : (SemLoc.dma sR : SemLoc sig) = csem iR)
    (h2S : 2 ≤ iS.val) (h2R : 2 ≤ iR.val) (hn : n = nx) (hnx : nx = payD c k) (hiR : iR = payS k) (hI : payI k = 0) (hA : payA k = NW)
    (hp1 : payload m c iS.val false = rIs m c s q j) (hp2 : payload m nx iR.val false = rIs m nx s' fullShare j)
    {pS : ∀ a, oS a + S1x2x1024x1024.size a ≤ S3x2x1024x1024.size a} {pD : ∀ a, oD a + S1x2x1024x1024.size a ≤ S3x2x1024x1024.size a} {hsc h1 h2 h3}
    {α : Type} {kk : PUnit → Prog (TpuEff nD τ sig (Elt F) Λ₀ .tc) α} {Q : α → sProp 𝕄} :
    iprop(Env m K KR ∗ rIs m c s q j ∗ rAny nx s' ∗ Ow c (Od c (k + 1)) ∗ dutyTok ER (kcell c iS) 0 false ∗ dutyTok ER (kcell nx iR) 0 false)
      ⊢ iprop((iprop(cred (tallyAt (kcell c iS) 0 NW) ∗ Ow c (Od c k)) -∗ wp frame (wpE defs₀ 𝒱₀ (tc c) none) Set.univ (kk ⟨⟩) Q)
      -∗ wp frame (wpE defs₀ 𝒱₀ (tc c) none) Set.univ
        (.op (.enqueueDma
          ((mR.slice (Rect.unit (s := S3x2x1024x1024) oS S1x2x1024x1024.size pS) (fun _ => rfl)).squeeze S2x1024x1024 squeezes_S1x2x1024x1024_S2x1024x1024)
          (.remote (Dev.tc n) ((mR.slice (Rect.unit (s := S3x2x1024x1024) oD S1x2x1024x1024.size pD) (fun _ => rfl)).squeeze S2x1024x1024 squeezes_S1x2x1024x1024_S2x1024x1024)
            (.dma sS) hsc) (.dma sR) h1 h2 h3) kk) Q) := by
  subst hS; subst hD; subst hn
  have e1 : kcell c iS = (tc c, SemLoc.dma sS) := by rw [hsS]
  have e2 : kcell n iR = (tc n, SemLoc.dma sR) := by rw [hsR]
  have a1 : (ringRd (F := F) m).amount (tc c, SemLoc.dma sS) 0 false = NW := by rw [← e1]; exact amount_one m c iS h2S false
  have a2 : (ringRd (F := F) m).amount (tc n, SemLoc.dma sR) 0 false = NW := by rw [← e2]; exact amount_one m n iR h2R false
  have d1 : false ∈ (ringRd (F := F) m).duties (tc c, SemLoc.dma sS) 0 := by rw [← e1, duties_one m c iS h2S]; exact Finset.mem_singleton_self _
  have d2 : false ∈ (ringRd (F := F) m).duties (tc n, SemLoc.dma sR) 0 := by rw [← e2, duties_one m n iR h2R]; exact Finset.mem_singleton_self _
  have q1 : ((slotM mR s).view.loc (tc c) ↦[(slotM mR s).view.set]{q} cR m c j : sProp 𝕄) ⊢ (ringRd (F := F) m).payload (tc c, SemLoc.dma sS) 0 false := by
    rw [← e1, payload_at, hp1]; exact Entails.rfl
  have hO : Od c (k + 1) = Od c k + tallyAt (tc n, SemLoc.dma sR) 0 NW := by
    show Od c k + tallyAt (kcell (payD c k) (payS k)) (payI k) (payA k) = _
    rw [← hnx, ← hiR, hI, hA, e2]
  unfold rIs rAny Ow
  rw [e1, e2]
  iintro ⟨#HE, Hs, ⟨%fd, Hd⟩, ⟨%W, Ho⟩, T1, T2⟩ Hk
  have q2 : ((slotM mR s').view.loc (tc n) ↦[(slotM mR s').view.set]{fullShare} ((slotM mR s').view.write (Elt F) fd ((slotM mR s).view.read (Elt F) (cR m c j)) Finset.univ) : sProp 𝕄)
      ⊢ (ringRd (F := F) m).payload (tc n, SemLoc.dma sR) 0 false := by
    rw [← e2, payload_at, hp2]
    unfold rIs
    exact Entails.of_eq (pointsTo_congr (agreeRR m c n j s s' fd))
  iapply (Rounds.wp_send_pointsTo 𝒱₀ ER (ringRd m) (tc c) none (κ₁ := K (c, iS)) (κ₂ := K (n, iR)) (r₁ := 0) (r₂ := 0) (d₁ := false) (d₂ := false)
    (c' := tc n) (src := slotM mR s) (dst := slotM mR s') (fd := fd)
    d1 d2 (0 : ℕ) (0 : ℕ) NW rfl a1 a2 (Od c k) hO (W := W) q1 q2) $$ [Hs Hd Ho T1 T2]
  · isplitl []; · rw [← e1]; iapply (env_inv c iS) $$ HE
    isplitl []; · rw [← e2]; iapply (env_inv n iR) $$ HE
    isplitl [Hs]; · iexact Hs
    isplitl [Hd]; · iexact Hd
    isplitl [Ho]; · iexact Ho
    isplitl [T1]; · iexact T1
    isplitl []; · rw [← e1]; iapply (env_reached c iS) $$ HE
    isplitl [T2]; · iexact T2
    rw [← e2]; iapply (env_reached n iR) $$ HE
  iintro ⟨Hc, Ho⟩
  iapply Hk
  isplitl [Hc]; · iexact Hc
  iexists W; iexact Ho

theorem agreeRL (m : (ℓ : Loc nD τ sig) → Buf (Elt F) ℓ) (c n j : Dev nD) (s s' : Fin 3) (fd : Buf (Elt F) (mL.view.loc (tc n))) :
    ∀ i ∈ (slotM mL s').view.set,
      (slotM mL s').view.write (Elt F) fd ((slotM mR s).view.read (Elt F) (cR m c j)) Finset.univ i = cL m n j i := by
  intro i hi
  obtain ⟨x, -, rfl⟩ := Finset.mem_map.mp hi
  refine (writeGL n s' fd _ x).trans ((readGR c (cR m c j) s x).trans ?_)
  show cP m j ((Rect.unit (s := S3x2x1024x1024) ![s.val, 0, 0, 0] S1x2x1024x1024.size (slot_inb s)).emb
        (Shape.reshapeEquiv squeezes_S1x2x1024x1024_S2x1024x1024.numel_eq x)) =
    cP m j ((Rect.unit (s := S3x2x1024x1024) ![s'.val, 0, 0, 0] S1x2x1024x1024.size (slot_inb s')).emb
        (Shape.reshapeEquiv squeezes_S1x2x1024x1024_S2x1024x1024.numel_eq x))
  exact cP_slot m j s s' _

/-- Send a slot: the share lent goes to the sending cell, the slot as it lands to the neighbour's. -/
theorem sendRL {oS oD : Fin 4 → Nat} {sS sR : DmaSem sig} {n : Dev nD} (m : (ℓ : Loc nD τ sig) → Buf (Elt F) ℓ) (K KR) (c nx : Dev nD) (s s' : Fin 3)
    (q : PosShare TreeShare) (j : Dev nD) (iS iR : Fin 16) (k : ℕ)
    (hS : oS = ![s.val, 0, 0, 0]) (hD : oD = ![s'.val, 0, 0, 0]) (hsS : (SemLoc.dma sS : SemLoc sig) = csem iS) (hsR : (SemLoc.dma sR : SemLoc sig) = csem iR)
    (h2S : 2 ≤ iS.val) (h2R : 2 ≤ iR.val) (hn : n = nx) (hnx : nx = payD c k) (hiR : iR = payS k) (hI : payI k = 0) (hA : payA k = NW)
    (hp1 : payload m c iS.val false = rIs m c s q j) (hp2 : payload m nx iR.val false = lIs m nx s' fullShare j)
    {pS : ∀ a, oS a + S1x2x1024x1024.size a ≤ S3x2x1024x1024.size a} {pD : ∀ a, oD a + S1x2x1024x1024.size a ≤ S3x2x1024x1024.size a} {hsc h1 h2 h3}
    {α : Type} {kk : PUnit → Prog (TpuEff nD τ sig (Elt F) Λ₀ .tc) α} {Q : α → sProp 𝕄} :
    iprop(Env m K KR ∗ rIs m c s q j ∗ lAny nx s' ∗ Ow c (Od c (k + 1)) ∗ dutyTok ER (kcell c iS) 0 false ∗ dutyTok ER (kcell nx iR) 0 false)
      ⊢ iprop((iprop(cred (tallyAt (kcell c iS) 0 NW) ∗ Ow c (Od c k)) -∗ wp frame (wpE defs₀ 𝒱₀ (tc c) none) Set.univ (kk ⟨⟩) Q)
      -∗ wp frame (wpE defs₀ 𝒱₀ (tc c) none) Set.univ
        (.op (.enqueueDma
          ((mR.slice (Rect.unit (s := S3x2x1024x1024) oS S1x2x1024x1024.size pS) (fun _ => rfl)).squeeze S2x1024x1024 squeezes_S1x2x1024x1024_S2x1024x1024)
          (.remote (Dev.tc n) ((mL.slice (Rect.unit (s := S3x2x1024x1024) oD S1x2x1024x1024.size pD) (fun _ => rfl)).squeeze S2x1024x1024 squeezes_S1x2x1024x1024_S2x1024x1024)
            (.dma sS) hsc) (.dma sR) h1 h2 h3) kk) Q) := by
  subst hS; subst hD; subst hn
  have e1 : kcell c iS = (tc c, SemLoc.dma sS) := by rw [hsS]
  have e2 : kcell n iR = (tc n, SemLoc.dma sR) := by rw [hsR]
  have a1 : (ringRd (F := F) m).amount (tc c, SemLoc.dma sS) 0 false = NW := by rw [← e1]; exact amount_one m c iS h2S false
  have a2 : (ringRd (F := F) m).amount (tc n, SemLoc.dma sR) 0 false = NW := by rw [← e2]; exact amount_one m n iR h2R false
  have d1 : false ∈ (ringRd (F := F) m).duties (tc c, SemLoc.dma sS) 0 := by rw [← e1, duties_one m c iS h2S]; exact Finset.mem_singleton_self _
  have d2 : false ∈ (ringRd (F := F) m).duties (tc n, SemLoc.dma sR) 0 := by rw [← e2, duties_one m n iR h2R]; exact Finset.mem_singleton_self _
  have q1 : ((slotM mR s).view.loc (tc c) ↦[(slotM mR s).view.set]{q} cR m c j : sProp 𝕄) ⊢ (ringRd (F := F) m).payload (tc c, SemLoc.dma sS) 0 false := by
    rw [← e1, payload_at, hp1]; exact Entails.rfl
  have hO : Od c (k + 1) = Od c k + tallyAt (tc n, SemLoc.dma sR) 0 NW := by
    show Od c k + tallyAt (kcell (payD c k) (payS k)) (payI k) (payA k) = _
    rw [← hnx, ← hiR, hI, hA, e2]
  unfold rIs lAny Ow
  rw [e1, e2]
  iintro ⟨#HE, Hs, ⟨%fd, Hd⟩, ⟨%W, Ho⟩, T1, T2⟩ Hk
  have q2 : ((slotM mL s').view.loc (tc n) ↦[(slotM mL s').view.set]{fullShare} ((slotM mL s').view.write (Elt F) fd ((slotM mR s).view.read (Elt F) (cR m c j)) Finset.univ) : sProp 𝕄)
      ⊢ (ringRd (F := F) m).payload (tc n, SemLoc.dma sR) 0 false := by
    rw [← e2, payload_at, hp2]
    unfold lIs
    exact Entails.of_eq (pointsTo_congr (agreeRL m c n j s s' fd))
  iapply (Rounds.wp_send_pointsTo 𝒱₀ ER (ringRd m) (tc c) none (κ₁ := K (c, iS)) (κ₂ := K (n, iR)) (r₁ := 0) (r₂ := 0) (d₁ := false) (d₂ := false)
    (c' := tc n) (src := slotM mR s) (dst := slotM mL s') (fd := fd)
    d1 d2 (0 : ℕ) (0 : ℕ) NW rfl a1 a2 (Od c k) hO (W := W) q1 q2) $$ [Hs Hd Ho T1 T2]
  · isplitl []; · rw [← e1]; iapply (env_inv c iS) $$ HE
    isplitl []; · rw [← e2]; iapply (env_inv n iR) $$ HE
    isplitl [Hs]; · iexact Hs
    isplitl [Hd]; · iexact Hd
    isplitl [Ho]; · iexact Ho
    isplitl [T1]; · iexact T1
    isplitl []; · rw [← e1]; iapply (env_reached c iS) $$ HE
    isplitl [T2]; · iexact T2
    rw [← e2]; iapply (env_reached n iR) $$ HE
  iintro ⟨Hc, Ho⟩
  iapply Hk
  isplitl [Hc]; · iexact Hc
  iexists W; iexact Ho

theorem agreeLL (m : (ℓ : Loc nD τ sig) → Buf (Elt F) ℓ) (c n j : Dev nD) (s s' : Fin 3) (fd : Buf (Elt F) (mL.view.loc (tc n))) :
    ∀ i ∈ (slotM mL s').view.set,
      (slotM mL s').view.write (Elt F) fd ((slotM mL s).view.read (Elt F) (cL m c j)) Finset.univ i = cL m n j i := by
  intro i hi
  obtain ⟨x, -, rfl⟩ := Finset.mem_map.mp hi
  refine (writeGL n s' fd _ x).trans ((readGL c (cL m c j) s x).trans ?_)
  show cP m j ((Rect.unit (s := S3x2x1024x1024) ![s.val, 0, 0, 0] S1x2x1024x1024.size (slot_inb s)).emb
        (Shape.reshapeEquiv squeezes_S1x2x1024x1024_S2x1024x1024.numel_eq x)) =
    cP m j ((Rect.unit (s := S3x2x1024x1024) ![s'.val, 0, 0, 0] S1x2x1024x1024.size (slot_inb s')).emb
        (Shape.reshapeEquiv squeezes_S1x2x1024x1024_S2x1024x1024.numel_eq x))
  exact cP_slot m j s s' _

/-- Send a slot: the share lent goes to the sending cell, the slot as it lands to the neighbour's. -/
theorem sendLL {oS oD : Fin 4 → Nat} {sS sR : DmaSem sig} {n : Dev nD} (m : (ℓ : Loc nD τ sig) → Buf (Elt F) ℓ) (K KR) (c nx : Dev nD) (s s' : Fin 3)
    (q : PosShare TreeShare) (j : Dev nD) (iS iR : Fin 16) (k : ℕ)
    (hS : oS = ![s.val, 0, 0, 0]) (hD : oD = ![s'.val, 0, 0, 0]) (hsS : (SemLoc.dma sS : SemLoc sig) = csem iS) (hsR : (SemLoc.dma sR : SemLoc sig) = csem iR)
    (h2S : 2 ≤ iS.val) (h2R : 2 ≤ iR.val) (hn : n = nx) (hnx : nx = payD c k) (hiR : iR = payS k) (hI : payI k = 0) (hA : payA k = NW)
    (hp1 : payload m c iS.val false = lIs m c s q j) (hp2 : payload m nx iR.val false = lIs m nx s' fullShare j)
    {pS : ∀ a, oS a + S1x2x1024x1024.size a ≤ S3x2x1024x1024.size a} {pD : ∀ a, oD a + S1x2x1024x1024.size a ≤ S3x2x1024x1024.size a} {hsc h1 h2 h3}
    {α : Type} {kk : PUnit → Prog (TpuEff nD τ sig (Elt F) Λ₀ .tc) α} {Q : α → sProp 𝕄} :
    iprop(Env m K KR ∗ lIs m c s q j ∗ lAny nx s' ∗ Ow c (Od c (k + 1)) ∗ dutyTok ER (kcell c iS) 0 false ∗ dutyTok ER (kcell nx iR) 0 false)
      ⊢ iprop((iprop(cred (tallyAt (kcell c iS) 0 NW) ∗ Ow c (Od c k)) -∗ wp frame (wpE defs₀ 𝒱₀ (tc c) none) Set.univ (kk ⟨⟩) Q)
      -∗ wp frame (wpE defs₀ 𝒱₀ (tc c) none) Set.univ
        (.op (.enqueueDma
          ((mL.slice (Rect.unit (s := S3x2x1024x1024) oS S1x2x1024x1024.size pS) (fun _ => rfl)).squeeze S2x1024x1024 squeezes_S1x2x1024x1024_S2x1024x1024)
          (.remote (Dev.tc n) ((mL.slice (Rect.unit (s := S3x2x1024x1024) oD S1x2x1024x1024.size pD) (fun _ => rfl)).squeeze S2x1024x1024 squeezes_S1x2x1024x1024_S2x1024x1024)
            (.dma sS) hsc) (.dma sR) h1 h2 h3) kk) Q) := by
  subst hS; subst hD; subst hn
  have e1 : kcell c iS = (tc c, SemLoc.dma sS) := by rw [hsS]
  have e2 : kcell n iR = (tc n, SemLoc.dma sR) := by rw [hsR]
  have a1 : (ringRd (F := F) m).amount (tc c, SemLoc.dma sS) 0 false = NW := by rw [← e1]; exact amount_one m c iS h2S false
  have a2 : (ringRd (F := F) m).amount (tc n, SemLoc.dma sR) 0 false = NW := by rw [← e2]; exact amount_one m n iR h2R false
  have d1 : false ∈ (ringRd (F := F) m).duties (tc c, SemLoc.dma sS) 0 := by rw [← e1, duties_one m c iS h2S]; exact Finset.mem_singleton_self _
  have d2 : false ∈ (ringRd (F := F) m).duties (tc n, SemLoc.dma sR) 0 := by rw [← e2, duties_one m n iR h2R]; exact Finset.mem_singleton_self _
  have q1 : ((slotM mL s).view.loc (tc c) ↦[(slotM mL s).view.set]{q} cL m c j : sProp 𝕄) ⊢ (ringRd (F := F) m).payload (tc c, SemLoc.dma sS) 0 false := by
    rw [← e1, payload_at, hp1]; exact Entails.rfl
  have hO : Od c (k + 1) = Od c k + tallyAt (tc n, SemLoc.dma sR) 0 NW := by
    show Od c k + tallyAt (kcell (payD c k) (payS k)) (payI k) (payA k) = _
    rw [← hnx, ← hiR, hI, hA, e2]
  unfold lIs lAny Ow
  rw [e1, e2]
  iintro ⟨#HE, Hs, ⟨%fd, Hd⟩, ⟨%W, Ho⟩, T1, T2⟩ Hk
  have q2 : ((slotM mL s').view.loc (tc n) ↦[(slotM mL s').view.set]{fullShare} ((slotM mL s').view.write (Elt F) fd ((slotM mL s).view.read (Elt F) (cL m c j)) Finset.univ) : sProp 𝕄)
      ⊢ (ringRd (F := F) m).payload (tc n, SemLoc.dma sR) 0 false := by
    rw [← e2, payload_at, hp2]
    unfold lIs
    exact Entails.of_eq (pointsTo_congr (agreeLL m c n j s s' fd))
  iapply (Rounds.wp_send_pointsTo 𝒱₀ ER (ringRd m) (tc c) none (κ₁ := K (c, iS)) (κ₂ := K (n, iR)) (r₁ := 0) (r₂ := 0) (d₁ := false) (d₂ := false)
    (c' := tc n) (src := slotM mL s) (dst := slotM mL s') (fd := fd)
    d1 d2 (0 : ℕ) (0 : ℕ) NW rfl a1 a2 (Od c k) hO (W := W) q1 q2) $$ [Hs Hd Ho T1 T2]
  · isplitl []; · rw [← e1]; iapply (env_inv c iS) $$ HE
    isplitl []; · rw [← e2]; iapply (env_inv n iR) $$ HE
    isplitl [Hs]; · iexact Hs
    isplitl [Hd]; · iexact Hd
    isplitl [Ho]; · iexact Ho
    isplitl [T1]; · iexact T1
    isplitl []; · rw [← e1]; iapply (env_reached c iS) $$ HE
    isplitl [T2]; · iexact T2
    rw [← e2]; iapply (env_reached n iR) $$ HE
  iintro ⟨Hc, Ho⟩
  iapply Hk
  isplitl [Hc]; · iexact Hc
  iexists W; iexact Ho

/-! ## Waiting for a slot -/

theorem waitCell {sm : DmaSem sig} (m : (ℓ : Loc nD τ sig) → Buf (Elt F) ℓ) (K KR) (c : Dev nD) (i : Fin 16) (k : ℕ)
    (hs : (SemLoc.dma sm : SemLoc sig) = csem i) (h2 : 2 ≤ i.val)
    (hlv : ∀ k' < k, lvN i.val 0 < lvN (payS k').val (payI k')) (P : sProp 𝕄) (hP : payload m c i.val false = P)
    {cs cs' : Space} {srcw : Memref sig .tc cs S2x1024x1024 .bf16} {dstw : Memref sig .tc cs' S2x1024x1024 .bf16} {h1 h3}
    (hN : dstw.view.dmaCredit = NW)
    {α : Type} {kk : PUnit → Prog (TpuEff nD τ sig (Elt F) Λ₀ .tc) α} {Q : α → sProp 𝕄} :
    iprop(Env m K KR ∗ atPos ER (kcell c i) 0 ∅ 0 ∗ cred (tallyAt (kcell c i) 0 NW) ∗ Ow c (Od c k))
      ⊢ iprop((iprop(Ow c (Od c k) ∗ semVal (kcell c i) 0 ∗ P) -∗ wp frame (wpE defs₀ 𝒱₀ (tc c) none) Set.univ (kk ⟨⟩) Q)
      -∗ wp frame (wpE defs₀ 𝒱₀ (tc c) none) Set.univ (.op (.waitDma2 sm srcw dstw h1 h3) kk) Q) := by
  have e1 : kcell c i = (tc c, SemLoc.dma sm) := by rw [hs]
  have ex : (ringRd (F := F) m).expect (tc c, SemLoc.dma sm) 0 = NW := by rw [← e1]; exact expect_one m c i h2
  have er : bigSep ((ringRd (F := F) m).duties (tc c, SemLoc.dma sm) 0 \ ∅) (fun d => (ringRd (F := F) m).payload (tc c, SemLoc.dma sm) 0 d) = P := by
    rw [← e1, rest_one m c i h2, hP]
  have hmw : (levAts L lv : sProp 𝕄) ⊢ MayWait (tc c) (.dma sm) 0 (Od c k) := by
    rw [hs]; exact mayWait_cell c i 0 k (.inl rfl) hlv
  rw [e1, ← hN]
  unfold Ow
  iintro ⟨#HE, Hat, Hc, ⟨%W, Ho⟩⟩ Hk
  iapply (Rounds.wp_wait_rest_token 𝒱₀ ER (ringRd m) (tc c) none (κ := K (c, i)) (wpE_waitDma2_eq 𝒱₀ (tc c) none Set.univ) (Set.mem_univ _) (0 : ℕ)
    (O := Od c k) (W := W) (R := 0) (m := 0) (T := ∅) (by rw [ex, Nat.zero_add]; exact hN)) $$ [Hat Hc Ho]
  · isplitl []; · rw [← e1]; iapply (env_inv c i) $$ HE
    isplitl [Hc]; · iexact Hc
    isplitl [Ho]; · iexact Ho
    isplitl []; · iapply (env_lev.trans hmw) $$ HE
    iexact Hat
  iintro ⟨Ho, Hat, -, Hp⟩
  ihave Hp := (Entails.of_eq er) $$ Hp
  iapply fupd_wp
  imod (Rounds.cell_close ER (ringRd m) (g := (tc c, SemLoc.dma sm)) (Set.mem_univ (K (c, i))) (fun h => h) (R := 0 + 1) (duties_later m _)) $$ [Hat] with Hsv
  · isplitl []; · rw [← e1]; iapply (env_inv c i) $$ HE
    iexact Hat
  imodintro
  iapply Hk
  isplitl [Ho]; · iexists _; iexact Ho
  isplitl [Hsv]; · iexact Hsv
  iexact Hp
end Cert.RingProof
-- ==== Proof.Credits.lean ====
/-
The entry barrier and the credits that give a slot back.
-/
module

public import proofs.«01_k».proof.Proof.Slots

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The barrier and the credits -/

theorem payload_bar_f (m : (ℓ : Loc nD τ sig) → Buf (Elt F) ℓ) (c : Dev nD) : payload m c 0 false = iprop(rAny (nxt c) 1 ∗ rAny (nxt c) 2) := rfl

/-- Raise a regular cell of a neighbour, paying duty `d` of its round. -/
theorem signalCell {n : Dev nD} {sm : Sem sig} {a : ℤ} (m : (ℓ : Loc nD τ sig) → Buf (Elt F) ℓ) (K KR) (c nx : Dev nD) (i : Fin 16) (d : Bool) (k : ℕ)
    (hs : (SemLoc.reg sm : SemLoc sig) = csem i) (h1 : i.val ≤ 1) (hn : n = nx) (hnx : nx = payD c k) (hi : i = payS k) (ha : a = ((1 : ℕ) : ℤ))
    (P : sProp 𝕄) (hP : payload m nx i.val d = P)
    {α : Type} {kk : PUnit → Prog (TpuEff nD τ sig (Elt F) Λ₀ .tc) α} {Q : α → sProp 𝕄} :
    iprop(Env m K KR ∗ Ow c (Od c (k + 1)) ∗ dutyTok ER (kcell nx i) 0 d ∗ P)
      ⊢ iprop((Ow c (Od c k) -∗ wp frame (wpE defs₀ 𝒱₀ (tc c) none) Set.univ (kk ⟨⟩) Q)
      -∗ wp frame (wpE defs₀ 𝒱₀ (tc c) none) Set.univ (.op (.semSignal (n, Proc.tc) sm a) kk) Q) := by
  subst hn; subst ha
  have e1 : kcell n i = (tc n, SemLoc.reg sm) := by rw [hs]
  have dd : d ∈ (ringRd (F := F) m).duties (tc n, SemLoc.reg sm) 0 := by rw [← e1, duties_two m n i h1]; exact Finset.mem_univ _
  have aa : (ringRd (F := F) m).amount (tc n, SemLoc.reg sm) 0 d = 1 := by rw [← e1]; exact amount_two m n i h1 d
  have hO : Od c (k + 1) = Od c k + tallyAt (tc n, SemLoc.reg sm) (payI k) 1 := by
    show Od c k + tallyAt (kcell (payD c k) (payS k)) (payI k) (payA k) = _
    rw [← hnx, ← hi, e1]
    unfold payA
    rw [← hi, if_pos h1]
  have ep : (ringRd (F := F) m).payload (tc n, SemLoc.reg sm) 0 d = P := by rw [← e1, payload_at, hP]
  unfold Ow
  iintro ⟨#HE, ⟨%W, Ho⟩, Ht, HP⟩ Hk
  iapply (Rounds.wp_signal 𝒱₀ ER (ringRd m) (tc c) none (dst := tc n) (κ := K (n, i)) (d := d) dd aa (payI k) (Od c k) hO (W := W)) $$ [Ho Ht HP]
  · isplitl []; · rw [← e1]; iapply (env_inv n i) $$ HE
    isplitl [Ho]; · iexact Ho
    isplitl [Ht]; · rw [← e1]; iexact Ht
    isplitl [HP]; · rw [ep]; iexact HP
    rw [← e1]; iapply (env_reached n i) $$ HE
  iintro Ho
  iapply Hk
  iexists W; iexact Ho

/-- The entry barrier's wait: both neighbours' landing slots. -/
theorem waitBar {sm : Sem sig} {a : ℤ} (m : (ℓ : Loc nD τ sig) → Buf (Elt F) ℓ) (K KR) (c : Dev nD) (hs : (SemLoc.reg sm : SemLoc sig) = csem 0) (ha : a = ((2 : ℕ) : ℤ))
    {α : Type} {kk : PUnit → Prog (TpuEff nD τ sig (Elt F) Λ₀ .tc) α} {Q : α → sProp 𝕄} :
    iprop(Env m K KR ∗ atPos ER (kcell c 0) 0 ∅ 0 ∗ cred (tallyAt (kcell c 0) 0 2) ∗ Ow c (Od c 9))
      ⊢ iprop((iprop(Ow c (Od c 9) ∗ semVal (kcell c 0) 0 ∗ (rAny (nxt c) 1 ∗ rAny (nxt c) 2) ∗ (lAny (prv c) 0 ∗ lAny (prv c) 1 ∗ lAny (prv c) 2))
          -∗ wp frame (wpE defs₀ 𝒱₀ (tc c) none) Set.univ (kk ⟨⟩) Q)
      -∗ wp frame (wpE defs₀ 𝒱₀ (tc c) none) Set.univ (.op (.semWait sm a) kk) Q) := by
  subst ha
  have e1 : kcell c 0 = (tc c, SemLoc.reg sm) := by rw [hs]
  have ex : (ringRd (F := F) m).expect (tc c, SemLoc.reg sm) 0 = 2 := by rw [← e1]; exact expect_two m c 0 (by decide)
  have er := rest_two (F := F) m c 0 (by decide)
  rw [e1] at er
  have hmw : (levAts L lv : sProp 𝕄) ⊢ MayWait (tc c) (.reg sm) 0 (Od c 9) := by rw [hs]; exact mayWait_cell c 0 0 9 (.inl rfl) (by decide)
  unfold Ow
  rw [e1]
  iintro ⟨#HE, Hat, Hc, ⟨%W, Ho⟩⟩ Hk
  iapply (Rounds.wp_wait_rest_token 𝒱₀ ER (ringRd m) (tc c) none (κ := K (c, 0)) (wpE_semWait_eq 𝒱₀ (tc c) none Set.univ) (Set.mem_univ _) (0 : ℕ)
    (O := Od c 9) (W := W) (R := 0) (m := 0) (T := ∅) (by rw [Nat.zero_add]; exact ex.symm)) $$ [Hat Hc Ho]
  · isplitl []; · rw [← e1]; iapply (env_inv c 0) $$ HE
    isplitl [Hc]; · iexact Hc
    isplitl [Ho]; · iexact Ho
    isplitl []; · iapply (env_lev.trans hmw) $$ HE
    iexact Hat
  iintro ⟨Ho, Hat, -, Hp⟩
  ihave Hp := (Entails.of_eq er) $$ Hp
  iapply fupd_wp
  imod (Rounds.cell_close ER (ringRd m) (Set.mem_univ (K (c, 0))) (fun h => h) (g := (tc c, SemLoc.reg sm)) (R := 0 + 1) (duties_later m _)) $$ [Hat] with Hsv
  · isplitl []; · rw [← e1]; iapply (env_inv c 0) $$ HE
    iexact Hat
  imodintro
  iapply Hk
  isplitl [Ho]; · iexists _; iexact Ho
  isplitl [Hsv]; · iexact Hsv
  iexact Hp

/-- Between the two credit waits: one payment taken, at least the first slot's return known. -/
def CrSt (c : Dev nD) : sProp 𝕄 :=
  iprop(∃ S : Finset Bool, atPos ER (kcell c 1) 0 S 1 ∗ ((⌜true ∉ S⌝ : sProp 𝕄) ∨ Release.released EK (nxt c, (1 : Fin 2)) 1))

theorem waitCr1 {sm : Sem sig} {a : ℤ} (m : (ℓ : Loc nD τ sig) → Buf (Elt F) ℓ) (K KR) (c : Dev nD) (k : ℕ) (hs : (SemLoc.reg sm : SemLoc sig) = csem 1) (ha : a = ((1 : ℕ) : ℤ))
    (hlv : ∀ k' < k, lvN 1 0 < lvN (payS k').val (payI k'))
    {α : Type} {kk : PUnit → Prog (TpuEff nD τ sig (Elt F) Λ₀ .tc) α} {Q : α → sProp 𝕄} :
    iprop(Env m K KR ∗ atPos ER (kcell c 1) 0 ∅ 0 ∗ cred (tallyAt (kcell c 1) 0 1) ∗ Ow c (Od c k) ∗ Release.writeTok EK (nxt c, (0 : Fin 2)) 1)
      ⊢ iprop((iprop(Ow c (Od c k) ∗ CrSt c ∗ rAny (nxt c) 0) -∗ wp frame (wpE defs₀ 𝒱₀ (tc c) none) Set.univ (kk ⟨⟩) Q)
      -∗ wp frame (wpE defs₀ 𝒱₀ (tc c) none) Set.univ (.op (.semWait sm a) kk) Q) := by
  subst ha
  have e1 : kcell c 1 = (tc c, SemLoc.reg sm) := by rw [hs]
  have hmw : (levAts L lv : sProp 𝕄) ⊢ MayOwe (tc c) {(SemLoc.reg sm, 0)} (Od c k) := by rw [hs]; exact mayWait_cell c 1 0 k (.inl rfl) hlv
  have ex : (ringRd (F := F) m).expect (tc c, SemLoc.reg sm) 0 = 2 := by rw [← e1]; exact expect_two m c 1 (by decide)
  have ed : (ringRd (F := F) m).duties (tc c, SemLoc.reg sm) 0 = Finset.univ := by rw [← e1]; exact duties_two m c 1 (by decide)
  unfold Ow
  rw [e1]
  iintro ⟨#HE, Hat, Hc, ⟨%W, Ho⟩, Hw⟩ Hk
  iapply (Rounds.wp_wait 𝒱₀ ER (ringRd m) (tc c) none (κ := K (c, 1)) (wpE_semWait_eq 𝒱₀ (tc c) none Set.univ) (Set.mem_univ _)
    (cr := Finsupp.single (0 : ℕ) 1) (O := Od c k) (W := W) {(SemLoc.reg sm, 0)} (R := 0) (m := 0) (T := ∅)
    (by rw [Util.total_single]) (image_single_subset _ (0 : ℕ) 1)) $$ [Hat Hc Ho]
  · isplitl []; · rw [← e1]; iapply (env_inv c 1) $$ HE
    isplitl [Hc]; · iexact Hc
    isplitl [Ho]; · iexact Ho
    isplitl []; · iapply (env_lev.trans hmw) $$ HE
    iexact Hat
  iintro %S ⟨%hS, Ho, Hat, Hp⟩
  obtain ⟨-, -, hcard⟩ := hS
  rw [ex, ed] at hcard
  have hdup : bigSep (S \ ∅) (fun d => (ringRd (F := F) m).payload (tc c, SemLoc.reg sm) 0 d)
      ⊢ iprop(Release.released EK (nxt c, (0 : Fin 2)) 1 ∗ ((⌜true ∉ S⌝ : sProp 𝕄) ∨ Release.released EK (nxt c, (1 : Fin 2)) 1)) := by
    rw [Finset.sdiff_empty]
    by_cases ht : true ∈ S
    · refine (bigSep_get ht).trans ?_
      rw [← e1, payload_at]
      show iprop(Release.released EK (nxt c, (0 : Fin 2)) 1 ∗ Release.released EK (nxt c, (1 : Fin 2)) 1) ⊢ _
      iintro ⟨H0, H1⟩
      isplitl [H0]; · iexact H0
      iright; iexact H1
    · have hf : false ∈ S := by
        by_contra hf
        have : S = ∅ := Finset.eq_empty_of_forall_notMem fun b hb => by cases b <;> contradiction
        rw [this] at hcard
        revert hcard; decide
      refine (bigSep_get hf).trans ?_
      rw [← e1, payload_at]
      show Release.released EK (nxt c, (0 : Fin 2)) 1 ⊢ _
      iintro H0
      isplitl [H0]; · iexact H0
      ileft; ipureintro; exact ht
  ihave Hp := hdup $$ Hp
  icases Hp with ⟨H0, H1⟩
  iapply fupd_wp
  imod (Release.slot_take EK (Set.mem_univ (KR (nxt c, (0 : Fin 2)))) 1 (S := Sl (F := F) (nxt c, (0 : Fin 2)))) $$ [H0 Hw] with Hsl
  · isplitl []; · iapply (env_slot (nxt c, (0 : Fin 2))) $$ HE
    isplitl [H0]; · iexact H0
    iexact Hw
  imodintro
  iapply Hk
  isplitl [Ho]; · iexists _; iexact Ho
  isplitl [Hat H1]
  · unfold CrSt
    iexists S
    isplitl [Hat]; · rw [e1]; iexact Hat
    iexact H1
  iexact Hsl

theorem waitCr2 {sm : Sem sig} {a : ℤ} (m : (ℓ : Loc nD τ sig) → Buf (Elt F) ℓ) (K KR) (c : Dev nD) (k : ℕ) (hs : (SemLoc.reg sm : SemLoc sig) = csem 1) (ha : a = ((1 : ℕ) : ℤ))
    (hlv : ∀ k' < k, lvN 1 1 < lvN (payS k').val (payI k'))
    {α : Type} {kk : PUnit → Prog (TpuEff nD τ sig (Elt F) Λ₀ .tc) α} {Q : α → sProp 𝕄} :
    iprop(Env m K KR ∗ CrSt c ∗ cred (tallyAt (kcell c 1) 1 1) ∗ Ow c (Od c k) ∗ Release.writeTok EK (nxt c, (1 : Fin 2)) 1)
      ⊢ iprop((iprop(Ow c (Od c k) ∗ semVal (kcell c 1) 0 ∗ rAny (nxt c) 1) -∗ wp frame (wpE defs₀ 𝒱₀ (tc c) none) Set.univ (kk ⟨⟩) Q)
      -∗ wp frame (wpE defs₀ 𝒱₀ (tc c) none) Set.univ (.op (.semWait sm a) kk) Q) := by
  subst ha
  have e1 : kcell c 1 = (tc c, SemLoc.reg sm) := by rw [hs]
  have hmw : (levAts L lv : sProp 𝕄) ⊢ MayWait (tc c) (.reg sm) 1 (Od c k) := by rw [hs]; exact mayWait_cell c 1 1 k (.inr rfl) hlv
  have ex : (ringRd (F := F) m).expect (tc c, SemLoc.reg sm) 0 = 2 := by rw [← e1]; exact expect_two m c 1 (by decide)
  have ed : (ringRd (F := F) m).duties (tc c, SemLoc.reg sm) 0 = Finset.univ := by rw [← e1]; exact duties_two m c 1 (by decide)
  unfold Ow CrSt
  rw [e1]
  iintro ⟨#HE, ⟨%S, Hat, Hd⟩, Hc, ⟨%W, Ho⟩, Hw⟩ Hk
  iapply (Rounds.wp_wait_rest_token 𝒱₀ ER (ringRd m) (tc c) none (κ := K (c, 1)) (wpE_semWait_eq 𝒱₀ (tc c) none Set.univ) (Set.mem_univ _) (1 : ℕ)
    (O := Od c k) (W := W) (R := 0) (m := 1) (T := S) (by exact ex.symm)) $$ [Hat Hc Ho]
  · isplitl []; · rw [← e1]; iapply (env_inv c 1) $$ HE
    isplitl [Hc]; · iexact Hc
    isplitl [Ho]; · iexact Ho
    isplitl []; · iapply (env_lev.trans hmw) $$ HE
    iexact Hat
  iintro ⟨Ho, Hat, -, Hp⟩
  have hrel : iprop(bigSep ((ringRd (F := F) m).duties (tc c, SemLoc.reg sm) 0 \ S) (fun d => (ringRd (F := F) m).payload (tc c, SemLoc.reg sm) 0 d)
      ∗ ((⌜true ∉ S⌝ : sProp 𝕄) ∨ Release.released EK (nxt c, (1 : Fin 2)) 1)) ⊢ Release.released EK (nxt c, (1 : Fin 2)) 1 := by
    iintro ⟨Hp, (%ht | H)⟩
    · have hm : true ∈ (ringRd (F := F) m).duties (tc c, SemLoc.reg sm) 0 \ S := by rw [ed]; exact Finset.mem_sdiff.2 ⟨Finset.mem_univ _, ht⟩
      ihave Hp := (bigSep_get (Φ := fun d => (ringRd (F := F) m).payload (tc c, SemLoc.reg sm) 0 d) hm) $$ Hp
      ihave Hp := (Entails.of_eq (show (ringRd (F := F) m).payload (tc c, SemLoc.reg sm) 0 true = iprop(Release.released EK (nxt c, (0 : Fin 2)) 1 ∗ Release.released EK (nxt c, (1 : Fin 2)) 1) from by rw [← e1]; exact payload_at m c 1 true)) $$ Hp
      icases Hp with ⟨-, H⟩
      iexact H
    · iexact H
  ihave H1 := hrel $$ [Hp Hd]
  · isplitl [Hp]; · iexact Hp
    iexact Hd
  iapply fupd_wp
  imod (Rounds.cell_close ER (ringRd m) (Set.mem_univ (K (c, 1))) (fun h => h) (g := (tc c, SemLoc.reg sm)) (R := 0 + 1) (duties_later m _)) $$ [Hat] with Hsv
  · isplitl []; · rw [← e1]; iapply (env_inv c 1) $$ HE
    iexact Hat
  imod (Release.slot_take EK (Set.mem_univ (KR (nxt c, (1 : Fin 2)))) 1 (S := Sl (F := F) (nxt c, (1 : Fin 2)))) $$ [H1 Hw] with Hsl
  · isplitl []; · iapply (env_slot (nxt c, (1 : Fin 2))) $$ HE
    isplitl [H1]; · iexact H1
    iexact Hw
  imodintro
  iapply Hk
  isplitl [Ho]; · iexists _; iexact Ho
  isplitl [Hsv]; · iexact Hsv
  iexact Hsl

theorem slotR_nonempty (s : Fin 3) : ((slotM mR s).view.set : Finset S3x2x1024x1024.Idx).Nonempty :=
  ⟨ix4 s 0 0 0, (mem_slotR s _).2 rfl⟩

/-- Give a slot back for the left neighbour's second use. -/
theorem giveBack (m : (ℓ : Loc nD τ sig) → Buf (Elt F) ℓ) (K KR) (c : Dev nD) (i : Fin 2) :
    iprop(Env m K KR ∗ Release.readerAt EK (c, i) 0 ∗ rAny (F := F) c (slotNo i)) ⊢ |={Set.univ}=> (Release.released EK (c, i) 1 : sProp 𝕄) := by
  iintro ⟨#HE, Hr, Hs⟩
  imod (Release.slot_release EK (Set.mem_univ (KR (c, i))) (S := Sl (F := F) (c, i)) (Release.slot_slot_false (slotR_nonempty (slotNo i))) 0) $$ [Hr Hs] with ⟨-, H⟩
  · isplitl []; · iapply (env_slot (c, i)) $$ HE
    isplitl [Hr]; · iexact Hr
    iexact Hs
  imodintro
  iexact H

end Cert.RingProof
-- ==== Proof.States.lean ====
/-
What a device holds before each step of the ring.
-/
module

public import proofs.«01_k».proof.Proof.Sends
public import proofs.«01_k».proof.Proof.Credits

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The outer loop's conditions, offsets and semaphores -/

theorem trips1 : k0_t1_loop.trips = 5 := by decide +kernel
theorem cond1_iff : ∀ t : Fin k0_t1_loop.trips, k0_cond1 t = 1#1 ↔ 1 ≤ t.val := by decide +kernel
theorem cond2_iff : ∀ t : Fin k0_t1_loop.trips, k0_cond2 t = 1#1 ↔ t.val ≤ 3 := by decide +kernel
theorem cond3_iff : ∀ t : Fin k0_t1_loop.trips,
    Scalar.cmpi .ne (Scalar.extui (Scalar.cmpi .sge (Scf.iv 0#32 1#32 t) 2#32) : BitVec 32) 0#32 = 1#1 ↔ 2 ≤ t.val := by decide +kernel
theorem cond4_iff : ∀ t : Fin k0_t1_loop.trips, k0_cond4 t = 1#1 ↔ t.val = 0 := by decide +kernel
theorem cond6_iff : ∀ t : Fin k0_t1_loop.trips, k0_cond6 t = 1#1 ↔ 1 ≤ t.val ∧ t.val ≤ 3 := by decide +kernel
theorem cond7_iff : ∀ t : Fin k0_t1_loop.trips, k0_cond7 t = 1#1 ↔ t.val ≤ 2 := by decide +kernel
theorem cond9_iff : ∀ t : Fin k0_t1_loop.trips, k0_cond9 t = 1#1 ↔ 1 ≤ t.val := by decide +kernel
theorem cond10_iff : ∀ t : Fin k0_t1_loop.trips, k0_cond10 t = 1#1 ↔ t.val ≤ 3 := by decide +kernel
theorem cond11_iff : ∀ t : Fin k0_t1_loop.trips, k0_cond11 t = 1#1 ↔ t.val ≤ 2 := by decide +kernel
theorem off1_eq : ∀ t : Fin k0_t1_loop.trips, 1 ≤ t.val → k0_off1 t = ![t.val - 1] := by decide +kernel
theorem off33_eq : ∀ t : Fin k0_t1_loop.trips, 1 ≤ t.val → k0_off33 t = ![t.val - 1] := by decide +kernel
theorem off65_eq : ∀ t : Fin k0_t1_loop.trips, 1 ≤ t.val → k0_off65 t = ![t.val - 1] := by decide +kernel
theorem off68_eq : ∀ t : Fin k0_t1_loop.trips, 1 ≤ t.val → k0_off68 t = ![t.val - 1] := by decide +kernel

theorem credit_mem {cs : Space} (d : Memref sig .tc cs S2x1024x1024 .bf16) : d.view.dmaCredit = NW := rfl

theorem sem_rsend (k : Fin 4) {o : Fin 1 → ℕ} (ho : o = ![k.val]) {p : ∀ a, o a + S1.size a ≤ S4.size a} :
    (SemLoc.dma ((cc0_scratch6.slice (Rect.unit (s := S4) o S1.size p)).squeeze S_ squeezes_S1_S_).sem : SemLoc sig) = csem ⟨2 + k.val, by omega⟩ := by
  subst ho; revert p; revert k; decide +kernel
theorem sem_rrecv (k : Fin 4) {o : Fin 1 → ℕ} (ho : o = ![k.val]) {p : ∀ a, o a + S1.size a ≤ S4.size a} :
    (SemLoc.dma ((cc0_scratch7.slice (Rect.unit (s := S4) o S1.size p)).squeeze S_ squeezes_S1_S_).sem : SemLoc sig) = csem ⟨6 + k.val, by omega⟩ := by
  subst ho; revert p; revert k; decide +kernel
theorem sem_lsend (k : Fin 3) {o : Fin 1 → ℕ} (ho : o = ![k.val]) {p : ∀ a, o a + S1.size a ≤ S3.size a} :
    (SemLoc.dma ((cc0_scratch8.slice (Rect.unit (s := S3) o S1.size p)).squeeze S_ squeezes_S1_S_).sem : SemLoc sig) = csem ⟨10 + k.val, by omega⟩ := by
  subst ho; revert p; revert k; decide +kernel
theorem sem_lrecv (k : Fin 3) {o : Fin 1 → ℕ} (ho : o = ![k.val]) {p : ∀ a, o a + S1.size a ≤ S3.size a} :
    (SemLoc.dma ((cc0_scratch9.slice (Rect.unit (s := S3) o S1.size p)).squeeze S_ squeezes_S1_S_).sem : SemLoc sig) = csem ⟨13 + k.val, by omega⟩ := by
  subst ho; revert p; revert k; decide +kernel

/-! ## The output after each step -/

section Acc
variable (m : (ℓ : Loc nD τ sig) → Buf (Elt F) ℓ) (c : Dev nD) (xg : Buf (Elt F) (mX.view.loc (tc c)))

/-- Device `j`'s contribution added. -/
def addDev (j : Dev nD) (o : Buf (Elt F) (mO.view.loc (tc c))) : Buf (Elt F) (mO.view.loc (tc c)) :=
  outAfter m c (j : Fin 8) xg (wqv m j) (wov m j) o 4

def acc0 : Buf (Elt F) (mO.view.loc (tc c)) := (k0_pay2 : FVec F S1x1024x1024 .f32)
def acc1 : Buf (Elt F) (mO.view.loc (tc c)) := addDev m c xg (bk 0 c) (acc0 c)
def acc2 : Buf (Elt F) (mO.view.loc (tc c)) := addDev m c xg (fw 1 c) (addDev m c xg (bk 1 c) (acc1 m c xg))
def acc3 : Buf (Elt F) (mO.view.loc (tc c)) := addDev m c xg (fw 2 c) (addDev m c xg (bk 2 c) (acc2 m c xg))
def acc4 : Buf (Elt F) (mO.view.loc (tc c)) := addDev m c xg (fw 3 c) (addDev m c xg (bk 3 c) (acc3 m c xg))
def acc5 : Buf (Elt F) (mO.view.loc (tc c)) := addDev m c xg (bk 4 c) (acc4 m c xg)
def accAt : ℕ → Buf (Elt F) (mO.view.loc (tc c))
  | 0 => acc0 c
  | 1 => acc1 m c xg
  | 2 => acc2 m c xg
  | 3 => acc3 m c xg
  | 4 => acc4 m c xg
  | 5 => acc5 m c xg
  | _ => acc0 c

theorem accAt_0 : accAt m c xg 0 = (k0_pay2 : FVec F S1x1024x1024 .f32) := rfl
theorem accAt_1 : accAt m c xg 1 = outAfter m c (bk 0 c : Fin 8) xg (wqv m (bk 0 c)) (wov m (bk 0 c)) (accAt m c xg 0) 4 := rfl
theorem accAt_2 : accAt m c xg 2 = outAfter m c (fw 1 c : Fin 8) xg (wqv m (fw 1 c)) (wov m (fw 1 c)) (addDev m c xg (bk 1 c) (accAt m c xg 1)) 4 := rfl
theorem accAt_3 : accAt m c xg 3 = outAfter m c (fw 2 c : Fin 8) xg (wqv m (fw 2 c)) (wov m (fw 2 c)) (addDev m c xg (bk 2 c) (accAt m c xg 2)) 4 := rfl
theorem accAt_4 : accAt m c xg 4 = outAfter m c (fw 3 c : Fin 8) xg (wqv m (fw 3 c)) (wov m (fw 3 c)) (addDev m c xg (bk 3 c) (accAt m c xg 3)) 4 := rfl
theorem accAt_5 : accAt m c xg 5 = outAfter m c (bk 4 c : Fin 8) xg (wqv m (bk 4 c)) (wov m (bk 4 c)) (accAt m c xg 4) 4 := rfl

end Acc

/-- How many payments are outstanding before each step. -/
def oN : ℕ → ℕ
  | 0 => 9 | 1 => 7 | 2 => 4 | 3 => 1 | _ => 0

section State
variable (m : (ℓ : Loc nD τ sig) → Buf (Elt F) ℓ) (K : Dev nD × Fin 16 → ℕ) (KR : Dev nD × Fin 2 → ℕ) (c : Dev nD)

/-- What is held at every step. -/
def Com (xg : Buf (Elt F) (mX.view.loc (tc c))) (k : ℕ) : sProp 𝕄 :=
  iprop(Env m K KR ∗ (mX.view.loc (tc c) ↦[Finset.univ]{fullShare} xg) ∗ (mO.view.loc (tc c) ↦[Finset.univ]{fullShare} accAt m c xg k)
    ∗ Idle8 m c 0 ∗ Idle8 m c 1 ∗ Ow c (Od c (oN k)))

theorem idle8_split (j : Fin 2) : Idle8 m c j ⊢ iprop(IdleK m c j 0 ∗ IdleV m c j 0 ∗ IdleK m c j 1 ∗ IdleV m c j 1 ∗ IdleK m c j 2 ∗ IdleV m c j 2 ∗ IdleK m c j 3 ∗ IdleV m c j 3) := by
  unfold Idle8; exact .rfl

abbrev crd (i : Fin 16) : sProp 𝕄 := cred (tallyAt (kcell c i) 0 NW)
abbrev pos (i : Fin 16) : sProp 𝕄 := atPos ER (kcell c i) 0 ∅ 0
abbrev tok (n : Dev nD) (i : Fin 16) (d : Bool := false) : sProp 𝕄 := dutyTok ER (kcell n i) 0 d
abbrev zro (i : Fin 16) : sProp 𝕄 := semVal (kcell c i) 0
abbrev rdr (i : Fin 2) : sProp 𝕄 := Release.readerAt EK (c, i) 0
abbrev rel (i : Fin 2) : sProp 𝕄 := Release.released EK (c, i) 1

def StH0 : sProp 𝕄 :=
  iprop(rIs m c 0 fullShare (bk 0 c) ∗ rAny (nxt c) 1 ∗ rAny (nxt c) 2 ∗ lAny (prv c) 0 ∗ lAny (prv c) 1 ∗ lAny (prv c) 2)
def StH1 : sProp 𝕄 :=
  iprop(rIs m c 0 shL (bk 0 c) ∗ crd c 2 ∗ crd c 10 ∗ rAny (nxt c) 2 ∗ lAny (prv c) 0 ∗ lAny (prv c) 2)
def StH2 : sProp 𝕄 :=
  iprop(rIs m c 1 shL (bk 1 c) ∗ lIs m c 1 shL (fw 1 c) ∗ crd c 3 ∗ crd c 11 ∗ lAny (prv c) 0 ∗ rel c 0)
def StH3 : sProp 𝕄 :=
  iprop(rIs m c 2 shL (bk 2 c) ∗ lIs m c 2 shL (fw 2 c) ∗ lAny c 1 ∗ crd c 4 ∗ crd c 12 ∗ CrSt c)
def StH4 : sProp 𝕄 :=
  iprop(rIs m c 0 shL (bk 3 c) ∗ rAny c 2 ∗ lAny c 0 ∗ lAny c 1 ∗ lAny c 2 ∗ crd c 5)
def StH5 : sProp 𝕄 :=
  iprop(rAny (F := F) c 0 ∗ rAny c 1 ∗ rAny c 2 ∗ lAny c 0 ∗ lAny c 1 ∗ lAny c 2)
def StT0 : sProp 𝕄 :=
  iprop(tok (F := F) c 2 ∗ tok (nxt c) 6 ∗ tok c 10 ∗ tok (prv c) 13)
def StT1 : sProp 𝕄 :=
  iprop(pos (F := F) c 6 ∗ crd c 6 ∗ pos c 13 ∗ crd c 13 ∗ pos c 2 ∗ pos c 10 ∗ tok c 3 ∗ tok (nxt c) 7 ∗ tok c 11 ∗ tok (prv c) 14 ∗ tok (prv c) 1 false ∗ rdr c 0)
def StT2 : sProp 𝕄 :=
  iprop(pos (F := F) c 7 ∗ crd c 7 ∗ pos c 14 ∗ crd c 14 ∗ pos c 3 ∗ pos c 11 ∗ pos c 1 ∗ cred (tallyAt (kcell c 1) 0 1) ∗ Release.writeTok EK (nxt c, (0 : Fin 2)) 1
    ∗ tok c 4 ∗ tok (nxt c) 8 ∗ tok c 12 ∗ tok (prv c) 15 ∗ tok (prv c) 1 true ∗ rdr c 1)
def StT3 : sProp 𝕄 :=
  iprop(pos (F := F) c 8 ∗ crd c 8 ∗ pos c 15 ∗ crd c 15 ∗ pos c 4 ∗ pos c 12 ∗ cred (tallyAt (kcell c 1) 1 1) ∗ Release.writeTok EK (nxt c, (1 : Fin 2)) 1
    ∗ tok c 5 ∗ tok (nxt c) 9)
def StT4 : sProp 𝕄 :=
  iprop(pos (F := F) c 9 ∗ crd c 9 ∗ pos c 5)
def StZ1 : sProp 𝕄 :=
  iprop(zro (F := F) c 6 ∗ zro c 13 ∗ zro c 2 ∗ zro c 10)
def StZ2 : sProp 𝕄 :=
  iprop(zro (F := F) c 7 ∗ zro c 14 ∗ zro c 3 ∗ zro c 11)
def StZ3 : sProp 𝕄 :=
  iprop(zro (F := F) c 8 ∗ zro c 1 ∗ zro c 15 ∗ zro c 4 ∗ zro c 12)
def StZ4 : sProp 𝕄 :=
  iprop(zro (F := F) c 9 ∗ zro c 5)

end State

end Cert.RingProof
-- ==== Proof.Pieces.lean ====
/-
The whole buffers as their slots and pieces, and back.
-/
module

public import proofs.«01_k».proof.Proof.States
public import Idealize.ShloMosaic.Lib.Ring.WriteBehind

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The ring buffers and their three slots -/

theorem bigSep_three (Φ : Fin 3 → sProp 𝕄) : bigSep Finset.univ Φ = iprop(Φ 0 ∗ Φ 1 ∗ Φ 2) :=
  bigSep_univ_eq_bigSepL [0, 1, 2] (by decide) (by decide) Φ

theorem disj_slotR (i i' : Fin 3) (h : i ≠ i') : Disjoint (slotM mR i).view.set (slotM mR i').view.set := by
  rw [Finset.disjoint_left]
  intro x hx hx'
  exact h (Fin.ext (((mem_slotR i x).1 hx).symm.trans ((mem_slotR i' x).1 hx')))
theorem cover_slotR : Finset.biUnion (β := S3x2x1024x1024.Idx) Finset.univ (fun i : Fin 3 => ((slotM mR i).view.set : Finset S3x2x1024x1024.Idx)) = Finset.univ := by
  refine Finset.eq_univ_iff_forall.2 fun x => Finset.mem_biUnion.2 ⟨(⟨(x 0).val, (x 0).isLt⟩ : Fin 3), Finset.mem_univ _, ?_⟩
  exact (mem_slotR _ x).2 rfl
theorem slotsR_split (c : Dev nD) :
    iprop(∃ f, (mR.view.loc (tc c)) ↦{fullShare} f) ⊢ (iprop(rAny c 0 ∗ rAny c 1 ∗ rAny c 2) : sProp 𝕄) := by
  refine (Ring.pieces_split (ℓ := mR.view.loc (tc c)) (fun i : Fin 3 => ((slotM mR i).view.set : Finset S3x2x1024x1024.Idx)) disj_slotR cover_slotR (q := fullShare)
    (fun i f => ((slotM mR i).view.loc (tc c) ↦[(slotM mR i).view.set]{fullShare} f)) (fun _ _ => rfl)).trans ?_
  rw [bigSep_three]
  unfold rAny
  exact .rfl
theorem slotsR_join (c : Dev nD) :
    (iprop(rAny c 0 ∗ rAny c 1 ∗ rAny c 2) : sProp 𝕄) ⊢ iprop(∃ f, (mR.view.loc (tc c)) ↦{fullShare} f) := by
  have h := Ring.pieces_join (ℓ := mR.view.loc (tc c)) (fun i : Fin 3 => ((slotM mR i).view.set : Finset S3x2x1024x1024.Idx)) disj_slotR cover_slotR (q := fullShare)
    (fun i f => ((slotM mR i).view.loc (tc c) ↦[(slotM mR i).view.set]{fullShare} f : sProp 𝕄)) (fun _ _ => rfl)
  rw [bigSep_three] at h
  unfold rAny
  iintro ⟨⟨%f, H⟩, H1, H2⟩
  iapply (h f)
  isplitl [H]; · iexists f; iexact H
  isplitl [H1] <;> iassumption

theorem disj_slotL (i i' : Fin 3) (h : i ≠ i') : Disjoint (slotM mL i).view.set (slotM mL i').view.set := by
  rw [Finset.disjoint_left]
  intro x hx hx'
  exact h (Fin.ext (((mem_slotL i x).1 hx).symm.trans ((mem_slotL i' x).1 hx')))
theorem cover_slotL : Finset.biUnion (β := S3x2x1024x1024.Idx) Finset.univ (fun i : Fin 3 => ((slotM mL i).view.set : Finset S3x2x1024x1024.Idx)) = Finset.univ := by
  refine Finset.eq_univ_iff_forall.2 fun x => Finset.mem_biUnion.2 ⟨(⟨(x 0).val, (x 0).isLt⟩ : Fin 3), Finset.mem_univ _, ?_⟩
  exact (mem_slotL _ x).2 rfl
theorem slotsL_split (c : Dev nD) :
    iprop(∃ f, (mL.view.loc (tc c)) ↦{fullShare} f) ⊢ (iprop(lAny c 0 ∗ lAny c 1 ∗ lAny c 2) : sProp 𝕄) := by
  refine (Ring.pieces_split (ℓ := mL.view.loc (tc c)) (fun i : Fin 3 => ((slotM mL i).view.set : Finset S3x2x1024x1024.Idx)) disj_slotL cover_slotL (q := fullShare)
    (fun i f => ((slotM mL i).view.loc (tc c) ↦[(slotM mL i).view.set]{fullShare} f)) (fun _ _ => rfl)).trans ?_
  rw [bigSep_three]
  unfold lAny
  exact .rfl
theorem slotsL_join (c : Dev nD) :
    (iprop(lAny c 0 ∗ lAny c 1 ∗ lAny c 2) : sProp 𝕄) ⊢ iprop(∃ f, (mL.view.loc (tc c)) ↦{fullShare} f) := by
  have h := Ring.pieces_join (ℓ := mL.view.loc (tc c)) (fun i : Fin 3 => ((slotM mL i).view.set : Finset S3x2x1024x1024.Idx)) disj_slotL cover_slotL (q := fullShare)
    (fun i f => ((slotM mL i).view.loc (tc c) ↦[(slotM mL i).view.set]{fullShare} f : sProp 𝕄)) (fun _ _ => rfl)
  rw [bigSep_three] at h
  unfold lAny
  iintro ⟨⟨%f, H⟩, H1, H2⟩
  iapply (h f)
  isplitl [H]; · iexists f; iexact H
  isplitl [H1] <;> iassumption

/-! ## The staging buffers and their eight pieces -/

def pieceEquiv : Fin 2 × Fin 4 ≃ Fin 8 where
  toFun x := ⟨4 * x.1.val + x.2.val, by omega⟩
  invFun k := (⟨k.val / 4, by omega⟩, ⟨k.val % 4, by omega⟩)
  left_inv x := by revert x; decide
  right_inv k := by revert k; decide

theorem bigSep_eight (Φ : Fin 2 × Fin 4 → sProp 𝕄) : bigSep Finset.univ Φ = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [(0, 0), (0, 1), (0, 2), (0, 3), (1, 0), (1, 1), (1, 2), (1, 3)] (by decide) (by decide) Φ

theorem disj_allK (x x' : Fin 2 × Fin 4) (h : x ≠ x') : Disjoint (piece bK x.1 x.2).view.set (piece bK x'.1 x'.2).view.set := by
  rw [Finset.disjoint_left]
  intro i hi hi'
  have h1 := (mem_pieceK x.1 x.2 i).1 hi
  have h2 := (mem_pieceK x'.1 x'.2 i).1 hi'
  exact h (Prod.ext (Fin.ext (by omega)) (Fin.ext (by omega)))
theorem cover_allK : Finset.biUnion (β := S2x256x8x128.Idx) Finset.univ (fun x : Fin 2 × Fin 4 => ((piece bK x.1 x.2).view.set : Finset S2x256x8x128.Idx)) = Finset.univ := by
  refine Finset.eq_univ_iff_forall.2 fun i => Finset.mem_biUnion.2 ⟨((⟨(i 0).val, (i 0).isLt⟩ : Fin 2), (⟨(i 1).val / 64, by
    have : (i 1).val < 256 := (i 1).isLt
    omega⟩ : Fin 4)), Finset.mem_univ _, ?_⟩
  refine (mem_pieceK _ _ i).2 ⟨rfl, ?_, ?_⟩
  · show 64 * ((i 1).val / 64) ≤ _
    omega
  · show _ < 64 * ((i 1).val / 64) + 64
    omega

/-- The local copies' counters at zero. -/
def SemsK (c : Dev nD) : sProp 𝕄 := bigSep Finset.univ fun x : Fin 2 × Fin 4 => semVal (tc c, .dma (pSem cc0_scratch11 x.1 x.2)) 0

theorem toksK (m : (ℓ : Loc nD τ sig) → Buf (Elt F) ℓ) (c : Dev nD) :
    (bigSep Finset.univ fun i : Fin 8 => (mK.view.loc (tc c) ↦[Finset.univ]{Transfers.shareTok fullShare 8 i} m (mK.view.loc (tc c)) : sProp 𝕄))
      = bigSep Finset.univ fun x : Fin 2 × Fin 4 => (mK.view.loc (tc c) ↦[Finset.univ]{shKV x.1 x.2} m (mK.view.loc (tc c))) :=
  bigSep_univ_equiv pieceEquiv _

theorem idleK_all (m : (ℓ : Loc nD τ sig) → Buf (Elt F) ℓ) (c : Dev nD) :
    iprop((∃ f, bK.view.loc (tc c) ↦{fullShare} f) ∗ SemsK c ∗ (mK.view.loc (tc c) ↦{fullShare} m (mK.view.loc (tc c))))
      ⊢ iprop((bigSep Finset.univ fun x : Fin 2 × Fin 4 => IdleK m c x.1 x.2) ∗ (mK.view.loc (tc c) ↦{Transfers.shareDrop fullShare 8} m (mK.view.loc (tc c)))) := by
  iintro ⟨Hb, Hs, Hm⟩
  ihave Hb := (Ring.pieces_split (ℓ := bK.view.loc (tc c)) (fun x : Fin 2 × Fin 4 => ((piece bK x.1 x.2).view.set : Finset S2x256x8x128.Idx)) disj_allK cover_allK (q := fullShare)
    (fun x f => ((piece bK x.1 x.2).view.loc (tc c) ↦[(piece bK x.1 x.2).view.set]{fullShare} f : sProp 𝕄)) (fun _ _ => rfl)) $$ Hb
  ihave Hm := (Transfers.pointsTo_toks_split fullShare 8) $$ Hm
  icases Hm with ⟨Hd, Hm⟩
  isplitr [Hd]
  · unfold IdleK SemsK
    rw [bigSep_sep', bigSep_sep']
    isplitl [Hb]; · iexact Hb
    isplitl [Hs]; · iexact Hs
    iapply (Entails.of_eq (toksK m c)) $$ Hm
  iexact Hd

theorem idleK_back (m : (ℓ : Loc nD τ sig) → Buf (Elt F) ℓ) (c : Dev nD) :
    iprop((bigSep Finset.univ fun x : Fin 2 × Fin 4 => IdleK m c x.1 x.2) ∗ (mK.view.loc (tc c) ↦{Transfers.shareDrop fullShare 8} m (mK.view.loc (tc c))))
      ⊢ iprop((∃ f, bK.view.loc (tc c) ↦{fullShare} f) ∗ SemsK c ∗ (mK.view.loc (tc c) ↦{fullShare} m (mK.view.loc (tc c)))) := by
  unfold IdleK SemsK
  rw [bigSep_sep', bigSep_sep']
  iintro ⟨⟨Hb, Hs, Hm⟩, Hd⟩
  isplitl [Hb]
  · iapply (Ring.pieces_join (ℓ := bK.view.loc (tc c)) (fun x : Fin 2 × Fin 4 => ((piece bK x.1 x.2).view.set : Finset S2x256x8x128.Idx)) disj_allK cover_allK (q := fullShare)
      (fun x f => ((piece bK x.1 x.2).view.loc (tc c) ↦[(piece bK x.1 x.2).view.set]{fullShare} f : sProp 𝕄)) (fun _ _ => rfl) (cK m c 0 0)) $$ Hb
  isplitl [Hs]; · iexact Hs
  iapply (Transfers.pointsTo_toks_join fullShare 8)
  isplitl [Hd]; · iexact Hd
  iapply (Entails.of_eq (toksK m c).symm) $$ Hm

theorem disj_allV (x x' : Fin 2 × Fin 4) (h : x ≠ x') : Disjoint (piece bV x.1 x.2).view.set (piece bV x'.1 x'.2).view.set := by
  rw [Finset.disjoint_left]
  intro i hi hi'
  have h1 := (mem_pieceV x.1 x.2 i).1 hi
  have h2 := (mem_pieceV x'.1 x'.2 i).1 hi'
  exact h (Prod.ext (Fin.ext (by omega)) (Fin.ext (by omega)))
theorem cover_allV : Finset.biUnion (β := S2x256x8x128.Idx) Finset.univ (fun x : Fin 2 × Fin 4 => ((piece bV x.1 x.2).view.set : Finset S2x256x8x128.Idx)) = Finset.univ := by
  refine Finset.eq_univ_iff_forall.2 fun i => Finset.mem_biUnion.2 ⟨((⟨(i 0).val, (i 0).isLt⟩ : Fin 2), (⟨(i 1).val / 64, by
    have : (i 1).val < 256 := (i 1).isLt
    omega⟩ : Fin 4)), Finset.mem_univ _, ?_⟩
  refine (mem_pieceV _ _ i).2 ⟨rfl, ?_, ?_⟩
  · show 64 * ((i 1).val / 64) ≤ _
    omega
  · show _ < 64 * ((i 1).val / 64) + 64
    omega

/-- The local copies' counters at zero. -/
def SemsV (c : Dev nD) : sProp 𝕄 := bigSep Finset.univ fun x : Fin 2 × Fin 4 => semVal (tc c, .dma (pSem cc0_scratch12 x.1 x.2)) 0

theorem toksV (m : (ℓ : Loc nD τ sig) → Buf (Elt F) ℓ) (c : Dev nD) :
    (bigSep Finset.univ fun i : Fin 8 => (mV.view.loc (tc c) ↦[Finset.univ]{Transfers.shareTok fullShare 8 i} m (mV.view.loc (tc c)) : sProp 𝕄))
      = bigSep Finset.univ fun x : Fin 2 × Fin 4 => (mV.view.loc (tc c) ↦[Finset.univ]{shKV x.1 x.2} m (mV.view.loc (tc c))) :=
  bigSep_univ_equiv pieceEquiv _

theorem idleV_all (m : (ℓ : Loc nD τ sig) → Buf (Elt F) ℓ) (c : Dev nD) :
    iprop((∃ f, bV.view.loc (tc c) ↦{fullShare} f) ∗ SemsV c ∗ (mV.view.loc (tc c) ↦{fullShare} m (mV.view.loc (tc c))))
      ⊢ iprop((bigSep Finset.univ fun x : Fin 2 × Fin 4 => IdleV m c x.1 x.2) ∗ (mV.view.loc (tc c) ↦{Transfers.shareDrop fullShare 8} m (mV.view.loc (tc c)))) := by
  iintro ⟨Hb, Hs, Hm⟩
  ihave Hb := (Ring.pieces_split (ℓ := bV.view.loc (tc c)) (fun x : Fin 2 × Fin 4 => ((piece bV x.1 x.2).view.set : Finset S2x256x8x128.Idx)) disj_allV cover_allV (q := fullShare)
    (fun x f => ((piece bV x.1 x.2).view.loc (tc c) ↦[(piece bV x.1 x.2).view.set]{fullShare} f : sProp 𝕄)) (fun _ _ => rfl)) $$ Hb
  ihave Hm := (Transfers.pointsTo_toks_split fullShare 8) $$ Hm
  icases Hm with ⟨Hd, Hm⟩
  isplitr [Hd]
  · unfold IdleV SemsV
    rw [bigSep_sep', bigSep_sep']
    isplitl [Hb]; · iexact Hb
    isplitl [Hs]; · iexact Hs
    iapply (Entails.of_eq (toksV m c)) $$ Hm
  iexact Hd

theorem idleV_back (m : (ℓ : Loc nD τ sig) → Buf (Elt F) ℓ) (c : Dev nD) :
    iprop((bigSep Finset.univ fun x : Fin 2 × Fin 4 => IdleV m c x.1 x.2) ∗ (mV.view.loc (tc c) ↦{Transfers.shareDrop fullShare 8} m (mV.view.loc (tc c))))
      ⊢ iprop((∃ f, bV.view.loc (tc c) ↦{fullShare} f) ∗ SemsV c ∗ (mV.view.loc (tc c) ↦{fullShare} m (mV.view.loc (tc c)))) := by
  unfold IdleV SemsV
  rw [bigSep_sep', bigSep_sep']
  iintro ⟨⟨Hb, Hs, Hm⟩, Hd⟩
  isplitl [Hb]
  · iapply (Ring.pieces_join (ℓ := bV.view.loc (tc c)) (fun x : Fin 2 × Fin 4 => ((piece bV x.1 x.2).view.set : Finset S2x256x8x128.Idx)) disj_allV cover_allV (q := fullShare)
      (fun x f => ((piece bV x.1 x.2).view.loc (tc c) ↦[(piece bV x.1 x.2).view.set]{fullShare} f : sProp 𝕄)) (fun _ _ => rfl) (cV m c 0 0)) $$ Hb
  isplitl [Hs]; · iexact Hs
  iapply (Transfers.pointsTo_toks_join fullShare 8)
  isplitl [Hd]; · iexact Hd
  iapply (Entails.of_eq (toksV m c).symm) $$ Hm

/-- All the pieces at rest, both halves. -/
theorem idle8_all (m : (ℓ : Loc nD τ sig) → Buf (Elt F) ℓ) (c : Dev nD) :
    iprop((bigSep Finset.univ fun x : Fin 2 × Fin 4 => IdleK m c x.1 x.2) ∗ (bigSep Finset.univ fun x : Fin 2 × Fin 4 => IdleV m c x.1 x.2))
      ⊢ iprop(Idle8 m c 0 ∗ Idle8 m c 1) := by
  rw [bigSep_eight, bigSep_eight]
  unfold Idle8
  iintro ⟨⟨K00, K01, K02, K03, K10, K11, K12, K13⟩, ⟨V00, V01, V02, V03, V10, V11, V12, V13⟩⟩
  isplitl [K00 V00 K01 V01 K02 V02 K03 V03]
  · isplitl [K00]; · iexact K00
    isplitl [V00]; · iexact V00
    isplitl [K01]; · iexact K01
    isplitl [V01]; · iexact V01
    isplitl [K02]; · iexact K02
    isplitl [V02]; · iexact V02
    isplitl [K03]; · iexact K03
    iexact V03
  isplitl [K10]; · iexact K10
  isplitl [V10]; · iexact V10
  isplitl [K11]; · iexact K11
  isplitl [V11]; · iexact V11
  isplitl [K12]; · iexact K12
  isplitl [V12]; · iexact V12
  isplitl [K13]; · iexact K13
  iexact V13

theorem idle8_back (m : (ℓ : Loc nD τ sig) → Buf (Elt F) ℓ) (c : Dev nD) :
    iprop(Idle8 m c 0 ∗ Idle8 m c 1)
      ⊢ iprop((bigSep Finset.univ fun x : Fin 2 × Fin 4 => IdleK m c x.1 x.2) ∗ (bigSep Finset.univ fun x : Fin 2 × Fin 4 => IdleV m c x.1 x.2)) := by
  rw [bigSep_eight, bigSep_eight]
  unfold Idle8
  iintro ⟨⟨K00, V00, K01, V01, K02, V02, K03, V03⟩, ⟨K10, V10, K11, V11, K12, V12, K13, V13⟩⟩
  isplitl [K00 K01 K02 K03 K10 K11 K12 K13]
  · isplitl [K00]; · iexact K00
    isplitl [K01]; · iexact K01
    isplitl [K02]; · iexact K02
    isplitl [K03]; · iexact K03
    isplitl [K10]; · iexact K10
    isplitl [K11]; · iexact K11
    isplitl [K12]; · iexact K12
    iexact K13
  isplitl [V00]; · iexact V00
  isplitl [V01]; · iexact V01
  isplitl [V02]; · iexact V02
  isplitl [V03]; · iexact V03
  isplitl [V10]; · iexact V10
  isplitl [V11]; · iexact V11
  isplitl [V12]; · iexact V12
  iexact V13

end Cert.RingProof
-- ==== Proof.Step0.lean ====
/-
Step 0 of the ring.
-/
module

public import proofs.«01_k».proof.Proof.States

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxHeartbeats 2000000 in
/-- What step 0 does. -/
theorem step0 (m : (ℓ : Loc nD τ sig) → Buf (Elt F) ℓ) (K : Dev nD × Fin 16 → ℕ) (KR : Dev nD × Fin 2 → ℕ) (c : Dev nD) (xg : Buf (Elt F) (mX.view.loc (tc c)))
    (t1 : Fin k0_t1_loop.trips) (ht : t1.val = 0) (v2 v4 v7 : BitVec 32) :
    iprop(Com m K KR c xg 0 ∗ StH0 m c ∗ StT0 c) ⊢ wp frame (wpE defs₀ 𝒱₀ (tc c) none) Set.univ
      (k0_t1_body (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 v4 v7 t1 ⟨⟩)
      (fun _ => iprop(Com m K KR c xg 1 ∗ StH1 m c ∗ emp)) := by
  unfold Com StH0 StT0
  simp only [k0_t1_body, k0_part14_eq_skeleton, k0_part14_skel, k0_part15_eq_skeleton, k0_part15_skel, k0_part16_eq_skeleton, k0_part16_skel,
    Prog.lift, Prog.bind_op, Prog.bind_ret, Prog.pure_eq_ret]
  iintro ⟨⟨#HE, HX, HO, I0, I1, Ho⟩, ⟨SR, N1, N2, P0, P1, P2⟩, ⟨T2, TN6, T10, TP13⟩⟩
  rw [dif_neg ((mt (cond1_iff t1).1 (by omega)))]
  try simp only [Prog.bind_op, Prog.bind_ret]
  rw [dif_pos ((cond2_iff t1).2 (by omega))]
  try simp only [Prog.bind_op, Prog.bind_ret]
  ihave SR := rIs_halves.1 $$ SR
  icases SR with ⟨SR, SRr⟩
  ihave SRr := rIs_quarters.1 $$ SRr
  icases SRr with ⟨SRr, SRl⟩
  rw [dif_neg ((mt (cond3_iff t1).1 (by omega)))]
  try simp only [Prog.bind_op, Prog.bind_ret]
  iapply (sendRR m K KR c (nxt c) 0 1 shRL (bk 0 c) 2 6 8 (hS := (k0_off5_eq t1).trans (by rw [ht]; rfl)) (hD := (k0_off4_eq t1).trans (by rw [ht]; rfl))
      (sem_rsend 0 ((k0_off3_eq t1).trans (by rw [ht]; rfl))) (sem_rrecv 0 ((k0_off3_eq t1).trans (by rw [ht]; rfl))) (by decide) (by decide)
      (Fin.ext (k0_dev3_eq c)) rfl rfl rfl rfl rfl (congrArg (rIs m (nxt c) 1 fullShare) (bk_nxt 0 c))) $$ [SRr N1 Ho T2 TN6]
  · isplitl []; · iexact HE
    isplitl [SRr]; · iexact SRr
    isplitl [N1]; · iexact N1
    isplitl [Ho]; · iexact Ho
    isplitl [T2]; · iexact T2
    iexact TN6
  iintro ⟨C2, Ho⟩
  rw [dif_pos ((cond4_iff t1).2 (by omega))]
  try simp only [Prog.bind_op, Prog.bind_ret]
  iapply (sendRL m K KR c (prv c) 0 1 shRR (bk 0 c) 10 13 7 (hS := rfl) (hD := rfl)
      (sem_lsend 0 rfl) (sem_lrecv 0 rfl) (by decide) (by decide)
      (Fin.ext (k0_dev4_eq c)) rfl rfl rfl rfl rfl (congrArg (lIs m (prv c) 1 fullShare) ((fw_prv 0 c).trans ((fw_zero c).trans (bk_zero c).symm)))) $$ [SRl P1 Ho T10 TP13]
  · isplitl []; · iexact HE
    isplitl [SRl]; · iexact SRl
    isplitl [P1]; · iexact P1
    isplitl [Ho]; · iexact Ho
    isplitl [T10]; · iexact T10
    iexact TP13
  iintro ⟨C10, Ho⟩
  iapply (loadR m c (bk 0 c) 0 0 shL (ho := (k0_off6_eq t1).trans (by rw [ht]; rfl))) $$ SR
  iintro SR
  iapply (loadR m c (bk 0 c) 0 1 shL (ho := (k0_off7_eq t1).trans (by rw [ht]; rfl))) $$ SR
  iintro SR
  simp only [pay14_row, pay15_row]
  ihave I0 := (idle8_split m c 0) $$ I0
  icases I0 with ⟨IK0, IV0, IK1, IV1, IK2, IV2, IK3, IV3⟩
  iapply (issueK m c (bk 0 c : Fin 8) 0 0 0 (hS := (k0_off8_eq c t1).trans (by rw [ht]; rfl)) (hD := rfl) (hQ := rfl)) $$ IK0
  iintro FK0
  iapply (issueV m c (bk 0 c : Fin 8) 0 0 0 (hS := (k0_off8_eq c t1).trans (by rw [ht]; rfl)) (hD := rfl) (hQ := rfl)) $$ IV0
  iintro FV0
  iapply (issueK m c (bk 0 c : Fin 8) 0 0 1 (hS := (k0_off9_eq c t1).trans (by rw [ht]; rfl)) (hD := rfl) (hQ := rfl)) $$ IK1
  iintro FK1
  iapply (issueV m c (bk 0 c : Fin 8) 0 0 1 (hS := (k0_off9_eq c t1).trans (by rw [ht]; rfl)) (hD := rfl) (hQ := rfl)) $$ IV1
  iintro FV1
  iapply (issueK m c (bk 0 c : Fin 8) 0 0 2 (hS := (k0_off10_eq c t1).trans (by rw [ht]; rfl)) (hD := rfl) (hQ := rfl)) $$ IK2
  iintro FK2
  iapply (issueV m c (bk 0 c : Fin 8) 0 0 2 (hS := (k0_off10_eq c t1).trans (by rw [ht]; rfl)) (hD := rfl) (hQ := rfl)) $$ IV2
  iintro FV2
  iapply (issueK m c (bk 0 c : Fin 8) 0 0 3 (hS := (k0_off11_eq c t1).trans (by rw [ht]; rfl)) (hD := rfl) (hQ := rfl)) $$ IK3
  iintro FK3
  iapply (issueV m c (bk 0 c : Fin 8) 0 0 3 (hS := (k0_off11_eq c t1).trans (by rw [ht]; rfl)) (hD := rfl) (hQ := rfl)) $$ IV3
  iintro FV3
  iapply (loop2 m c t1 (bk 0 c : Fin 8) (by rw [ht]; rfl) (Env m K KR) (O := Od c 7) (fun q hq => env_lev.trans (mayWait_local c q (.inl hq) 7 (by decide))) xg (wqv m (bk 0 c)) (wov m (bk 0 c)) (accAt m c xg 0) _) $$ [FK0 FV0 FK1 FV1 FK2 FV2 FK3 FV3 I1 HX HO Ho]
  · unfold GI Bufs
    rw [dif_pos (show 0 < 4 by decide)]
    isplitl []; · iexact HE
    isplitl [FK0 FV0 FK1 FV1 FK2 FV2 FK3 FV3 I1]
    · isplitl [FK0 FV0 FK1 FV1 FK2 FV2 FK3 FV3]
      · unfold Fly8
        isplitl [FK0]; · iexact FK0
        isplitl [FV0]; · iexact FV0
        isplitl [FK1]; · iexact FK1
        isplitl [FV1]; · iexact FV1
        isplitl [FK2]; · iexact FK2
        isplitl [FV2]; · iexact FV2
        isplitl [FK3]; · iexact FK3
        iexact FV3
      iexact I1
    isplitl [HX]; · iexact HX
    isplitl [HO]; · iexact HO
    iexact Ho
  iintro HG
  unfold GI Bufs
  rw [dif_neg (show ¬ 4 < 4 by decide)]
  icases HG with ⟨-, ⟨I0, I1⟩, HX, HO, Ho⟩
  ihave I0 := (Entails.of_eq (show Idle8 m c (half 4) = Idle8 m c 0 from rfl)) $$ I0
  ihave I1 := (Entails.of_eq (show Idle8 m c (half (4 + 1)) = Idle8 m c 1 from rfl)) $$ I1
  rw [dif_neg (mt (cond6_iff t1).1 (by omega))]
  try simp only [Prog.bind_op, Prog.bind_ret]
  rw [dif_neg ((mt (cond9_iff t1).1 (by omega)))]
  try simp only [Prog.bind_op, Prog.bind_ret]
  simp only [wp_ret]
  imodintro
  unfold StH1
  rw [accAt_1]
  isplitl [HX HO I0 I1 Ho]
  · isplitl []; · iexact HE
    isplitl [HX]; · iexact HX
    isplitl [HO]; · iexact HO
    isplitl [I0]; · iexact I0
    isplitl [I1]; · iexact I1
    iexact Ho
  isplitl [SR C2 C10 N2 P0 P2]
  · isplitl [SR]; · iexact SR
    isplitl [C2]; · iexact C2
    isplitl [C10]; · iexact C10
    isplitl [N2]; · iexact N2
    isplitl [P0]; · iexact P0
    iexact P2
  iempintro

end Cert.RingProof
-- ==== Proof.Step1.lean ====
/-
Step 1 of the ring.
-/
module

public import proofs.«01_k».proof.Proof.States

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxHeartbeats 2000000 in
/-- What step 1 does. -/
theorem step1 (m : (ℓ : Loc nD τ sig) → Buf (Elt F) ℓ) (K : Dev nD × Fin 16 → ℕ) (KR : Dev nD × Fin 2 → ℕ) (c : Dev nD) (xg : Buf (Elt F) (mX.view.loc (tc c)))
    (t1 : Fin k0_t1_loop.trips) (ht : t1.val = 1) (v2 v4 v7 : BitVec 32) :
    iprop(Com m K KR c xg 1 ∗ StH1 m c ∗ StT1 c) ⊢ wp frame (wpE defs₀ 𝒱₀ (tc c) none) Set.univ
      (k0_t1_body (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 v4 v7 t1 ⟨⟩)
      (fun _ => iprop(Com m K KR c xg 2 ∗ StH2 m c ∗ StZ1 c)) := by
  unfold Com StH1 StT1
  simp only [k0_t1_body, k0_part14_eq_skeleton, k0_part14_skel, k0_part15_eq_skeleton, k0_part15_skel, k0_part16_eq_skeleton, k0_part16_skel,
    Prog.lift, Prog.bind_op, Prog.bind_ret, Prog.pure_eq_ret]
  iintro ⟨⟨#HE, HX, HO, I0, I1, Ho⟩, ⟨SR0, C2, C10, N2, P0, P2⟩, ⟨A6, C6, A13, C13, A2, A10, T3, TN7, T11, TP14, TC, Hrd⟩⟩
  rw [dif_pos ((cond1_iff t1).2 (by omega))]
  try simp only [Prog.bind_op, Prog.bind_ret]
  iapply (waitCell m K KR c 6 7 (sem_rrecv 0 ((off1_eq t1 (by omega)).trans (by rw [ht]; rfl))) (by decide) (by decide) (rIs m c 1 fullShare (bk 1 c)) rfl (credit_mem _)) $$ [A6 C6 Ho]
  · isplitl []; · iexact HE
    isplitl [A6]; · iexact A6
    isplitl [C6]; · iexact C6
    iexact Ho
  iintro ⟨Ho, Z6, SR⟩
  rw [dif_pos ((cond2_iff t1).2 (by omega))]
  try simp only [Prog.bind_op, Prog.bind_ret]
  ihave SR := rIs_halves.1 $$ SR
  icases SR with ⟨SR, SRr⟩
  rw [dif_neg ((mt (cond3_iff t1).1 (by omega)))]
  try simp only [Prog.bind_op, Prog.bind_ret]
  iapply (sendRR m K KR c (nxt c) 1 2 shR (bk 1 c) 3 7 6 (hS := (k0_off5_eq t1).trans (by rw [ht]; rfl)) (hD := (k0_off4_eq t1).trans (by rw [ht]; rfl))
      (sem_rsend 1 ((k0_off3_eq t1).trans (by rw [ht]; rfl))) (sem_rrecv 1 ((k0_off3_eq t1).trans (by rw [ht]; rfl))) (by decide) (by decide)
      (Fin.ext (k0_dev3_eq c)) rfl rfl rfl rfl rfl (congrArg (rIs m (nxt c) 2 fullShare) (bk_nxt 1 c))) $$ [SRr N2 Ho T3 TN7]
  · isplitl []; · iexact HE
    isplitl [SRr]; · iexact SRr
    isplitl [N2]; · iexact N2
    isplitl [Ho]; · iexact Ho
    isplitl [T3]; · iexact T3
    iexact TN7
  iintro ⟨C3, Ho⟩
  rw [dif_neg ((mt (cond4_iff t1).1 (by omega)))]
  try simp only [Prog.bind_op, Prog.bind_ret]
  iapply (loadR m c (bk 1 c) 1 0 shL (ho := (k0_off6_eq t1).trans (by rw [ht]; rfl))) $$ SR
  iintro SR
  iapply (loadR m c (bk 1 c) 1 1 shL (ho := (k0_off7_eq t1).trans (by rw [ht]; rfl))) $$ SR
  iintro SR
  simp only [pay14_row, pay15_row]
  ihave I0 := (idle8_split m c 0) $$ I0
  icases I0 with ⟨IK0, IV0, IK1, IV1, IK2, IV2, IK3, IV3⟩
  iapply (issueK m c (bk 1 c : Fin 8) 0 0 0 (hS := (k0_off8_eq c t1).trans (by rw [ht]; rfl)) (hD := rfl) (hQ := rfl)) $$ IK0
  iintro FK0
  iapply (issueV m c (bk 1 c : Fin 8) 0 0 0 (hS := (k0_off8_eq c t1).trans (by rw [ht]; rfl)) (hD := rfl) (hQ := rfl)) $$ IV0
  iintro FV0
  iapply (issueK m c (bk 1 c : Fin 8) 0 0 1 (hS := (k0_off9_eq c t1).trans (by rw [ht]; rfl)) (hD := rfl) (hQ := rfl)) $$ IK1
  iintro FK1
  iapply (issueV m c (bk 1 c : Fin 8) 0 0 1 (hS := (k0_off9_eq c t1).trans (by rw [ht]; rfl)) (hD := rfl) (hQ := rfl)) $$ IV1
  iintro FV1
  iapply (issueK m c (bk 1 c : Fin 8) 0 0 2 (hS := (k0_off10_eq c t1).trans (by rw [ht]; rfl)) (hD := rfl) (hQ := rfl)) $$ IK2
  iintro FK2
  iapply (issueV m c (bk 1 c : Fin 8) 0 0 2 (hS := (k0_off10_eq c t1).trans (by rw [ht]; rfl)) (hD := rfl) (hQ := rfl)) $$ IV2
  iintro FV2
  iapply (issueK m c (bk 1 c : Fin 8) 0 0 3 (hS := (k0_off11_eq c t1).trans (by rw [ht]; rfl)) (hD := rfl) (hQ := rfl)) $$ IK3
  iintro FK3
  iapply (issueV m c (bk 1 c : Fin 8) 0 0 3 (hS := (k0_off11_eq c t1).trans (by rw [ht]; rfl)) (hD := rfl) (hQ := rfl)) $$ IV3
  iintro FV3
  iapply (loop2 m c t1 (bk 1 c : Fin 8) (by rw [ht]; rfl) (Env m K KR) (O := Od c 6) (fun q hq => env_lev.trans (mayWait_local c q (.inl hq) 6 (by decide))) xg (wqv m (bk 1 c)) (wov m (bk 1 c)) (accAt m c xg 1) _) $$ [FK0 FV0 FK1 FV1 FK2 FV2 FK3 FV3 I1 HX HO Ho]
  · unfold GI Bufs
    rw [dif_pos (show 0 < 4 by decide)]
    isplitl []; · iexact HE
    isplitl [FK0 FV0 FK1 FV1 FK2 FV2 FK3 FV3 I1]
    · isplitl [FK0 FV0 FK1 FV1 FK2 FV2 FK3 FV3]
      · unfold Fly8
        isplitl [FK0]; · iexact FK0
        isplitl [FV0]; · iexact FV0
        isplitl [FK1]; · iexact FK1
        isplitl [FV1]; · iexact FV1
        isplitl [FK2]; · iexact FK2
        isplitl [FV2]; · iexact FV2
        isplitl [FK3]; · iexact FK3
        iexact FV3
      iexact I1
    isplitl [HX]; · iexact HX
    isplitl [HO]; · iexact HO
    iexact Ho
  iintro HG
  unfold GI Bufs
  rw [dif_neg (show ¬ 4 < 4 by decide)]
  icases HG with ⟨-, ⟨I0, I1⟩, HX, HO, Ho⟩
  ihave I0 := (Entails.of_eq (show Idle8 m c (half 4) = Idle8 m c 0 from rfl)) $$ I0
  ihave I1 := (Entails.of_eq (show Idle8 m c (half (4 + 1)) = Idle8 m c 1 from rfl)) $$ I1
  rw [dif_pos ((cond6_iff t1).2 (by omega))]
  try simp only [Prog.bind_op, Prog.bind_ret]
  simp only [k0_part11_eq_skeleton, k0_part11_skel, k0_part12_eq_skeleton, k0_part12_skel, k0_part13_eq_skeleton, k0_part13_skel,
    Prog.lift, Prog.bind_op, Prog.bind_ret, Prog.pure_eq_ret]
  iapply (waitCell m K KR c 13 6 (sem_lrecv 0 ((off33_eq t1 (by omega)).trans (by rw [ht]; rfl))) (by decide) (by decide) (lIs m c 1 fullShare (fw 1 c)) rfl (credit_mem _)) $$ [A13 C13 Ho]
  · isplitl []; · iexact HE
    isplitl [A13]; · iexact A13
    isplitl [C13]; · iexact C13
    iexact Ho
  iintro ⟨Ho, Z13, SL⟩
  rw [dif_pos ((cond7_iff t1).2 (by omega))]
  try simp only [Prog.bind_op, Prog.bind_ret]
  ihave SL := lIs_halves.1 $$ SL
  icases SL with ⟨SL, SLr⟩
  iapply (sendLL m K KR c (prv c) 1 2 shR (fw 1 c) 11 14 5 (hS := (k0_off37_eq t1).trans (by rw [ht]; rfl)) (hD := (k0_off36_eq t1).trans (by rw [ht]; rfl))
      (sem_lsend 1 ((k0_off35_eq t1).trans (by rw [ht]; rfl))) (sem_lrecv 1 ((k0_off35_eq t1).trans (by rw [ht]; rfl))) (by decide) (by decide)
      (Fin.ext (k0_dev5_eq c)) rfl rfl rfl rfl rfl (congrArg (lIs m (prv c) 2 fullShare) (fw_prv 1 c))) $$ [SLr P2 Ho T11 TP14]
  · isplitl []; · iexact HE
    isplitl [SLr]; · iexact SLr
    isplitl [P2]; · iexact P2
    isplitl [Ho]; · iexact Ho
    isplitl [T11]; · iexact T11
    iexact TP14
  iintro ⟨C11, Ho⟩
  iapply (loadL m c (fw 1 c) 1 0 shL (ho := (k0_off38_eq t1).trans (by rw [ht]; rfl))) $$ SL
  iintro SL
  iapply (loadL m c (fw 1 c) 1 1 shL (ho := (k0_off39_eq t1).trans (by rw [ht]; rfl))) $$ SL
  iintro SL
  simp only [pay12_row, pay13_row]
  ihave I0 := (idle8_split m c 0) $$ I0
  icases I0 with ⟨IK0, IV0, IK1, IV1, IK2, IV2, IK3, IV3⟩
  iapply (issueK m c (fw 1 c : Fin 8) 0 0 0 (hS := (k0_off40_eq c t1).trans (by rw [ht]; rfl)) (hD := rfl) (hQ := rfl)) $$ IK0
  iintro FK0
  iapply (issueV m c (fw 1 c : Fin 8) 0 0 0 (hS := (k0_off40_eq c t1).trans (by rw [ht]; rfl)) (hD := rfl) (hQ := rfl)) $$ IV0
  iintro FV0
  iapply (issueK m c (fw 1 c : Fin 8) 0 0 1 (hS := (k0_off41_eq c t1).trans (by rw [ht]; rfl)) (hD := rfl) (hQ := rfl)) $$ IK1
  iintro FK1
  iapply (issueV m c (fw 1 c : Fin 8) 0 0 1 (hS := (k0_off41_eq c t1).trans (by rw [ht]; rfl)) (hD := rfl) (hQ := rfl)) $$ IV1
  iintro FV1
  iapply (issueK m c (fw 1 c : Fin 8) 0 0 2 (hS := (k0_off42_eq c t1).trans (by rw [ht]; rfl)) (hD := rfl) (hQ := rfl)) $$ IK2
  iintro FK2
  iapply (issueV m c (fw 1 c : Fin 8) 0 0 2 (hS := (k0_off42_eq c t1).trans (by rw [ht]; rfl)) (hD := rfl) (hQ := rfl)) $$ IV2
  iintro FV2
  iapply (issueK m c (fw 1 c : Fin 8) 0 0 3 (hS := (k0_off43_eq c t1).trans (by rw [ht]; rfl)) (hD := rfl) (hQ := rfl)) $$ IK3
  iintro FK3
  iapply (issueV m c (fw 1 c : Fin 8) 0 0 3 (hS := (k0_off43_eq c t1).trans (by rw [ht]; rfl)) (hD := rfl) (hQ := rfl)) $$ IV3
  iintro FV3
  iapply (loop3 m c t1 (fw 1 c : Fin 8) (by rw [ht]; rfl) (Env m K KR) (O := Od c 5) (fun q hq => env_lev.trans (mayWait_local c q (.inl hq) 5 (by decide))) xg (wqv m (fw 1 c)) (wov m (fw 1 c)) (addDev m c xg (bk 1 c) (accAt m c xg 1)) _ _ _ rfl) $$ [FK0 FV0 FK1 FV1 FK2 FV2 FK3 FV3 I1 HX HO Ho]
  · unfold GI Bufs
    rw [dif_pos (show 0 < 4 by decide)]
    isplitl []; · iexact HE
    isplitl [FK0 FV0 FK1 FV1 FK2 FV2 FK3 FV3 I1]
    · isplitl [FK0 FV0 FK1 FV1 FK2 FV2 FK3 FV3]
      · unfold Fly8
        isplitl [FK0]; · iexact FK0
        isplitl [FV0]; · iexact FV0
        isplitl [FK1]; · iexact FK1
        isplitl [FV1]; · iexact FV1
        isplitl [FK2]; · iexact FK2
        isplitl [FV2]; · iexact FV2
        isplitl [FK3]; · iexact FK3
        iexact FV3
      iexact I1
    isplitl [HX]; · iexact HX
    isplitl [HO]; · iexact HO
    iexact Ho
  iintro HG
  unfold GI Bufs
  rw [dif_neg (show ¬ 4 < 4 by decide)]
  icases HG with ⟨-, ⟨I0, I1⟩, HX, HO, Ho⟩
  ihave I0 := (Entails.of_eq (show Idle8 m c (half 4) = Idle8 m c 0 from rfl)) $$ I0
  ihave I1 := (Entails.of_eq (show Idle8 m c (half (4 + 1)) = Idle8 m c 1 from rfl)) $$ I1
  try simp only [Prog.bind_op, Prog.bind_ret]
  rw [dif_pos ((cond9_iff t1).2 (by omega))]
  try simp only [Prog.bind_op, Prog.bind_ret]
  iapply (waitCell m K KR c 2 5 (sem_rsend 0 ((off65_eq t1 (by omega)).trans (by rw [ht]; rfl))) (by decide) (by decide) (rIs m c 0 shRL (bk 0 c)) rfl (credit_mem _)) $$ [A2 C2 Ho]
  · isplitl []; · iexact HE
    isplitl [A2]; · iexact A2
    isplitl [C2]; · iexact C2
    iexact Ho
  iintro ⟨Ho, Z2, SX⟩
  rw [dif_pos ((cond10_iff t1).2 (by omega))]
  try simp only [Prog.bind_op, Prog.bind_ret]
  iapply (waitCell m K KR c 10 5 (sem_lsend 0 ((off68_eq t1 (by omega)).trans (by rw [ht]; rfl))) (by decide) (by decide) (rIs m c 0 shRR (bk 0 c)) rfl (credit_mem _)) $$ [A10 C10 Ho]
  · isplitl []; · iexact HE
    isplitl [A10]; · iexact A10
    isplitl [C10]; · iexact C10
    iexact Ho
  iintro ⟨Ho, Z10, SY⟩
  ihave SX := (rIs_quarters.2) $$ [SX SY]
  · isplitl [SX] <;> iassumption
  ihave SX := (rIs_halves.2) $$ [SR0 SX]
  · isplitl [SR0] <;> iassumption
  ihave SX := rIs_any $$ SX
  rw [dif_pos ((cond11_iff t1).2 (by omega))]
  try simp only [Prog.bind_op, Prog.bind_ret]
  simp only [semSignalWord, Prog.bind_op, Prog.bind_ret]
  iapply fupd_wp
  imod (giveBack m K KR c 0) $$ [Hrd SX] with #Hrel0
  · isplitl []; · iexact HE
    isplitl [Hrd]; · iexact Hrd
    iexact SX
  imodintro
  iapply (signalCell m K KR c (prv c) 1 false 4 (sm := cc0_scratch13.sem) rfl (by decide) (Fin.ext (k0_dev6_eq c)) rfl rfl rfl (rel c 0) (by show Release.released EK (nxt (prv c), (0 : Fin 2)) 1 = _; rw [nxt_prv])) $$ [Ho TC]
  · isplitl []; · iexact HE
    isplitl [Ho]; · iexact Ho
    isplitl [TC]; · iexact TC
    iexact Hrel0
  iintro Ho
  simp only [wp_ret]
  imodintro
  unfold StH2 StZ1
  rw [accAt_2]
  isplitl [HX HO I0 I1 Ho]
  · isplitl []; · iexact HE
    isplitl [HX]; · iexact HX
    isplitl [HO]; · iexact HO
    isplitl [I0]; · iexact I0
    isplitl [I1]; · iexact I1
    iexact Ho
  isplitl [SR SL C3 C11 P0]
  · isplitl [SR]; · iexact SR
    isplitl [SL]; · iexact SL
    isplitl [C3]; · iexact C3
    isplitl [C11]; · iexact C11
    isplitl [P0]; · iexact P0
    iexact Hrel0
  isplitl [Z6]; · iexact Z6
  isplitl [Z13]; · iexact Z13
  isplitl [Z2]; · iexact Z2
  iexact Z10

end Cert.RingProof
-- ==== Proof.Step2.lean ====
/-
Step 2 of the ring.
-/
module

public import proofs.«01_k».proof.Proof.States

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxHeartbeats 2000000 in
/-- What step 2 does. -/
theorem step2 (m : (ℓ : Loc nD τ sig) → Buf (Elt F) ℓ) (K : Dev nD × Fin 16 → ℕ) (KR : Dev nD × Fin 2 → ℕ) (c : Dev nD) (xg : Buf (Elt F) (mX.view.loc (tc c)))
    (t1 : Fin k0_t1_loop.trips) (ht : t1.val = 2) (v2 v4 v7 : BitVec 32) :
    iprop(Com m K KR c xg 2 ∗ StH2 m c ∗ StT2 c) ⊢ wp frame (wpE defs₀ 𝒱₀ (tc c) none) Set.univ
      (k0_t1_body (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 v4 v7 t1 ⟨⟩)
      (fun _ => iprop(Com m K KR c xg 3 ∗ StH3 m c ∗ StZ2 c)) := by
  unfold Com StH2 StT2
  simp only [k0_t1_body, k0_part14_eq_skeleton, k0_part14_skel, k0_part15_eq_skeleton, k0_part15_skel, k0_part16_eq_skeleton, k0_part16_skel,
    Prog.lift, Prog.bind_op, Prog.bind_ret, Prog.pure_eq_ret]
  iintro ⟨⟨#HE, HX, HO, I0, I1, Ho⟩, ⟨SR0, SL0, C3, C11, P0, #Hrel0⟩, ⟨A7, C7, A14, C14, A3, A11, A1, CC, Hw, T4, TN8, T12, TP15, TC, Hrd⟩⟩
  rw [dif_pos ((cond1_iff t1).2 (by omega))]
  try simp only [Prog.bind_op, Prog.bind_ret]
  iapply (waitCell m K KR c 7 4 (sem_rrecv 1 ((off1_eq t1 (by omega)).trans (by rw [ht]; rfl))) (by decide) (by decide) (rIs m c 2 fullShare (bk 2 c)) rfl (credit_mem _)) $$ [A7 C7 Ho]
  · isplitl []; · iexact HE
    isplitl [A7]; · iexact A7
    isplitl [C7]; · iexact C7
    iexact Ho
  iintro ⟨Ho, Z7, SR⟩
  rw [dif_pos ((cond2_iff t1).2 (by omega))]
  try simp only [Prog.bind_op, Prog.bind_ret]
  ihave SR := rIs_halves.1 $$ SR
  icases SR with ⟨SR, SRr⟩
  rw [dif_pos ((cond3_iff t1).2 (by omega))]
  try simp only [Prog.bind_op, Prog.bind_ret]
  simp only [semWaitWord, Prog.bind_op, Prog.bind_ret]
  iapply (waitCr1 m K KR c 4 (sm := cc0_scratch13.sem) rfl rfl (by decide)) $$ [A1 CC Ho Hw]
  · isplitl []; · iexact HE
    isplitl [A1]; · iexact A1
    isplitl [CC]; · iexact CC
    isplitl [Ho]; · iexact Ho
    iexact Hw
  iintro ⟨Ho, HCr, N0⟩
  iapply (sendRR m K KR c (nxt c) 2 0 shR (bk 2 c) 4 8 3 (hS := (k0_off5_eq t1).trans (by rw [ht]; rfl)) (hD := (k0_off4_eq t1).trans (by rw [ht]; rfl))
      (sem_rsend 2 ((k0_off3_eq t1).trans (by rw [ht]; rfl))) (sem_rrecv 2 ((k0_off3_eq t1).trans (by rw [ht]; rfl))) (by decide) (by decide)
      (Fin.ext (k0_dev3_eq c)) rfl rfl rfl rfl rfl (congrArg (rIs m (nxt c) 0 fullShare) (bk_nxt 2 c))) $$ [SRr N0 Ho T4 TN8]
  · isplitl []; · iexact HE
    isplitl [SRr]; · iexact SRr
    isplitl [N0]; · iexact N0
    isplitl [Ho]; · iexact Ho
    isplitl [T4]; · iexact T4
    iexact TN8
  iintro ⟨C4, Ho⟩
  rw [dif_neg ((mt (cond4_iff t1).1 (by omega)))]
  try simp only [Prog.bind_op, Prog.bind_ret]
  iapply (loadR m c (bk 2 c) 2 0 shL (ho := (k0_off6_eq t1).trans (by rw [ht]; rfl))) $$ SR
  iintro SR
  iapply (loadR m c (bk 2 c) 2 1 shL (ho := (k0_off7_eq t1).trans (by rw [ht]; rfl))) $$ SR
  iintro SR
  simp only [pay14_row, pay15_row]
  ihave I0 := (idle8_split m c 0) $$ I0
  icases I0 with ⟨IK0, IV0, IK1, IV1, IK2, IV2, IK3, IV3⟩
  iapply (issueK m c (bk 2 c : Fin 8) 0 0 0 (hS := (k0_off8_eq c t1).trans (by rw [ht]; rfl)) (hD := rfl) (hQ := rfl)) $$ IK0
  iintro FK0
  iapply (issueV m c (bk 2 c : Fin 8) 0 0 0 (hS := (k0_off8_eq c t1).trans (by rw [ht]; rfl)) (hD := rfl) (hQ := rfl)) $$ IV0
  iintro FV0
  iapply (issueK m c (bk 2 c : Fin 8) 0 0 1 (hS := (k0_off9_eq c t1).trans (by rw [ht]; rfl)) (hD := rfl) (hQ := rfl)) $$ IK1
  iintro FK1
  iapply (issueV m c (bk 2 c : Fin 8) 0 0 1 (hS := (k0_off9_eq c t1).trans (by rw [ht]; rfl)) (hD := rfl) (hQ := rfl)) $$ IV1
  iintro FV1
  iapply (issueK m c (bk 2 c : Fin 8) 0 0 2 (hS := (k0_off10_eq c t1).trans (by rw [ht]; rfl)) (hD := rfl) (hQ := rfl)) $$ IK2
  iintro FK2
  iapply (issueV m c (bk 2 c : Fin 8) 0 0 2 (hS := (k0_off10_eq c t1).trans (by rw [ht]; rfl)) (hD := rfl) (hQ := rfl)) $$ IV2
  iintro FV2
  iapply (issueK m c (bk 2 c : Fin 8) 0 0 3 (hS := (k0_off11_eq c t1).trans (by rw [ht]; rfl)) (hD := rfl) (hQ := rfl)) $$ IK3
  iintro FK3
  iapply (issueV m c (bk 2 c : Fin 8) 0 0 3 (hS := (k0_off11_eq c t1).trans (by rw [ht]; rfl)) (hD := rfl) (hQ := rfl)) $$ IV3
  iintro FV3
  iapply (loop2 m c t1 (bk 2 c : Fin 8) (by rw [ht]; rfl) (Env m K KR) (O := Od c 3) (fun q hq => env_lev.trans (mayWait_local c q (.inl hq) 3 (by decide))) xg (wqv m (bk 2 c)) (wov m (bk 2 c)) (accAt m c xg 2) _) $$ [FK0 FV0 FK1 FV1 FK2 FV2 FK3 FV3 I1 HX HO Ho]
  · unfold GI Bufs
    rw [dif_pos (show 0 < 4 by decide)]
    isplitl []; · iexact HE
    isplitl [FK0 FV0 FK1 FV1 FK2 FV2 FK3 FV3 I1]
    · isplitl [FK0 FV0 FK1 FV1 FK2 FV2 FK3 FV3]
      · unfold Fly8
        isplitl [FK0]; · iexact FK0
        isplitl [FV0]; · iexact FV0
        isplitl [FK1]; · iexact FK1
        isplitl [FV1]; · iexact FV1
        isplitl [FK2]; · iexact FK2
        isplitl [FV2]; · iexact FV2
        isplitl [FK3]; · iexact FK3
        iexact FV3
      iexact I1
    isplitl [HX]; · iexact HX
    isplitl [HO]; · iexact HO
    iexact Ho
  iintro HG
  unfold GI Bufs
  rw [dif_neg (show ¬ 4 < 4 by decide)]
  icases HG with ⟨-, ⟨I0, I1⟩, HX, HO, Ho⟩
  ihave I0 := (Entails.of_eq (show Idle8 m c (half 4) = Idle8 m c 0 from rfl)) $$ I0
  ihave I1 := (Entails.of_eq (show Idle8 m c (half (4 + 1)) = Idle8 m c 1 from rfl)) $$ I1
  rw [dif_pos ((cond6_iff t1).2 (by omega))]
  try simp only [Prog.bind_op, Prog.bind_ret]
  simp only [k0_part11_eq_skeleton, k0_part11_skel, k0_part12_eq_skeleton, k0_part12_skel, k0_part13_eq_skeleton, k0_part13_skel,
    Prog.lift, Prog.bind_op, Prog.bind_ret, Prog.pure_eq_ret]
  iapply (waitCell m K KR c 14 3 (sem_lrecv 1 ((off33_eq t1 (by omega)).trans (by rw [ht]; rfl))) (by decide) (by decide) (lIs m c 2 fullShare (fw 2 c)) rfl (credit_mem _)) $$ [A14 C14 Ho]
  · isplitl []; · iexact HE
    isplitl [A14]; · iexact A14
    isplitl [C14]; · iexact C14
    iexact Ho
  iintro ⟨Ho, Z14, SL⟩
  rw [dif_pos ((cond7_iff t1).2 (by omega))]
  try simp only [Prog.bind_op, Prog.bind_ret]
  ihave SL := lIs_halves.1 $$ SL
  icases SL with ⟨SL, SLr⟩
  iapply (sendLL m K KR c (prv c) 2 0 shR (fw 2 c) 12 15 2 (hS := (k0_off37_eq t1).trans (by rw [ht]; rfl)) (hD := (k0_off36_eq t1).trans (by rw [ht]; rfl))
      (sem_lsend 2 ((k0_off35_eq t1).trans (by rw [ht]; rfl))) (sem_lrecv 2 ((k0_off35_eq t1).trans (by rw [ht]; rfl))) (by decide) (by decide)
      (Fin.ext (k0_dev5_eq c)) rfl rfl rfl rfl rfl (congrArg (lIs m (prv c) 0 fullShare) (fw_prv 2 c))) $$ [SLr P0 Ho T12 TP15]
  · isplitl []; · iexact HE
    isplitl [SLr]; · iexact SLr
    isplitl [P0]; · iexact P0
    isplitl [Ho]; · iexact Ho
    isplitl [T12]; · iexact T12
    iexact TP15
  iintro ⟨C12, Ho⟩
  iapply (loadL m c (fw 2 c) 2 0 shL (ho := (k0_off38_eq t1).trans (by rw [ht]; rfl))) $$ SL
  iintro SL
  iapply (loadL m c (fw 2 c) 2 1 shL (ho := (k0_off39_eq t1).trans (by rw [ht]; rfl))) $$ SL
  iintro SL
  simp only [pay12_row, pay13_row]
  ihave I0 := (idle8_split m c 0) $$ I0
  icases I0 with ⟨IK0, IV0, IK1, IV1, IK2, IV2, IK3, IV3⟩
  iapply (issueK m c (fw 2 c : Fin 8) 0 0 0 (hS := (k0_off40_eq c t1).trans (by rw [ht]; rfl)) (hD := rfl) (hQ := rfl)) $$ IK0
  iintro FK0
  iapply (issueV m c (fw 2 c : Fin 8) 0 0 0 (hS := (k0_off40_eq c t1).trans (by rw [ht]; rfl)) (hD := rfl) (hQ := rfl)) $$ IV0
  iintro FV0
  iapply (issueK m c (fw 2 c : Fin 8) 0 0 1 (hS := (k0_off41_eq c t1).trans (by rw [ht]; rfl)) (hD := rfl) (hQ := rfl)) $$ IK1
  iintro FK1
  iapply (issueV m c (fw 2 c : Fin 8) 0 0 1 (hS := (k0_off41_eq c t1).trans (by rw [ht]; rfl)) (hD := rfl) (hQ := rfl)) $$ IV1
  iintro FV1
  iapply (issueK m c (fw 2 c : Fin 8) 0 0 2 (hS := (k0_off42_eq c t1).trans (by rw [ht]; rfl)) (hD := rfl) (hQ := rfl)) $$ IK2
  iintro FK2
  iapply (issueV m c (fw 2 c : Fin 8) 0 0 2 (hS := (k0_off42_eq c t1).trans (by rw [ht]; rfl)) (hD := rfl) (hQ := rfl)) $$ IV2
  iintro FV2
  iapply (issueK m c (fw 2 c : Fin 8) 0 0 3 (hS := (k0_off43_eq c t1).trans (by rw [ht]; rfl)) (hD := rfl) (hQ := rfl)) $$ IK3
  iintro FK3
  iapply (issueV m c (fw 2 c : Fin 8) 0 0 3 (hS := (k0_off43_eq c t1).trans (by rw [ht]; rfl)) (hD := rfl) (hQ := rfl)) $$ IV3
  iintro FV3
  iapply (loop3 m c t1 (fw 2 c : Fin 8) (by rw [ht]; rfl) (Env m K KR) (O := Od c 2) (fun q hq => env_lev.trans (mayWait_local c q (.inl hq) 2 (by decide))) xg (wqv m (fw 2 c)) (wov m (fw 2 c)) (addDev m c xg (bk 2 c) (accAt m c xg 2)) _ _ _ rfl) $$ [FK0 FV0 FK1 FV1 FK2 FV2 FK3 FV3 I1 HX HO Ho]
  · unfold GI Bufs
    rw [dif_pos (show 0 < 4 by decide)]
    isplitl []; · iexact HE
    isplitl [FK0 FV0 FK1 FV1 FK2 FV2 FK3 FV3 I1]
    · isplitl [FK0 FV0 FK1 FV1 FK2 FV2 FK3 FV3]
      · unfold Fly8
        isplitl [FK0]; · iexact FK0
        isplitl [FV0]; · iexact FV0
        isplitl [FK1]; · iexact FK1
        isplitl [FV1]; · iexact FV1
        isplitl [FK2]; · iexact FK2
        isplitl [FV2]; · iexact FV2
        isplitl [FK3]; · iexact FK3
        iexact FV3
      iexact I1
    isplitl [HX]; · iexact HX
    isplitl [HO]; · iexact HO
    iexact Ho
  iintro HG
  unfold GI Bufs
  rw [dif_neg (show ¬ 4 < 4 by decide)]
  icases HG with ⟨-, ⟨I0, I1⟩, HX, HO, Ho⟩
  ihave I0 := (Entails.of_eq (show Idle8 m c (half 4) = Idle8 m c 0 from rfl)) $$ I0
  ihave I1 := (Entails.of_eq (show Idle8 m c (half (4 + 1)) = Idle8 m c 1 from rfl)) $$ I1
  try simp only [Prog.bind_op, Prog.bind_ret]
  rw [dif_pos ((cond9_iff t1).2 (by omega))]
  try simp only [Prog.bind_op, Prog.bind_ret]
  iapply (waitCell m K KR c 3 2 (sem_rsend 1 ((off65_eq t1 (by omega)).trans (by rw [ht]; rfl))) (by decide) (by decide) (rIs m c 1 shR (bk 1 c)) rfl (credit_mem _)) $$ [A3 C3 Ho]
  · isplitl []; · iexact HE
    isplitl [A3]; · iexact A3
    isplitl [C3]; · iexact C3
    iexact Ho
  iintro ⟨Ho, Z3, SX⟩
  rw [dif_pos ((cond10_iff t1).2 (by omega))]
  try simp only [Prog.bind_op, Prog.bind_ret]
  iapply (waitCell m K KR c 11 2 (sem_lsend 1 ((off68_eq t1 (by omega)).trans (by rw [ht]; rfl))) (by decide) (by decide) (lIs m c 1 shR (fw 1 c)) rfl (credit_mem _)) $$ [A11 C11 Ho]
  · isplitl []; · iexact HE
    isplitl [A11]; · iexact A11
    isplitl [C11]; · iexact C11
    iexact Ho
  iintro ⟨Ho, Z11, SY⟩
  ihave SX := (rIs_halves.2) $$ [SR0 SX]
  · isplitl [SR0] <;> iassumption
  ihave SX := rIs_any $$ SX
  ihave SY := (lIs_halves.2) $$ [SL0 SY]
  · isplitl [SL0] <;> iassumption
  ihave SY := lIs_any $$ SY
  rw [dif_pos ((cond11_iff t1).2 (by omega))]
  try simp only [Prog.bind_op, Prog.bind_ret]
  simp only [semSignalWord, Prog.bind_op, Prog.bind_ret]
  iapply fupd_wp
  imod (giveBack m K KR c 1) $$ [Hrd SX] with #Hrel1
  · isplitl []; · iexact HE
    isplitl [Hrd]; · iexact Hrd
    iexact SX
  imodintro
  iapply (signalCell m K KR c (prv c) 1 true 1 (sm := cc0_scratch13.sem) rfl (by decide) (Fin.ext (k0_dev6_eq c)) rfl rfl rfl (iprop(rel c 0 ∗ rel c 1)) (by show iprop(Release.released EK (nxt (prv c), (0 : Fin 2)) 1 ∗ Release.released EK (nxt (prv c), (1 : Fin 2)) 1) = _; rw [nxt_prv])) $$ [Ho TC]
  · isplitl []; · iexact HE
    isplitl [Ho]; · iexact Ho
    isplitl [TC]; · iexact TC
    isplitl []; · iexact Hrel0
    iexact Hrel1
  iintro Ho
  simp only [wp_ret]
  imodintro
  unfold StH3 StZ2
  rw [accAt_3]
  isplitl [HX HO I0 I1 Ho]
  · isplitl []; · iexact HE
    isplitl [HX]; · iexact HX
    isplitl [HO]; · iexact HO
    isplitl [I0]; · iexact I0
    isplitl [I1]; · iexact I1
    iexact Ho
  isplitl [SR SL SY C4 C12 HCr]
  · isplitl [SR]; · iexact SR
    isplitl [SL]; · iexact SL
    isplitl [SY]; · iexact SY
    isplitl [C4]; · iexact C4
    isplitl [C12]; · iexact C12
    iexact HCr
  isplitl [Z7]; · iexact Z7
  isplitl [Z14]; · iexact Z14
  isplitl [Z3]; · iexact Z3
  iexact Z11

end Cert.RingProof
-- ==== Proof.Step3.lean ====
/-
Step 3 of the ring.
-/
module

public import proofs.«01_k».proof.Proof.States

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxHeartbeats 2000000 in
/-- What step 3 does. -/
theorem step3 (m : (ℓ : Loc nD τ sig) → Buf (Elt F) ℓ) (K : Dev nD × Fin 16 → ℕ) (KR : Dev nD × Fin 2 → ℕ) (c : Dev nD) (xg : Buf (Elt F) (mX.view.loc (tc c)))
    (t1 : Fin k0_t1_loop.trips) (ht : t1.val = 3) (v2 v4 v7 : BitVec 32) :
    iprop(Com m K KR c xg 3 ∗ StH3 m c ∗ StT3 c) ⊢ wp frame (wpE defs₀ 𝒱₀ (tc c) none) Set.univ
      (k0_t1_body (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 v4 v7 t1 ⟨⟩)
      (fun _ => iprop(Com m K KR c xg 4 ∗ StH4 m c ∗ StZ3 c)) := by
  unfold Com StH3 StT3
  simp only [k0_t1_body, k0_part14_eq_skeleton, k0_part14_skel, k0_part15_eq_skeleton, k0_part15_skel, k0_part16_eq_skeleton, k0_part16_skel,
    Prog.lift, Prog.bind_op, Prog.bind_ret, Prog.pure_eq_ret]
  iintro ⟨⟨#HE, HX, HO, I0, I1, Ho⟩, ⟨SR0, SL0, LA1, C4, C12, HCr⟩, ⟨A8, C8, A15, C15, A4, A12, CC, Hw, T5, TN9⟩⟩
  rw [dif_pos ((cond1_iff t1).2 (by omega))]
  try simp only [Prog.bind_op, Prog.bind_ret]
  iapply (waitCell m K KR c 8 1 (sem_rrecv 2 ((off1_eq t1 (by omega)).trans (by rw [ht]; rfl))) (by decide) (by decide) (rIs m c 0 fullShare (bk 3 c)) rfl (credit_mem _)) $$ [A8 C8 Ho]
  · isplitl []; · iexact HE
    isplitl [A8]; · iexact A8
    isplitl [C8]; · iexact C8
    iexact Ho
  iintro ⟨Ho, Z8, SR⟩
  rw [dif_pos ((cond2_iff t1).2 (by omega))]
  try simp only [Prog.bind_op, Prog.bind_ret]
  ihave SR := rIs_halves.1 $$ SR
  icases SR with ⟨SR, SRr⟩
  rw [dif_pos ((cond3_iff t1).2 (by omega))]
  try simp only [Prog.bind_op, Prog.bind_ret]
  simp only [semWaitWord, Prog.bind_op, Prog.bind_ret]
  iapply (waitCr2 m K KR c 1 (sm := cc0_scratch13.sem) rfl rfl (by decide)) $$ [HCr CC Ho Hw]
  · isplitl []; · iexact HE
    isplitl [HCr]; · iexact HCr
    isplitl [CC]; · iexact CC
    isplitl [Ho]; · iexact Ho
    iexact Hw
  iintro ⟨Ho, Z1, N1⟩
  iapply (sendRR m K KR c (nxt c) 0 1 shR (bk 3 c) 5 9 0 (hS := (k0_off5_eq t1).trans (by rw [ht]; rfl)) (hD := (k0_off4_eq t1).trans (by rw [ht]; rfl))
      (sem_rsend 3 ((k0_off3_eq t1).trans (by rw [ht]; rfl))) (sem_rrecv 3 ((k0_off3_eq t1).trans (by rw [ht]; rfl))) (by decide) (by decide)
      (Fin.ext (k0_dev3_eq c)) rfl rfl rfl rfl rfl (congrArg (rIs m (nxt c) 1 fullShare) (bk_nxt 3 c))) $$ [SRr N1 Ho T5 TN9]
  · isplitl []; · iexact HE
    isplitl [SRr]; · iexact SRr
    isplitl [N1]; · iexact N1
    isplitl [Ho]; · iexact Ho
    isplitl [T5]; · iexact T5
    iexact TN9
  iintro ⟨C5, Ho⟩
  rw [dif_neg ((mt (cond4_iff t1).1 (by omega)))]
  try simp only [Prog.bind_op, Prog.bind_ret]
  iapply (loadR m c (bk 3 c) 0 0 shL (ho := (k0_off6_eq t1).trans (by rw [ht]; rfl))) $$ SR
  iintro SR
  iapply (loadR m c (bk 3 c) 0 1 shL (ho := (k0_off7_eq t1).trans (by rw [ht]; rfl))) $$ SR
  iintro SR
  simp only [pay14_row, pay15_row]
  ihave I0 := (idle8_split m c 0) $$ I0
  icases I0 with ⟨IK0, IV0, IK1, IV1, IK2, IV2, IK3, IV3⟩
  iapply (issueK m c (bk 3 c : Fin 8) 0 0 0 (hS := (k0_off8_eq c t1).trans (by rw [ht]; rfl)) (hD := rfl) (hQ := rfl)) $$ IK0
  iintro FK0
  iapply (issueV m c (bk 3 c : Fin 8) 0 0 0 (hS := (k0_off8_eq c t1).trans (by rw [ht]; rfl)) (hD := rfl) (hQ := rfl)) $$ IV0
  iintro FV0
  iapply (issueK m c (bk 3 c : Fin 8) 0 0 1 (hS := (k0_off9_eq c t1).trans (by rw [ht]; rfl)) (hD := rfl) (hQ := rfl)) $$ IK1
  iintro FK1
  iapply (issueV m c (bk 3 c : Fin 8) 0 0 1 (hS := (k0_off9_eq c t1).trans (by rw [ht]; rfl)) (hD := rfl) (hQ := rfl)) $$ IV1
  iintro FV1
  iapply (issueK m c (bk 3 c : Fin 8) 0 0 2 (hS := (k0_off10_eq c t1).trans (by rw [ht]; rfl)) (hD := rfl) (hQ := rfl)) $$ IK2
  iintro FK2
  iapply (issueV m c (bk 3 c : Fin 8) 0 0 2 (hS := (k0_off10_eq c t1).trans (by rw [ht]; rfl)) (hD := rfl) (hQ := rfl)) $$ IV2
  iintro FV2
  iapply (issueK m c (bk 3 c : Fin 8) 0 0 3 (hS := (k0_off11_eq c t1).trans (by rw [ht]; rfl)) (hD := rfl) (hQ := rfl)) $$ IK3
  iintro FK3
  iapply (issueV m c (bk 3 c : Fin 8) 0 0 3 (hS := (k0_off11_eq c t1).trans (by rw [ht]; rfl)) (hD := rfl) (hQ := rfl)) $$ IV3
  iintro FV3
  iapply (loop2 m c t1 (bk 3 c : Fin 8) (by rw [ht]; rfl) (Env m K KR) (O := Od c 0) (fun q hq => env_lev.trans (mayWait_local c q (.inl hq) 0 (by decide))) xg (wqv m (bk 3 c)) (wov m (bk 3 c)) (accAt m c xg 3) _) $$ [FK0 FV0 FK1 FV1 FK2 FV2 FK3 FV3 I1 HX HO Ho]
  · unfold GI Bufs
    rw [dif_pos (show 0 < 4 by decide)]
    isplitl []; · iexact HE
    isplitl [FK0 FV0 FK1 FV1 FK2 FV2 FK3 FV3 I1]
    · isplitl [FK0 FV0 FK1 FV1 FK2 FV2 FK3 FV3]
      · unfold Fly8
        isplitl [FK0]; · iexact FK0
        isplitl [FV0]; · iexact FV0
        isplitl [FK1]; · iexact FK1
        isplitl [FV1]; · iexact FV1
        isplitl [FK2]; · iexact FK2
        isplitl [FV2]; · iexact FV2
        isplitl [FK3]; · iexact FK3
        iexact FV3
      iexact I1
    isplitl [HX]; · iexact HX
    isplitl [HO]; · iexact HO
    iexact Ho
  iintro HG
  unfold GI Bufs
  rw [dif_neg (show ¬ 4 < 4 by decide)]
  icases HG with ⟨-, ⟨I0, I1⟩, HX, HO, Ho⟩
  ihave I0 := (Entails.of_eq (show Idle8 m c (half 4) = Idle8 m c 0 from rfl)) $$ I0
  ihave I1 := (Entails.of_eq (show Idle8 m c (half (4 + 1)) = Idle8 m c 1 from rfl)) $$ I1
  rw [dif_pos ((cond6_iff t1).2 (by omega))]
  try simp only [Prog.bind_op, Prog.bind_ret]
  simp only [k0_part11_eq_skeleton, k0_part11_skel, k0_part12_eq_skeleton, k0_part12_skel, k0_part13_eq_skeleton, k0_part13_skel,
    Prog.lift, Prog.bind_op, Prog.bind_ret, Prog.pure_eq_ret]
  iapply (waitCell m K KR c 15 0 (sem_lrecv 2 ((off33_eq t1 (by omega)).trans (by rw [ht]; rfl))) (by decide) (by decide) (lIs m c 0 fullShare (fw 3 c)) rfl (credit_mem _)) $$ [A15 C15 Ho]
  · isplitl []; · iexact HE
    isplitl [A15]; · iexact A15
    isplitl [C15]; · iexact C15
    iexact Ho
  iintro ⟨Ho, Z15, SL⟩
  rw [dif_neg ((mt (cond7_iff t1).1 (by omega)))]
  try simp only [Prog.bind_op, Prog.bind_ret]
  iapply (loadL m c (fw 3 c) 0 0 fullShare (ho := (k0_off38_eq t1).trans (by rw [ht]; rfl))) $$ SL
  iintro SL
  iapply (loadL m c (fw 3 c) 0 1 fullShare (ho := (k0_off39_eq t1).trans (by rw [ht]; rfl))) $$ SL
  iintro SL
  simp only [pay12_row, pay13_row]
  ihave I0 := (idle8_split m c 0) $$ I0
  icases I0 with ⟨IK0, IV0, IK1, IV1, IK2, IV2, IK3, IV3⟩
  iapply (issueK m c (fw 3 c : Fin 8) 0 0 0 (hS := (k0_off40_eq c t1).trans (by rw [ht]; rfl)) (hD := rfl) (hQ := rfl)) $$ IK0
  iintro FK0
  iapply (issueV m c (fw 3 c : Fin 8) 0 0 0 (hS := (k0_off40_eq c t1).trans (by rw [ht]; rfl)) (hD := rfl) (hQ := rfl)) $$ IV0
  iintro FV0
  iapply (issueK m c (fw 3 c : Fin 8) 0 0 1 (hS := (k0_off41_eq c t1).trans (by rw [ht]; rfl)) (hD := rfl) (hQ := rfl)) $$ IK1
  iintro FK1
  iapply (issueV m c (fw 3 c : Fin 8) 0 0 1 (hS := (k0_off41_eq c t1).trans (by rw [ht]; rfl)) (hD := rfl) (hQ := rfl)) $$ IV1
  iintro FV1
  iapply (issueK m c (fw 3 c : Fin 8) 0 0 2 (hS := (k0_off42_eq c t1).trans (by rw [ht]; rfl)) (hD := rfl) (hQ := rfl)) $$ IK2
  iintro FK2
  iapply (issueV m c (fw 3 c : Fin 8) 0 0 2 (hS := (k0_off42_eq c t1).trans (by rw [ht]; rfl)) (hD := rfl) (hQ := rfl)) $$ IV2
  iintro FV2
  iapply (issueK m c (fw 3 c : Fin 8) 0 0 3 (hS := (k0_off43_eq c t1).trans (by rw [ht]; rfl)) (hD := rfl) (hQ := rfl)) $$ IK3
  iintro FK3
  iapply (issueV m c (fw 3 c : Fin 8) 0 0 3 (hS := (k0_off43_eq c t1).trans (by rw [ht]; rfl)) (hD := rfl) (hQ := rfl)) $$ IV3
  iintro FV3
  iapply (loop3 m c t1 (fw 3 c : Fin 8) (by rw [ht]; rfl) (Env m K KR) (O := Od c 0) (fun q hq => env_lev.trans (mayWait_local c q (.inl hq) 0 (by decide))) xg (wqv m (fw 3 c)) (wov m (fw 3 c)) (addDev m c xg (bk 3 c) (accAt m c xg 3)) _ _ _ rfl) $$ [FK0 FV0 FK1 FV1 FK2 FV2 FK3 FV3 I1 HX HO Ho]
  · unfold GI Bufs
    rw [dif_pos (show 0 < 4 by decide)]
    isplitl []; · iexact HE
    isplitl [FK0 FV0 FK1 FV1 FK2 FV2 FK3 FV3 I1]
    · isplitl [FK0 FV0 FK1 FV1 FK2 FV2 FK3 FV3]
      · unfold Fly8
        isplitl [FK0]; · iexact FK0
        isplitl [FV0]; · iexact FV0
        isplitl [FK1]; · iexact FK1
        isplitl [FV1]; · iexact FV1
        isplitl [FK2]; · iexact FK2
        isplitl [FV2]; · iexact FV2
        isplitl [FK3]; · iexact FK3
        iexact FV3
      iexact I1
    isplitl [HX]; · iexact HX
    isplitl [HO]; · iexact HO
    iexact Ho
  iintro HG
  unfold GI Bufs
  rw [dif_neg (show ¬ 4 < 4 by decide)]
  icases HG with ⟨-, ⟨I0, I1⟩, HX, HO, Ho⟩
  ihave I0 := (Entails.of_eq (show Idle8 m c (half 4) = Idle8 m c 0 from rfl)) $$ I0
  ihave I1 := (Entails.of_eq (show Idle8 m c (half (4 + 1)) = Idle8 m c 1 from rfl)) $$ I1
  try simp only [Prog.bind_op, Prog.bind_ret]
  rw [dif_pos ((cond9_iff t1).2 (by omega))]
  try simp only [Prog.bind_op, Prog.bind_ret]
  iapply (waitCell m K KR c 4 0 (sem_rsend 2 ((off65_eq t1 (by omega)).trans (by rw [ht]; rfl))) (by decide) (by decide) (rIs m c 2 shR (bk 2 c)) rfl (credit_mem _)) $$ [A4 C4 Ho]
  · isplitl []; · iexact HE
    isplitl [A4]; · iexact A4
    isplitl [C4]; · iexact C4
    iexact Ho
  iintro ⟨Ho, Z4, SX⟩
  rw [dif_pos ((cond10_iff t1).2 (by omega))]
  try simp only [Prog.bind_op, Prog.bind_ret]
  iapply (waitCell m K KR c 12 0 (sem_lsend 2 ((off68_eq t1 (by omega)).trans (by rw [ht]; rfl))) (by decide) (by decide) (lIs m c 2 shR (fw 2 c)) rfl (credit_mem _)) $$ [A12 C12 Ho]
  · isplitl []; · iexact HE
    isplitl [A12]; · iexact A12
    isplitl [C12]; · iexact C12
    iexact Ho
  iintro ⟨Ho, Z12, SY⟩
  ihave SX := (rIs_halves.2) $$ [SR0 SX]
  · isplitl [SR0] <;> iassumption
  ihave SX := rIs_any $$ SX
  ihave SY := (lIs_halves.2) $$ [SL0 SY]
  · isplitl [SL0] <;> iassumption
  ihave SY := lIs_any $$ SY
  rw [dif_neg ((mt (cond11_iff t1).1 (by omega)))]
  try simp only [Prog.bind_op, Prog.bind_ret]
  simp only [wp_ret]
  imodintro
  unfold StH4 StZ3
  rw [accAt_4]
  isplitl [HX HO I0 I1 Ho]
  · isplitl []; · iexact HE
    isplitl [HX]; · iexact HX
    isplitl [HO]; · iexact HO
    isplitl [I0]; · iexact I0
    isplitl [I1]; · iexact I1
    iexact Ho
  isplitl [SR SX SL LA1 SY C5]
  · isplitl [SR]; · iexact SR
    isplitl [SX]; · iexact SX
    isplitl [SL]; · iapply lIs_any $$ SL
    isplitl [LA1]; · iexact LA1
    isplitl [SY]; · iexact SY
    iexact C5
  isplitl [Z8]; · iexact Z8
  isplitl [Z1]; · iexact Z1
  isplitl [Z15]; · iexact Z15
  isplitl [Z4]; · iexact Z4
  iexact Z12

end Cert.RingProof
-- ==== Proof.Step4.lean ====
/-
Step 4 of the ring.
-/
module

public import proofs.«01_k».proof.Proof.States

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxHeartbeats 2000000 in
/-- What step 4 does. -/
theorem step4 (m : (ℓ : Loc nD τ sig) → Buf (Elt F) ℓ) (K : Dev nD × Fin 16 → ℕ) (KR : Dev nD × Fin 2 → ℕ) (c : Dev nD) (xg : Buf (Elt F) (mX.view.loc (tc c)))
    (t1 : Fin k0_t1_loop.trips) (ht : t1.val = 4) (v2 v4 v7 : BitVec 32) :
    iprop(Com m K KR c xg 4 ∗ StH4 m c ∗ StT4 c) ⊢ wp frame (wpE defs₀ 𝒱₀ (tc c) none) Set.univ
      (k0_t1_body (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 v4 v7 t1 ⟨⟩)
      (fun _ => iprop(Com m K KR c xg 5 ∗ StH5 c ∗ StZ4 c)) := by
  unfold Com StH4 StT4
  simp only [k0_t1_body, k0_part14_eq_skeleton, k0_part14_skel, k0_part15_eq_skeleton, k0_part15_skel, k0_part16_eq_skeleton, k0_part16_skel,
    Prog.lift, Prog.bind_op, Prog.bind_ret, Prog.pure_eq_ret]
  iintro ⟨⟨#HE, HX, HO, I0, I1, Ho⟩, ⟨SR0, RA2, LA0, LA1, LA2, C5⟩, ⟨A9, C9, A5⟩⟩
  rw [dif_pos ((cond1_iff t1).2 (by omega))]
  try simp only [Prog.bind_op, Prog.bind_ret]
  iapply (waitCell m K KR c 9 0 (sem_rrecv 3 ((off1_eq t1 (by omega)).trans (by rw [ht]; rfl))) (by decide) (by decide) (rIs m c 1 fullShare (bk 4 c)) rfl (credit_mem _)) $$ [A9 C9 Ho]
  · isplitl []; · iexact HE
    isplitl [A9]; · iexact A9
    isplitl [C9]; · iexact C9
    iexact Ho
  iintro ⟨Ho, Z9, SR⟩
  rw [dif_neg ((mt (cond2_iff t1).1 (by omega)))]
  try simp only [Prog.bind_op, Prog.bind_ret]
  rw [dif_neg ((mt (cond4_iff t1).1 (by omega)))]
  try simp only [Prog.bind_op, Prog.bind_ret]
  iapply (loadR m c (bk 4 c) 1 0 fullShare (ho := (k0_off6_eq t1).trans (by rw [ht]; rfl))) $$ SR
  iintro SR
  iapply (loadR m c (bk 4 c) 1 1 fullShare (ho := (k0_off7_eq t1).trans (by rw [ht]; rfl))) $$ SR
  iintro SR
  simp only [pay14_row, pay15_row]
  ihave I0 := (idle8_split m c 0) $$ I0
  icases I0 with ⟨IK0, IV0, IK1, IV1, IK2, IV2, IK3, IV3⟩
  iapply (issueK m c (bk 4 c : Fin 8) 0 0 0 (hS := (k0_off8_eq c t1).trans (by rw [ht]; rfl)) (hD := rfl) (hQ := rfl)) $$ IK0
  iintro FK0
  iapply (issueV m c (bk 4 c : Fin 8) 0 0 0 (hS := (k0_off8_eq c t1).trans (by rw [ht]; rfl)) (hD := rfl) (hQ := rfl)) $$ IV0
  iintro FV0
  iapply (issueK m c (bk 4 c : Fin 8) 0 0 1 (hS := (k0_off9_eq c t1).trans (by rw [ht]; rfl)) (hD := rfl) (hQ := rfl)) $$ IK1
  iintro FK1
  iapply (issueV m c (bk 4 c : Fin 8) 0 0 1 (hS := (k0_off9_eq c t1).trans (by rw [ht]; rfl)) (hD := rfl) (hQ := rfl)) $$ IV1
  iintro FV1
  iapply (issueK m c (bk 4 c : Fin 8) 0 0 2 (hS := (k0_off10_eq c t1).trans (by rw [ht]; rfl)) (hD := rfl) (hQ := rfl)) $$ IK2
  iintro FK2
  iapply (issueV m c (bk 4 c : Fin 8) 0 0 2 (hS := (k0_off10_eq c t1).trans (by rw [ht]; rfl)) (hD := rfl) (hQ := rfl)) $$ IV2
  iintro FV2
  iapply (issueK m c (bk 4 c : Fin 8) 0 0 3 (hS := (k0_off11_eq c t1).trans (by rw [ht]; rfl)) (hD := rfl) (hQ := rfl)) $$ IK3
  iintro FK3
  iapply (issueV m c (bk 4 c : Fin 8) 0 0 3 (hS := (k0_off11_eq c t1).trans (by rw [ht]; rfl)) (hD := rfl) (hQ := rfl)) $$ IV3
  iintro FV3
  iapply (loop2 m c t1 (bk 4 c : Fin 8) (by rw [ht]; rfl) (Env m K KR) (O := Od c 0) (fun q hq => env_lev.trans (mayWait_local c q (.inl hq) 0 (by decide))) xg (wqv m (bk 4 c)) (wov m (bk 4 c)) (accAt m c xg 4) _) $$ [FK0 FV0 FK1 FV1 FK2 FV2 FK3 FV3 I1 HX HO Ho]
  · unfold GI Bufs
    rw [dif_pos (show 0 < 4 by decide)]
    isplitl []; · iexact HE
    isplitl [FK0 FV0 FK1 FV1 FK2 FV2 FK3 FV3 I1]
    · isplitl [FK0 FV0 FK1 FV1 FK2 FV2 FK3 FV3]
      · unfold Fly8
        isplitl [FK0]; · iexact FK0
        isplitl [FV0]; · iexact FV0
        isplitl [FK1]; · iexact FK1
        isplitl [FV1]; · iexact FV1
        isplitl [FK2]; · iexact FK2
        isplitl [FV2]; · iexact FV2
        isplitl [FK3]; · iexact FK3
        iexact FV3
      iexact I1
    isplitl [HX]; · iexact HX
    isplitl [HO]; · iexact HO
    iexact Ho
  iintro HG
  unfold GI Bufs
  rw [dif_neg (show ¬ 4 < 4 by decide)]
  icases HG with ⟨-, ⟨I0, I1⟩, HX, HO, Ho⟩
  ihave I0 := (Entails.of_eq (show Idle8 m c (half 4) = Idle8 m c 0 from rfl)) $$ I0
  ihave I1 := (Entails.of_eq (show Idle8 m c (half (4 + 1)) = Idle8 m c 1 from rfl)) $$ I1
  rw [dif_neg (mt (cond6_iff t1).1 (by omega))]
  try simp only [Prog.bind_op, Prog.bind_ret]
  rw [dif_pos ((cond9_iff t1).2 (by omega))]
  try simp only [Prog.bind_op, Prog.bind_ret]
  iapply (waitCell m K KR c 5 0 (sem_rsend 3 ((off65_eq t1 (by omega)).trans (by rw [ht]; rfl))) (by decide) (by decide) (rIs m c 0 shR (bk 3 c)) rfl (credit_mem _)) $$ [A5 C5 Ho]
  · isplitl []; · iexact HE
    isplitl [A5]; · iexact A5
    isplitl [C5]; · iexact C5
    iexact Ho
  iintro ⟨Ho, Z5, SX⟩
  rw [dif_neg ((mt (cond10_iff t1).1 (by omega)))]
  try simp only [Prog.bind_op, Prog.bind_ret]
  ihave SX := (rIs_halves.2) $$ [SR0 SX]
  · isplitl [SR0] <;> iassumption
  ihave SX := rIs_any $$ SX
  rw [dif_neg ((mt (cond11_iff t1).1 (by omega)))]
  try simp only [Prog.bind_op, Prog.bind_ret]
  simp only [wp_ret]
  imodintro
  unfold StH5 StZ4
  rw [accAt_5]
  isplitl [HX HO I0 I1 Ho]
  · isplitl []; · iexact HE
    isplitl [HX]; · iexact HX
    isplitl [HO]; · iexact HO
    isplitl [I0]; · iexact I0
    isplitl [I1]; · iexact I1
    iexact Ho
  isplitl [SX SR RA2 LA0 LA1 LA2]
  · isplitl [SX]; · iexact SX
    isplitl [SR]; · iapply rIs_any $$ SR
    isplitl [RA2]; · iexact RA2
    isplitl [LA0]; · iexact LA0
    isplitl [LA1]; · iexact LA1
    iexact LA2
  isplitl [Z9]; · iexact Z9
  iexact Z5

end Cert.RingProof
-- ==== Proof.Body.lean ====
/-
One device's part of the kernel: the entry handshake, its own pair, the five ring steps, the result.
-/
module

public import proofs.«01_k».proof.Proof.Pieces
public import proofs.«01_k».proof.Proof.Step0
public import proofs.«01_k».proof.Proof.Step1
public import proofs.«01_k».proof.Proof.Step2
public import proofs.«01_k».proof.Proof.Step3
public import proofs.«01_k».proof.Proof.Step4

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev mW1 : Memref sig .tc .hbm S1024x1024 .f32 := Memref.whole main_arg1
abbrev mW4 : Memref sig .tc .hbm S1024x1024 .f32 := Memref.whole main_arg4
abbrev sW : Memref sig .tc .vmem S1024x1024 .f32 := Memref.whole cc0_scratch2
abbrev mI : Memref sig .tc .vmem S1x1024x1024 .f32 := Memref.whole cc0_stg0_0

theorem dev1_prv (c : Dev nD) : (⟨k0_dev1 c, k0_dev1_lt c⟩ : Dev nD) = prv c := Fin.ext (k0_dev1_eq c)
theorem dev2_nxt (c : Dev nD) : (⟨k0_dev2 c, k0_dev2_lt c⟩ : Dev nD) = nxt c := Fin.ext (k0_dev2_eq c)

/-! ## The device's own pair -/

theorem write_row_in (m : (ℓ : Loc nD τ sig) → Buf (Elt F) ℓ) (c j : Dev nD) (s : Fin 3) (r : Fin 2) (f : Buf (Elt F) (mR.view.loc (tc c)))
    (i : S3x2x1024x1024.Idx) (h0 : (i 0).val = s.val) (h1 : (i 1).val = r.val) :
    (mR.access (Rect.unit (s := S3x2x1024x1024) ![s.val, r.val, 0, 0] S1x1x1024x1024.size (row_inb s r))).write (Elt F) f (rowOf m j r) Finset.univ i = cR m c j i := by
  have hi : i ∈ ((mR.access (Rect.unit (s := S3x2x1024x1024) ![s.val, r.val, 0, 0] S1x1x1024x1024.size (row_inb s r))).set : Finset S3x2x1024x1024.Idx) := by
    rw [show ((mR.access (Rect.unit (s := S3x2x1024x1024) ![s.val, r.val, 0, 0] S1x1x1024x1024.size (row_inb s r))).set : Finset S3x2x1024x1024.Idx)
      = (Rect.unit (s := S3x2x1024x1024) ![s.val, r.val, 0, 0] S1x1x1024x1024.size (row_inb s r)).set from View.set_slice_whole _ _, Rect.mem_set_unit]
    intro a
    have h2 : (i 2).val < 1024 := (i 2).isLt
    have h3 : (i 3).val < 1024 := (i 3).isLt
    fin_cases a
    · show s.val ≤ (i 0).val ∧ (i 0).val < s.val + 1
      omega
    · show r.val ≤ (i 1).val ∧ (i 1).val < r.val + 1
      omega
    · show 0 ≤ (i 2).val ∧ (i 2).val < 0 + 1024
      omega
    · show 0 ≤ (i 3).val ∧ (i 3).val < 0 + 1024
      omega
  obtain ⟨x, -, rfl⟩ := Finset.mem_map.mp hi
  rw [View.write_emb_of_mem _ _ (Finset.mem_univ x)]
  exact (congrFun (read_rowR m c j s r) x).symm

theorem write_row_out (m : (ℓ : Loc nD τ sig) → Buf (Elt F) ℓ) (c j : Dev nD) (s : Fin 3) (r : Fin 2) (f : Buf (Elt F) (mR.view.loc (tc c)))
    (i : S3x2x1024x1024.Idx) (h1 : (i 1).val ≠ r.val) :
    (mR.access (Rect.unit (s := S3x2x1024x1024) ![s.val, r.val, 0, 0] S1x1x1024x1024.size (row_inb s r))).write (Elt F) f (rowOf m j r) Finset.univ i = f i := by
  refine View.write_of_not_mem _ _ _ fun hi => h1 ?_
  have hi' : i ∈ ((mR.access (Rect.unit (s := S3x2x1024x1024) ![s.val, r.val, 0, 0] S1x1x1024x1024.size (row_inb s r))).set : Finset S3x2x1024x1024.Idx) := hi
  rw [show ((mR.access (Rect.unit (s := S3x2x1024x1024) ![s.val, r.val, 0, 0] S1x1x1024x1024.size (row_inb s r))).set : Finset S3x2x1024x1024.Idx)
    = (Rect.unit (s := S3x2x1024x1024) ![s.val, r.val, 0, 0] S1x1x1024x1024.size (row_inb s r)).set from View.set_slice_whole _ _, Rect.mem_set_unit] at hi'
  have h : r.val ≤ (i 1).val ∧ (i 1).val < r.val + 1 := hi' 1
  omega

/-- Slot 0 with row 0 stored, at whatever the other row holds. -/
def rHalf (m : (ℓ : Loc nD τ sig) → Buf (Elt F) ℓ) (c : Dev nD) : sProp 𝕄 :=
  iprop(∃ f, ((slotM mR 0).view.loc (tc c) ↦[(slotM mR 0).view.set]{fullShare}
    ((mR.access (Rect.unit (s := S3x2x1024x1024) ![(0 : Fin 3).val, (0 : Fin 2).val, 0, 0] S1x1x1024x1024.size (row_inb 0 0))).write (Elt F) f (rowOf m c 0) Finset.univ)))

theorem ldAnyR {S : Finset S3x2x1024x1024.Idx} (c : Dev nD) (s : Fin 3) (r : Fin 2) (hS : S = ((slotM mR s).view.set : Finset S3x2x1024x1024.Idx))
    {f : Buf (Elt F) (mR.view.loc (tc c))} {p : ∀ a, (![s.val, r.val, 0, 0] : Fin 4 → ℕ) a + S1x1x1024x1024.size a ≤ S3x2x1024x1024.size a} {hl}
    {α : Type} {k : Vec F S1x1x1024x1024 .bf16 → Prog (TpuEff nD τ sig (Elt F) Λ₀ .tc) α} {Q : α → sProp 𝕄} :
    ((mR.view.loc (tc c)) ↦[S]{fullShare} f) ⊢ iprop((((mR.view.loc (tc c)) ↦[S]{fullShare} f) -∗ (∀ v, wp frame (wpE defs₀ 𝒱₀ (tc c) none) Set.univ (k v) Q))
      -∗ wp frame (wpE defs₀ 𝒱₀ (tc c) none) Set.univ
        (.op (.load mR (Rect.unit (s := S3x2x1024x1024) ![s.val, r.val, 0, 0] S1x1x1024x1024.size p).toLoadRect hl) k) Q) := by
  subst hS
  iintro H Hk
  iapply (wp_load_rect 𝒱₀ (tc c) none Set.univ (m := mR) (r := Rect.unit (s := S3x2x1024x1024) ![s.val, r.val, 0, 0] S1x1x1024x1024.size p) (row_subR s r)) $$ H
  iintro H
  iapply Hk $$ H

/-- Store row 0 of the own slot. -/
theorem storeRow0 (m : (ℓ : Loc nD τ sig) → Buf (Elt F) ℓ) (c : Dev nD) {w : Vec F S1x1x1024x1024 .bf16} (hw : w = rowOf m c 0)
    {p : ∀ a, (![0, 0, 0, 0] : Fin 4 → ℕ) a + S1x1x1024x1024.size a ≤ S3x2x1024x1024.size a} {hl hx hm}
    {α : Type} {k : PUnit → Prog (TpuEff nD τ sig (Elt F) Λ₀ .tc) α} {Q : α → sProp 𝕄} :
    rAny c 0 ⊢ iprop((rHalf m c -∗ wp frame (wpE defs₀ 𝒱₀ (tc c) none) Set.univ (k ⟨⟩) Q)
      -∗ wp frame (wpE defs₀ 𝒱₀ (tc c) none) Set.univ
        (.op (.load mR (Rect.unit (s := S3x2x1024x1024) ![0, 0, 0, 0] S1x1x1024x1024.size p).toLoadRect hl) fun _ =>
          .op (.store mR (Rect.unit (s := S3x2x1024x1024) ![0, 0, 0, 0] S1x1x1024x1024.size p) w Finset.univ hx hm) k) Q) := by
  subst hw
  unfold rAny rHalf
  iintro ⟨%f, H⟩ Hk
  iapply (ldAnyR c 0 0 rfl) $$ H
  iintro H %v
  iapply (wp_store 𝒱₀ (tc c) none Set.univ (m := mR) (r := Rect.unit (s := S3x2x1024x1024) ![(0 : Fin 3).val, (0 : Fin 2).val, 0, 0] S1x1x1024x1024.size p) (row_subR 0 0)) $$ H
  iintro H
  iapply Hk
  iexists f
  iexact H

/-- Store row 1: the slot holds the pair. -/
theorem storeRow1 (m : (ℓ : Loc nD τ sig) → Buf (Elt F) ℓ) (c : Dev nD) {w : Vec F S1x1x1024x1024 .bf16} (hw : w = rowOf m c 1)
    {p : ∀ a, (![0, 1, 0, 0] : Fin 4 → ℕ) a + S1x1x1024x1024.size a ≤ S3x2x1024x1024.size a} {hl hx hm}
    {α : Type} {k : PUnit → Prog (TpuEff nD τ sig (Elt F) Λ₀ .tc) α} {Q : α → sProp 𝕄} :
    rHalf m c ⊢ iprop((rIs m c 0 fullShare c -∗ wp frame (wpE defs₀ 𝒱₀ (tc c) none) Set.univ (k ⟨⟩) Q)
      -∗ wp frame (wpE defs₀ 𝒱₀ (tc c) none) Set.univ
        (.op (.load mR (Rect.unit (s := S3x2x1024x1024) ![0, 1, 0, 0] S1x1x1024x1024.size p).toLoadRect hl) fun _ =>
          .op (.store mR (Rect.unit (s := S3x2x1024x1024) ![0, 1, 0, 0] S1x1x1024x1024.size p) w Finset.univ hx hm) k) Q) := by
  subst hw
  unfold rHalf rIs
  iintro ⟨%f, H⟩ Hk
  iapply (ldAnyR c 0 1 rfl) $$ H
  iintro H %v
  iapply (wp_store 𝒱₀ (tc c) none Set.univ (m := mR) (r := Rect.unit (s := S3x2x1024x1024) ![(0 : Fin 3).val, (1 : Fin 2).val, 0, 0] S1x1x1024x1024.size p) (row_subR 0 1)) $$ H
  iintro H
  iapply Hk
  iapply (Entails.of_eq (pointsTo_congr fun i hi => ?_)) $$ H
  have h0 := (mem_slotR 0 i).1 hi
  have hlt : (i 1).val < 2 := (i 1).isLt
  by_cases h1 : (i 1).val = 1
  · exact write_row_in m c c 0 1 _ i h0 h1
  · refine (write_row_out m c c 0 1 _ i h1).trans ?_
    exact write_row_in m c c 0 0 f i h0 (by show (i 1).val = 0; omega)

/-- Fetch the weights `main_arg1` into the staging buffer. -/
theorem fetch_mW1 (m : (ℓ : Loc nD τ sig) → Buf (Elt F) ℓ) (K KR) (c : Dev nD) (f : Buf (Elt F) (mW1.view.loc (tc c))) (g : Buf (Elt F) (sW.view.loc (tc c))) {h1 h2 h3 h4 h5}
    {α : Type} {k : PUnit → Prog (TpuEff nD τ sig (Elt F) Λ₀ .tc) α} {Q : α → sProp 𝕄} :
    iprop(Env m K KR ∗ Ow c (Od c 9) ∗ (mW1.view.loc (tc c) ↦{fullShare} f) ∗ (sW.view.loc (tc c) ↦{fullShare} g) ∗ semVal (tc c, .dma cc0_scratch10.sem) 0)
      ⊢ iprop((iprop(Ow c (Od c 9) ∗ (mW1.view.loc (tc c) ↦{fullShare} f) ∗ (sW.view.loc (tc c) ↦{fullShare} (f : FVec F S1024x1024 .f32)) ∗ semVal (tc c, .dma cc0_scratch10.sem) 0)
          -∗ wp frame (wpE defs₀ 𝒱₀ (tc c) none) Set.univ (k ⟨⟩) Q)
      -∗ wp frame (wpE defs₀ 𝒱₀ (tc c) none) Set.univ
        (.op (.enqueueDma mW1 (.here sW) (.dma cc0_scratch10.sem) h1 h2 h3) fun _ => .op (.waitDma2 cc0_scratch10.sem mW1 sW h4 h5) k) Q) := by
  unfold Ow
  iintro ⟨#HE, ⟨%W, Ho⟩, Hs, Hd, Hv⟩ Hk
  iapply (Transfers.wp_dmaLocal EC 𝒱₀ (tc c) none (src := mW1) (dst := sW) (Sd := Finset.univ) (q := fullShare) (fs := f) (fd := g)
    (0 : ℕ) sW.view.dmaCredit rfl (View.dmaCredit_pos _ (by decide)) (Finset.subset_univ _)) $$ [Hs Hd Hv]
  · isplitl [Hs]; · rw [show mW1.view.set = Finset.univ from View.set_whole _]; iexact Hs
    isplitl [Hd]; · iexact Hd
    iexact Hv
  iintro Hf
  iapply (Transfers.wp_waitLocalO EC 𝒱₀ (tc c) none (sem := cc0_scratch10.sem) (0 : ℕ) (N := sW.view.dmaCredit) (srcw := mW1) (hsrc := h4) (hdst := h5) (dstw := sW) rfl) $$ [Hf Ho]
  · isplitl [Hf]; · iexact Hf
    isplitl [Ho]; · iexact Ho
    iapply (env_lev.trans (mayWait_local c cc0_scratch10.sem (.inl (by decide +kernel)) 9 (by decide))) $$ HE
  iintro ⟨⟨Hd, Hs⟩, Hv, Ho⟩
  iapply Hk
  isplitl [Ho]; · iexists _; iexact Ho
  isplitl [Hs]; · rw [show mW1.view.set = Finset.univ from View.set_whole _]; iexact Hs
  isplitl [Hd]
  · iapply (Entails.of_eq (congrArg (fun X => (sW.view.loc (tc c) ↦{fullShare} X : sProp 𝕄)) (View.write_whole_univ cc0_scratch2 g _))) $$ Hd
  iexact Hv

/-- Fetch the weights `main_arg4` into the staging buffer. -/
theorem fetch_mW4 (m : (ℓ : Loc nD τ sig) → Buf (Elt F) ℓ) (K KR) (c : Dev nD) (f : Buf (Elt F) (mW4.view.loc (tc c))) (g : Buf (Elt F) (sW.view.loc (tc c))) {h1 h2 h3 h4 h5}
    {α : Type} {k : PUnit → Prog (TpuEff nD τ sig (Elt F) Λ₀ .tc) α} {Q : α → sProp 𝕄} :
    iprop(Env m K KR ∗ Ow c (Od c 9) ∗ (mW4.view.loc (tc c) ↦{fullShare} f) ∗ (sW.view.loc (tc c) ↦{fullShare} g) ∗ semVal (tc c, .dma cc0_scratch10.sem) 0)
      ⊢ iprop((iprop(Ow c (Od c 9) ∗ (mW4.view.loc (tc c) ↦{fullShare} f) ∗ (sW.view.loc (tc c) ↦{fullShare} (f : FVec F S1024x1024 .f32)) ∗ semVal (tc c, .dma cc0_scratch10.sem) 0)
          -∗ wp frame (wpE defs₀ 𝒱₀ (tc c) none) Set.univ (k ⟨⟩) Q)
      -∗ wp frame (wpE defs₀ 𝒱₀ (tc c) none) Set.univ
        (.op (.enqueueDma mW4 (.here sW) (.dma cc0_scratch10.sem) h1 h2 h3) fun _ => .op (.waitDma2 cc0_scratch10.sem mW4 sW h4 h5) k) Q) := by
  unfold Ow
  iintro ⟨#HE, ⟨%W, Ho⟩, Hs, Hd, Hv⟩ Hk
  iapply (Transfers.wp_dmaLocal EC 𝒱₀ (tc c) none (src := mW4) (dst := sW) (Sd := Finset.univ) (q := fullShare) (fs := f) (fd := g)
    (0 : ℕ) sW.view.dmaCredit rfl (View.dmaCredit_pos _ (by decide)) (Finset.subset_univ _)) $$ [Hs Hd Hv]
  · isplitl [Hs]; · rw [show mW4.view.set = Finset.univ from View.set_whole _]; iexact Hs
    isplitl [Hd]; · iexact Hd
    iexact Hv
  iintro Hf
  iapply (Transfers.wp_waitLocalO EC 𝒱₀ (tc c) none (sem := cc0_scratch10.sem) (0 : ℕ) (N := sW.view.dmaCredit) (srcw := mW4) (hsrc := h4) (hdst := h5) (dstw := sW) rfl) $$ [Hf Ho]
  · isplitl [Hf]; · iexact Hf
    isplitl [Ho]; · iexact Ho
    iapply (env_lev.trans (mayWait_local c cc0_scratch10.sem (.inl (by decide +kernel)) 9 (by decide))) $$ HE
  iintro ⟨⟨Hd, Hs⟩, Hv, Ho⟩
  iapply Hk
  isplitl [Ho]; · iexists _; iexact Ho
  isplitl [Hs]; · rw [show mW4.view.set = Finset.univ from View.set_whole _]; iexact Hs
  isplitl [Hd]
  · iapply (Entails.of_eq (congrArg (fun X => (sW.view.loc (tc c) ↦{fullShare} X : sProp 𝕄)) (View.write_whole_univ cc0_scratch2 g _))) $$ Hd
  iexact Hv

/-! ## The five steps as one loop -/

/-- What is held before step `k`. -/
def Rg (m : (ℓ : Loc nD τ sig) → Buf (Elt F) ℓ) (K : Dev nD × Fin 16 → ℕ) (KR : Dev nD × Fin 2 → ℕ) (c : Dev nD) (xg : Buf (Elt F) (mX.view.loc (tc c))) : ℕ → sProp 𝕄
  | 0 => iprop((Com m K KR c xg 0 ∗ StH0 m c ∗ StT0 c) ∗ (StT1 c ∗ StT2 c ∗ StT3 c ∗ StT4 c))
  | 1 => iprop((Com m K KR c xg 1 ∗ StH1 m c ∗ StT1 c) ∗ (StT2 c ∗ StT3 c ∗ StT4 c))
  | 2 => iprop((Com m K KR c xg 2 ∗ StH2 m c ∗ StT2 c) ∗ (StT3 c ∗ StT4 c ∗ StZ1 c))
  | 3 => iprop((Com m K KR c xg 3 ∗ StH3 m c ∗ StT3 c) ∗ (StT4 c ∗ StZ1 c ∗ StZ2 c))
  | 4 => iprop((Com m K KR c xg 4 ∗ StH4 m c ∗ StT4 c) ∗ (StZ1 c ∗ StZ2 c ∗ StZ3 c))
  | 5 => iprop((Com m K KR c xg 5 ∗ StH5 c ∗ StZ4 c) ∗ (StZ1 c ∗ StZ2 c ∗ StZ3 c))
  | _ => iprop(emp)

theorem rg_at1 (m : (ℓ : Loc nD τ sig) → Buf (Elt F) ℓ) (K : Dev nD × Fin 16 → ℕ) (KR : Dev nD × Fin 2 → ℕ) (c : Dev nD) (xg : Buf (Elt F) (mX.view.loc (tc c))) :
    iprop((Com m K KR c xg 1 ∗ StH1 m c ∗ StT1 c) ∗ (StT2 c ∗ StT3 c ∗ StT4 c)) ⊢ Rg m K KR c xg 1 := .rfl
theorem rg_at2 (m : (ℓ : Loc nD τ sig) → Buf (Elt F) ℓ) (K : Dev nD × Fin 16 → ℕ) (KR : Dev nD × Fin 2 → ℕ) (c : Dev nD) (xg : Buf (Elt F) (mX.view.loc (tc c))) :
    iprop((Com m K KR c xg 2 ∗ StH2 m c ∗ StT2 c) ∗ (StT3 c ∗ StT4 c ∗ StZ1 c)) ⊢ Rg m K KR c xg 2 := .rfl
theorem rg_at3 (m : (ℓ : Loc nD τ sig) → Buf (Elt F) ℓ) (K : Dev nD × Fin 16 → ℕ) (KR : Dev nD × Fin 2 → ℕ) (c : Dev nD) (xg : Buf (Elt F) (mX.view.loc (tc c))) :
    iprop((Com m K KR c xg 3 ∗ StH3 m c ∗ StT3 c) ∗ (StT4 c ∗ StZ1 c ∗ StZ2 c)) ⊢ Rg m K KR c xg 3 := .rfl
theorem rg_at4 (m : (ℓ : Loc nD τ sig) → Buf (Elt F) ℓ) (K : Dev nD × Fin 16 → ℕ) (KR : Dev nD × Fin 2 → ℕ) (c : Dev nD) (xg : Buf (Elt F) (mX.view.loc (tc c))) :
    iprop((Com m K KR c xg 4 ∗ StH4 m c ∗ StT4 c) ∗ (StZ1 c ∗ StZ2 c ∗ StZ3 c)) ⊢ Rg m K KR c xg 4 := .rfl

theorem with_rest {α : Type} {p : Prog (TpuEff nD τ sig (Elt F) Λ₀ .tc) α} {c : Dev nD} {P R S : sProp 𝕄} {Q : α → sProp 𝕄}
    (h : P ⊢ wp frame (wpE defs₀ 𝒱₀ (tc c) none) Set.univ p Q) (hS : ∀ x, iprop(Q x ∗ R) ⊢ S) :
    iprop(P ∗ R) ⊢ wp frame (wpE defs₀ 𝒱₀ (tc c) none) Set.univ p (fun _ => S) := by
  exact (sep_mono_left h).trans ((wp_frame_r _ _ _).trans (wp_mono _ _ _ hS))

theorem rg_step (m : (ℓ : Loc nD τ sig) → Buf (Elt F) ℓ) (K : Dev nD × Fin 16 → ℕ) (KR : Dev nD × Fin 2 → ℕ) (c : Dev nD) (xg : Buf (Elt F) (mX.view.loc (tc c)))
    (v2 v4 v7 : BitVec 32) (t1 : Fin k0_t1_loop.trips) :
    Rg m K KR c xg t1.val ⊢ wp frame (wpE defs₀ 𝒱₀ (tc c) none) Set.univ (k0_t1_body (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 v4 v7 t1 ⟨⟩) (fun _ => Rg m K KR c xg (t1.val + 1)) := by
  have hlt : t1.val < 5 := lt_of_lt_of_eq t1.isLt trips1
  have hcase : t1.val = 0 ∨ t1.val = 1 ∨ t1.val = 2 ∨ t1.val = 3 ∨ t1.val = 4 := by omega
  rcases hcase with ht | ht | ht | ht | ht
  · rw [ht]
    refine with_rest (step0 m K KR c xg t1 ht v2 v4 v7) fun _ => ?_
    refine BIBase.Entails.trans ?_ (rg_at1 m K KR c xg)
    iintro ⟨⟨C, H, E⟩, ⟨T1, T2, T3, T4⟩⟩
    isplitl [C H T1]
    · isplitl [C]; · iexact C
      isplitl [H]; · iexact H
      iexact T1
    isplitl [T2]; · iexact T2
    isplitl [T3]; · iexact T3
    iexact T4
  · rw [ht]
    refine with_rest (step1 m K KR c xg t1 ht v2 v4 v7) fun _ => ?_
    refine BIBase.Entails.trans ?_ (rg_at2 m K KR c xg)
    iintro ⟨⟨C, H, Z1⟩, ⟨T2, T3, T4⟩⟩
    isplitl [C H T2]
    · isplitl [C]; · iexact C
      isplitl [H]; · iexact H
      iexact T2
    isplitl [T3]; · iexact T3
    isplitl [T4]; · iexact T4
    iexact Z1
  · rw [ht]
    refine with_rest (step2 m K KR c xg t1 ht v2 v4 v7) fun _ => ?_
    refine BIBase.Entails.trans ?_ (rg_at3 m K KR c xg)
    iintro ⟨⟨C, H, Z2⟩, ⟨T3, T4, Z1⟩⟩
    isplitl [C H T3]
    · isplitl [C]; · iexact C
      isplitl [H]; · iexact H
      iexact T3
    isplitl [T4]; · iexact T4
    isplitl [Z1]; · iexact Z1
    iexact Z2
  · rw [ht]
    refine with_rest (step3 m K KR c xg t1 ht v2 v4 v7) fun _ => ?_
    refine BIBase.Entails.trans ?_ (rg_at4 m K KR c xg)
    iintro ⟨⟨C, H, Z3⟩, ⟨T4, Z1, Z2⟩⟩
    isplitl [C H T4]
    · isplitl [C]; · iexact C
      isplitl [H]; · iexact H
      iexact T4
    isplitl [Z1]; · iexact Z1
    isplitl [Z2]; · iexact Z2
    iexact Z3
  · rw [ht]
    refine with_rest (step4 m K KR c xg t1 ht v2 v4 v7) fun _ => ?_
    exact .rfl

theorem rg_start (m : (ℓ : Loc nD τ sig) → Buf (Elt F) ℓ) (K : Dev nD × Fin 16 → ℕ) (KR : Dev nD × Fin 2 → ℕ) (c : Dev nD) (xg : Buf (Elt F) (mX.view.loc (tc c))) :
    iprop((Com m K KR c xg 0 ∗ StH0 m c ∗ StT0 c) ∗ (StT1 c ∗ StT2 c ∗ StT3 c ∗ StT4 c)) ⊢ Rg m K KR c xg 0 := .rfl
theorem rg_end (m : (ℓ : Loc nD τ sig) → Buf (Elt F) ℓ) (K : Dev nD × Fin 16 → ℕ) (KR : Dev nD × Fin 2 → ℕ) (c : Dev nD) (xg : Buf (Elt F) (mX.view.loc (tc c))) :
    Rg m K KR c xg 5 ⊢ iprop((Com m K KR c xg 5 ∗ StH5 c ∗ StZ4 c) ∗ (StZ1 c ∗ StZ2 c ∗ StZ3 c)) := .rfl

/-! ## The whole body -/

theorem hz2 : (![0, 0] : Fin 2 → ℕ) = fun _ => 0 := by funext a; fin_cases a <;> rfl
theorem hz3 : (![0, 0, 0] : Fin 3 → ℕ) = fun _ => 0 := by funext a; fin_cases a <;> rfl

/-- What a device's part starts from. -/
def PreB (m : (ℓ : Loc nD τ sig) → Buf (Elt F) ℓ) (c : Dev nD) (xs : Buf (Elt F) (mI.view.loc (tc c))) : sProp 𝕄 :=
  iprop(Ow c (Od c 11) ∗ tok (prv c) 0 false ∗ tok (nxt c) 0 true ∗ pos c 0 ∗ cred (tallyAt (kcell c 0) 0 2)
    ∗ (StT0 c ∗ StT1 c ∗ StT2 c ∗ StT3 c ∗ StT4 c)
    ∗ ((∃ f, mR.view.loc (tc c) ↦{fullShare} f) ∗ (∃ f, mL.view.loc (tc c) ↦{fullShare} f) ∗ (∃ f, sW.view.loc (tc c) ↦{fullShare} f)
      ∗ (∃ f, mX.view.loc (tc c) ↦{fullShare} f) ∗ (∃ f, bK.view.loc (tc c) ↦{fullShare} f) ∗ (∃ f, bV.view.loc (tc c) ↦{fullShare} f))
    ∗ (semVal (tc c, .dma cc0_scratch10.sem) 0 ∗ SemsK c ∗ SemsV c)
    ∗ ((mW1.view.loc (tc c) ↦{fullShare} m (mW1.view.loc (tc c))) ∗ (mK.view.loc (tc c) ↦{fullShare} m (mK.view.loc (tc c)))
      ∗ (mV.view.loc (tc c) ↦{fullShare} m (mV.view.loc (tc c))) ∗ (mW4.view.loc (tc c) ↦{fullShare} m (mW4.view.loc (tc c))))
    ∗ (mI.view.loc (tc c) ↦{fullShare} xs) ∗ (∃ f, mO.view.loc (tc c) ↦{fullShare} f))

/-- The device's rows, regrouped. -/
def xgOf (c : Dev nD) (xs : Buf (Elt F) (mI.view.loc (tc c))) : Buf (Elt F) (mX.view.loc (tc c)) := k0_pay1 (xs : Vec F S1x1024x1024 .f32)

/-- What it ends with in its output block. -/
def outB (m : (ℓ : Loc nD τ sig) → Buf (Elt F) ℓ) (c : Dev nD) (xs : Buf (Elt F) (mI.view.loc (tc c))) : Buf (Elt F) (mO.view.loc (tc c)) :=
  k0_pay5 (acc5 m c (xgOf c xs) : Vec F S1x1024x1024 .f32)

theorem xg_after (c : Dev nD) (xs : Buf (Elt F) (mI.view.loc (tc c))) (f : Buf (Elt F) (mX.view.loc (tc c))) {p p'} :
    (mX.access (Rect.unit (s := S1024x1024) ![0, 0] S1024x1024.size p)).write (Elt F) f
      (k0_pay1 ((mI.access (Rect.unit (s := S1x1024x1024) ![0, 0, 0] S1x1024x1024.size p')).read (Elt F) xs)) Finset.univ = xgOf c xs :=
  (Memref.write_access_unit_zero_univ (Elt F) cc0_scratch3 hz2 p f _).trans
    (congrArg (fun y : Vec F S1x1024x1024 .f32 => k0_pay1 y) (Memref.read_access_unit_zero (Elt F) cc0_stg0_0 hz3 p' xs))
theorem o_after (c : Dev nD) (f : Buf (Elt F) (mO.view.loc (tc c))) (w : Vec F S1x1024x1024 .f32) {p} :
    (mO.access (Rect.unit (s := S1x1024x1024) ![0, 0, 0] S1x1024x1024.size p)).write (Elt F) f w Finset.univ = w :=
  Memref.write_access_unit_zero_univ (Elt F) cc0_stg1_0 hz3 p f w
theorem o_end (c : Dev nD) (f g : Buf (Elt F) (mO.view.loc (tc c))) {p p'} :
    (mO.access (Rect.unit (s := S1x1024x1024) ![0, 0, 0] S1x1024x1024.size p)).write (Elt F) f
      (k0_pay5 ((mO.access (Rect.unit (s := S1x1024x1024) ![0, 0, 0] S1x1024x1024.size p')).read (Elt F) g)) Finset.univ = k0_pay5 (g : Vec F S1x1024x1024 .f32) :=
  (Memref.write_access_unit_zero_univ (Elt F) cc0_stg1_0 hz3 p f _).trans
    (congrArg (fun y : Vec F S1x1024x1024 .f32 => k0_pay5 y) (Memref.read_access_unit_zero (Elt F) cc0_stg1_0 hz3 p' g))

def PostB (m : (ℓ : Loc nD τ sig) → Buf (Elt F) ℓ) (c : Dev nD) (xs : Buf (Elt F) (mI.view.loc (tc c))) : sProp 𝕄 :=
  iprop(Ow c (Od c 0)
    ∗ ((∃ f, mR.view.loc (tc c) ↦{fullShare} f) ∗ (∃ f, mL.view.loc (tc c) ↦{fullShare} f) ∗ (∃ f, sW.view.loc (tc c) ↦{fullShare} f)
      ∗ (∃ f, mX.view.loc (tc c) ↦{fullShare} f) ∗ (∃ f, bK.view.loc (tc c) ↦{fullShare} f) ∗ (∃ f, bV.view.loc (tc c) ↦{fullShare} f))
    ∗ (zro c 0 ∗ StZ1 c ∗ StZ2 c ∗ StZ3 c ∗ StZ4 c)
    ∗ (semVal (tc c, .dma cc0_scratch10.sem) 0 ∗ SemsK c ∗ SemsV c)
    ∗ ((mW1.view.loc (tc c) ↦{fullShare} m (mW1.view.loc (tc c))) ∗ (mK.view.loc (tc c) ↦{fullShare} m (mK.view.loc (tc c)))
      ∗ (mV.view.loc (tc c) ↦{fullShare} m (mV.view.loc (tc c))) ∗ (mW4.view.loc (tc c) ↦{fullShare} m (mW4.view.loc (tc c))))
    ∗ (mI.view.loc (tc c) ↦{fullShare} xs) ∗ (mO.view.loc (tc c) ↦{fullShare} outB m c xs))

set_option maxHeartbeats 2000000 in
theorem body_run (m : (ℓ : Loc nD τ sig) → Buf (Elt F) ℓ) (K : Dev nD × Fin 16 → ℕ) (KR : Dev nD × Fin 2 → ℕ) (c : Dev nD) (xs : Buf (Elt F) (mI.view.loc (tc c))) :
    iprop(Env m K KR ∗ PreB m c xs) ⊢ wp frame (wpE defs₀ 𝒱₀ (tc c) none) Set.univ (cc0_body (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) (fun _ => PostB m c xs) := by
  unfold PreB
  rw [cc0_body_eq_skeleton]
  simp only [cc0_body_skel, k0_part17_eq_skeleton, k0_part17_skel, semSignalWord, semWaitWord, Prog.lift, Prog.bind_op, Prog.bind_ret, Prog.pure_eq_ret, wp_deviceId]
  iintro ⟨#HE, Ho, Tl, Tr, P0, C0, ⟨T0, T1, T2, T3, T4⟩, ⟨HR, HL, ⟨%gw, HW⟩, ⟨%gx, HX⟩, HbK, HbV⟩, ⟨Hsw, HsK, HsV⟩, ⟨H1, H2, H3, H4⟩, HI, ⟨%go, HO⟩⟩
  ihave HR := (slotsR_split c) $$ HR
  icases HR with ⟨R0, R1, R2⟩
  ihave HL := (slotsL_split c) $$ HL
  iapply (signalCell m K KR c (prv c) 0 false 10 rfl (by decide) (dev1_prv c) rfl rfl rfl (iprop(rAny c 1 ∗ rAny c 2)) (by show iprop(rAny (nxt (prv c)) 1 ∗ rAny (nxt (prv c)) 2) = _; rw [nxt_prv])) $$ [Ho Tl R1 R2]
  · isplitl []; · iexact HE
    isplitl [Ho]; · iexact Ho
    isplitl [Tl]; · iexact Tl
    isplitl [R1] <;> iassumption
  iintro Ho
  iapply (signalCell m K KR c (nxt c) 0 true 9 rfl (by decide) (dev2_nxt c) rfl rfl rfl (iprop(lAny c 0 ∗ lAny c 1 ∗ lAny c 2))
    (by show iprop(lAny (prv (nxt c)) 0 ∗ lAny (prv (nxt c)) 1 ∗ lAny (prv (nxt c)) 2) = _; rw [prv_nxt])) $$ [Ho Tr HL]
  · isplitl []; · iexact HE
    isplitl [Ho]; · iexact Ho
    isplitl [Tr]; · iexact Tr
    iexact HL
  iintro Ho
  iapply (waitBar m K KR c rfl rfl) $$ [P0 C0 Ho]
  · isplitl []; · iexact HE
    isplitl [P0]; · iexact P0
    isplitl [C0]; · iexact C0
    iexact Ho
  iintro ⟨Ho, Z0, ⟨A1, A2⟩, ⟨B0, B1, B2⟩⟩
  iapply (fetch_mW1 m K KR c _ gw) $$ [Ho H1 HW Hsw]
  · isplitl []; · iexact HE
    isplitl [Ho]; · iexact Ho
    isplitl [H1]; · iexact H1
    isplitl [HW]; · iexact HW
    iexact Hsw
  iintro ⟨Ho, H1, HW, Hsw⟩
  iapply (ldAll sW c) $$ HW
  iintro HW
  iapply (storeRow0 m c ((congrArg (fun y : Vec F S1024x1024 .f32 => k0_pay16 y) (Memref.read_access_unit_zero (Elt F) cc0_scratch2 hz2 _ _)).trans (pay16_row m c))) $$ R0
  iintro R0
  iapply (fetch_mW4 m K KR c _ _) $$ [Ho H4 HW Hsw]
  · isplitl []; · iexact HE
    isplitl [Ho]; · iexact Ho
    isplitl [H4]; · iexact H4
    isplitl [HW]; · iexact HW
    iexact Hsw
  iintro ⟨Ho, H4, HW, Hsw⟩
  iapply (ldAll sW c) $$ HW
  iintro HW
  iapply (storeRow1 m c ((congrArg (fun y : Vec F S1024x1024 .f32 => k0_pay17 y) (Memref.read_access_unit_zero (Elt F) cc0_scratch2 hz2 _ _)).trans (pay17_row m c))) $$ R0
  iintro R0
  iapply (ldAll mI c) $$ HI
  iintro HI
  iapply (ldAll mX c) $$ HX
  iintro HX
  iapply (stAll mX c) $$ HX
  iintro HX
  iapply (ldAll mO c) $$ HO
  iintro HO
  iapply (stAll mO c) $$ HO
  iintro HO
  ihave HX := (Entails.of_eq (congrArg (fun X => (mX.view.loc (tc c) ↦{fullShare} X : sProp 𝕄)) (xg_after c xs gx))) $$ HX
  ihave HO := (Entails.of_eq (congrArg (fun X => (mO.view.loc (tc c) ↦{fullShare} X : sProp 𝕄)) (o_after c go (k0_pay2 : FVec F S1x1024x1024 .f32)))) $$ HO
  ihave HK := (idleK_all m c) $$ [HbK HsK H2]
  · isplitl [HbK]; · iexact HbK
    isplitl [HsK] <;> iassumption
  icases HK with ⟨HK, H2⟩
  ihave HV := (idleV_all m c) $$ [HbV HsV H3]
  · isplitl [HbV]; · iexact HbV
    isplitl [HsV] <;> iassumption
  icases HV with ⟨HV, H3⟩
  ihave HI8 := (idle8_all m c) $$ [HK HV]
  · isplitl [HK] <;> iassumption
  icases HI8 with ⟨I0, I1⟩
  iapply (Scf.wp_for_bind frame (wpE defs₀ 𝒱₀ (tc c) none) Set.univ _ _ _ k0_t1_ok (⟨⟩ : Unit) _ (fun k _ => Rg m K KR c (xgOf c xs) k)
    (fun k acc => rg_step m K KR c (xgOf c xs) _ _ _ k)) $$ [Ho HX HO I0 I1 R0 A1 A2 B0 B1 B2 T0 T1 T2 T3 T4]
  · iapply (rg_start m K KR c (xgOf c xs))
    unfold Com StH0
    isplitr [T1 T2 T3 T4]
    · isplitl [Ho HX HO I0 I1]
      · isplitl []; · iexact HE
        isplitl [HX]; · iexact HX
        isplitl [HO]; · iexact HO
        isplitl [I0]; · iexact I0
        isplitl [I1]; · iexact I1
        iexact Ho
      isplitr [T0]
      · isplitl [R0]; · rw [bk_zero]; iexact R0
        isplitl [A1]; · iexact A1
        isplitl [A2]; · iexact A2
        isplitl [B0]; · iexact B0
        isplitl [B1]; · iexact B1
        iexact B2
      iexact T0
    isplitl [T1]; · iexact T1
    isplitl [T2]; · iexact T2
    isplitl [T3] <;> iassumption
  iintro %acc HRg
  ihave HRg := (Entails.of_eq (congrArg (Rg m K KR c (xgOf c xs)) trips1)) $$ HRg
  ihave HRg := (rg_end m K KR c (xgOf c xs)) $$ HRg
  unfold Com StH5
  icases HRg with ⟨⟨⟨-, HX, HO, I0, I1, Ho⟩, ⟨A0, A1, A2, B0, B1, B2⟩, Z4⟩, ⟨Z1, Z2, Z3⟩⟩
  iapply (ldAll mO c) $$ HO
  iintro HO
  iapply (ldAll mO c) $$ HO
  iintro HO
  iapply (stAll mO c) $$ HO
  iintro HO
  simp only [wp_ret]
  imodintro
  ihave HO := (Entails.of_eq (congrArg (fun X => (mO.view.loc (tc c) ↦{fullShare} X : sProp 𝕄)) (o_end c _ _))) $$ HO
  ihave HI8 := (idle8_back m c) $$ [I0 I1]
  · isplitl [I0] <;> iassumption
  icases HI8 with ⟨HK, HV⟩
  ihave HK := (idleK_back m c) $$ [HK H2]
  · isplitl [HK] <;> iassumption
  icases HK with ⟨HbK, HsK, H2⟩
  ihave HV := (idleV_back m c) $$ [HV H3]
  · isplitl [HV] <;> iassumption
  icases HV with ⟨HbV, HsV, H3⟩
  unfold PostB
  isplitl [Ho]; · iexact Ho
  isplitl [A0 A1 A2 B0 B1 B2 HW HX HbK HbV]
  · isplitl [A0 A1 A2]
    · iapply (slotsR_join c)
      isplitl [A0]; · iexact A0
      isplitl [A1] <;> iassumption
    isplitl [B0 B1 B2]
    · iapply (slotsL_join c)
      isplitl [B0]; · iexact B0
      isplitl [B1] <;> iassumption
    isplitl [HW]; · iexists _; iexact HW
    isplitl [HX]; · iexists _; iexact HX
    isplitl [HbK] <;> iassumption
  isplitl [Z0 Z1 Z2 Z3 Z4]
  · isplitl [Z0]; · iexact Z0
    isplitl [Z1]; · iexact Z1
    isplitl [Z2]; · iexact Z2
    isplitl [Z3] <;> iassumption
  isplitl [Hsw HsK HsV]
  · isplitl [Hsw]; · iexact Hsw
    isplitl [HsK] <;> iassumption
  isplitl [H1 H2 H3 H4]
  · isplitl [H1]; · iexact H1
    isplitl [H2]; · iexact H2
    isplitl [H3] <;> iassumption
  isplitl [HI]; · iexact HI
  iexact HO

end Cert.RingProof
-- ==== Proof.Deal.lean ====
/-
The launch's resources dealt to the devices: the ring's cells, their duties, the slots given back and the credits.
-/
module

public import proofs.«01_k».proof.Proof.Body
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Semaphores -/

/-- The kernel's own semaphores, as the launch indexes them. -/
def osem (k : Fin 32) : SemLoc sig :=
  if k.val = 0 then .reg cc0_scratch13.sem else .dma ⟨k.val + 1, lt_of_lt_of_le (Nat.succ_lt_succ k.isLt) (by decide)⟩

set_option maxRecDepth 8000 in
theorem ownSemFacts : Pipeline.OwnSemFacts cfg0.spec osem := by decide +kernel

theorem bigSep_sixteen (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem bigSep_bool (Φ : Bool → sProp 𝕄) : bigSep Finset.univ Φ = iprop(Φ false ∗ Φ true) :=
  bigSep_univ_eq_bigSepL [false, true] (by decide) (by decide) Φ
theorem bigSep_two (Φ : Fin 2 → sProp 𝕄) : bigSep Finset.univ Φ = iprop(Φ 0 ∗ Φ 1) :=
  bigSep_univ_eq_bigSepL [0, 1] (by decide) (by decide) Φ

set_option maxRecDepth 8000 in
theorem ownSems0_eq (c : Dev nD) : (Pipeline.ownSems0 (Ix := ℕ) (Name := ℕ) (U := UU) (Lvl := ℕ) (Val := Elt F) (τ := τ) osem c : sProp 𝕄)
    = iprop(semVal (kcell c 1) 0 ∗ semVal (kcell c 2) 0 ∗ semVal (kcell c 3) 0 ∗ semVal (kcell c 4) 0 ∗ semVal (kcell c 5) 0 ∗ semVal (kcell c 6) 0 ∗ semVal (kcell c 7) 0 ∗ semVal (kcell c 8) 0 ∗ semVal (kcell c 9) 0 ∗ semVal (kcell c 10) 0 ∗ semVal (kcell c 11) 0 ∗ semVal (kcell c 12) 0 ∗ semVal (kcell c 13) 0 ∗ semVal (kcell c 14) 0 ∗ semVal (kcell c 15) 0 ∗ semVal (tc c, .dma cc0_scratch10.sem) 0 ∗ semVal (tc c, .dma (pSem cc0_scratch11 0 0)) 0 ∗ semVal (tc c, .dma (pSem cc0_scratch11 0 1)) 0 ∗ semVal (tc c, .dma (pSem cc0_scratch11 0 2)) 0 ∗ semVal (tc c, .dma (pSem cc0_scratch11 0 3)) 0 ∗ semVal (tc c, .dma (pSem cc0_scratch11 1 0)) 0 ∗ semVal (tc c, .dma (pSem cc0_scratch11 1 1)) 0 ∗ semVal (tc c, .dma (pSem cc0_scratch11 1 2)) 0 ∗ semVal (tc c, .dma (pSem cc0_scratch11 1 3)) 0 ∗ semVal (tc c, .dma (pSem cc0_scratch12 0 0)) 0 ∗ semVal (tc c, .dma (pSem cc0_scratch12 0 1)) 0 ∗ semVal (tc c, .dma (pSem cc0_scratch12 0 2)) 0 ∗ semVal (tc c, .dma (pSem cc0_scratch12 0 3)) 0 ∗ semVal (tc c, .dma (pSem cc0_scratch12 1 0)) 0 ∗ semVal (tc c, .dma (pSem cc0_scratch12 1 1)) 0 ∗ semVal (tc c, .dma (pSem cc0_scratch12 1 2)) 0 ∗ semVal (tc c, .dma (pSem cc0_scratch12 1 3)) 0) := by
  rw [Pipeline.ownSems0_eq_of_list c osem [0, 1, 2, 3, 4, 5, 6, 7, 8, 9, 10, 11, 12, 13, 14, 15, 16, 17, 18, 19, 20, 21, 22, 23, 24, 25, 26, 27, 28, 29, 30, 31] (by decide +kernel) (by decide +kernel)]; rfl
theorem unscopedSems0_eq (c : Dev nD) : (unscopedSems0 c : sProp 𝕄) = semVal (kcell c 0) 0 := by
  unfold unscopedSems0; rw [bigSep_eq_bigSepL_of_eq [SemLoc.reg barS] (by decide +kernel) (by decide +kernel)]; rfl

/-- The semaphores of the copies that stay on the device. -/
def locSems (c : Dev nD) : sProp 𝕄 := iprop(semVal (tc c, .dma cc0_scratch10.sem) 0 ∗ SemsK c ∗ SemsV c)

theorem sems_deal (c : Dev nD) :
    iprop(Pipeline.ownSems0 (Ix := ℕ) (Name := ℕ) (U := UU) (Lvl := ℕ) (Val := Elt F) (τ := τ) osem c ∗ unscopedSems0 c)
      ⊢ (iprop((bigSep Finset.univ fun k : Fin 16 => semVal (kcell c k) 0) ∗ locSems c) : sProp 𝕄) := by
  unfold locSems SemsK SemsV
  rw [ownSems0_eq, unscopedSems0_eq, bigSep_sixteen, bigSep_eight, bigSep_eight]
  iintro ⟨⟨A1, A2, A3, A4, A5, A6, A7, A8, A9, A10, A11, A12, A13, A14, A15, B0, K0, K1, K2, K3, K4, K5, K6, K7, V0, V1, V2, V3, V4, V5, V6, V7⟩, HB⟩
  isplitl [HB A1 A2 A3 A4 A5 A6 A7 A8 A9 A10 A11 A12 A13 A14 A15]
  · isplitl [HB]; · iexact HB
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  isplitl [B0]; · iexact B0
  isplitl [K0 K1 K2 K3 K4 K5 K6 K7]
  · isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  isplitl [V0]; · iexact V0
  isplitl [V1]; · iexact V1
  isplitl [V2]; · iexact V2
  isplitl [V3]; · iexact V3
  isplitl [V4]; · iexact V4
  isplitl [V5]; · iexact V5
  isplitl [V6]; · iexact V6
  iexact V7

theorem sems_back (c : Dev nD) :
    iprop((zro c 0 ∗ StZ1 c ∗ StZ2 c ∗ StZ3 c ∗ StZ4 c) ∗ locSems c)
      ⊢ (iprop(unscopedSems0 c ∗ Pipeline.ownSems0 (Ix := ℕ) (Name := ℕ) (U := UU) (Lvl := ℕ) (Val := Elt F) (τ := τ) osem c) : sProp 𝕄) := by
  unfold locSems SemsK SemsV StZ1 StZ2 StZ3 StZ4
  rw [ownSems0_eq, unscopedSems0_eq, bigSep_eight, bigSep_eight]
  iintro ⟨⟨A0, ⟨A6, A13, A2, A10⟩, ⟨A7, A14, A3, A11⟩, ⟨A8, A1, A15, A4, A12⟩, A9, A5⟩, B0, ⟨K0, K1, K2, K3, K4, K5, K6, K7⟩, ⟨V0, V1, V2, V3, V4, V5, V6, V7⟩⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [B0]; · iexact B0
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [V0]; · iexact V0
  isplitl [V1]; · iexact V1
  isplitl [V2]; · iexact V2
  isplitl [V3]; · iexact V3
  isplitl [V4]; · iexact V4
  isplitl [V5]; · iexact V5
  isplitl [V6]; · iexact V6
  iexact V7

/-! ## The launch's element -/

def ringCells : Finset (GSem nD τ sig) := Finset.univ.map ⟨fun p : Dev nD × Fin 16 => kcell p.1 p.2, kcell_inj⟩

theorem tokOf_inj : Function.Injective (fun p : Dev nD × (Fin 16 × Bool) => ((kcell p.1 p.2.1, 0, p.2.2) : GSem nD τ sig × ℕ × Bool)) := by
  rintro ⟨c, i, d⟩ ⟨c', i', d'⟩ h
  have h1 : kcell c i = kcell c' i' := congrArg Prod.fst h
  have h2 : d = d' := congrArg (fun x : GSem nD τ sig × ℕ × Bool => x.2.2) h
  have h3 := @kcell_inj (c, i) (c', i') h1
  obtain ⟨rfl, rfl⟩ := Prod.mk.inj h3
  subst h2; rfl
def ringToks : Finset (GSem nD τ sig × ℕ × Bool) := Finset.univ.map ⟨_, tokOf_inj⟩

def u₀ : UU :=
  (initOf (Pipeline.cells cfgs cellOf_inj) (Pipeline.launchToks cfgs cellOf_inj), (initOf ringCells ringToks, (Release.initSlots Finset.univ 1, 1)))

section Deal
variable (m : (ℓ : Loc nD τ sig) → Buf (Elt F) ℓ)

/-- The duties of a device's own cells. -/
def toks (c : Dev nD) : sProp 𝕄 := bigSep Finset.univ fun x : Fin 16 × Bool => dutyTok ER (kcell c x.1) 0 x.2

/-- The launch's slots, with one device. -/
def slot0 (c : Dev nD) : sProp 𝕄 := if c = 0 then BI.own (EK (Release.initSlots Finset.univ 1)) else iprop(emp)

/-- What the launch's element deals a device. -/
def G (c : Dev nD) : sProp 𝕄 :=
  iprop((bigSep Finset.univ fun k : Fin 16 => roundState ER (ringRd m) (kcell c k) 0)
    ∗ (bigSep Finset.univ fun k : Fin 16 => iprop(pos c k ∗ reached ER (kcell c k) 0)) ∗ toks c ∗ slot0 c)

theorem fund_ring : iprop(BI.own (ER (initOf ringCells ringToks)) ∗ BI.own (EK (Release.initSlots Finset.univ 1))) ⊢ (|==> bigSep Finset.univ (G m) : sProp 𝕄) := by
  have hX (Φ : GSem nD τ sig → sProp 𝕄) : bigSep ringCells Φ = bigSep Finset.univ fun c : Dev nD => bigSep Finset.univ fun k : Fin 16 => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  have hS : BI.own (EK (Release.initSlots Finset.univ 1)) ⊢ (bigSep Finset.univ fun c : Dev nD => (slot0 c : sProp 𝕄)) := by
    rw [bigSep_univ_at _ (0 : Dev nD)]
    iintro H
    isplitl [H]
    · unfold slot0; rw [if_pos rfl]; iexact H
    · iapply (Entails.of_eq ((bigSep_congr (s := Finset.univ.erase (0 : Dev nD)) (Ψ := fun _ => (iprop(emp) : sProp 𝕄)) fun i hi => by
        unfold slot0; rw [if_neg (Finset.ne_of_mem_erase hi)]).trans (BI.bigSep_emp_const _)).symm)
      iempintro
  iintro ⟨HX, HS⟩
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HS' := hS $$ HS
  unfold G; simp only [bigSep_sep']
  isplitl [Hst']; · iexact Hst'
  isplitl [Hat' Hr']
  · isplitl [Hat'] <;> iassumption
  isplitl [Htok']; · iexact Htok'
  iexact HS'

theorem hu₀_deal : (ownU u₀ : sProp 𝕄) ⊢ |==> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb embR _ _) $$ HX
  icases H with ⟨HR, HY⟩
  ihave H := (own_pair_emb (Emb.inr.trans embR) _ _) $$ HY
  icases H with ⟨HS, -⟩
  imod (fund_ring m) $$ [HR HS] with HG
  · isplitl [HR]; · iexact HR
    iexact HS
  imodintro
  isplitl [HP] <;> iassumption

/-! ## The global step -/

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Fin 16 => iprop(∃ κ : ℕ, cellInv ER (ringRd m) κ (kcell c k)))
          ∗ (bigSep Finset.univ fun k : Fin 16 => iprop(pos c k ∗ reached ER (kcell c k) 0)) ∗ toks c ∗ slot0 c ∗ locSems c) := by
  unfold G
  iintro ⟨Hos, Hus, Hst, Hat, Htok, Hs⟩
  ihave Hv := (sems_deal (F := F) c) $$ [Hos Hus]
  · isplitl [Hos] <;> iassumption
  icases Hv with ⟨Hv, Hl⟩
  imod (show iprop((bigSep Finset.univ fun k : Fin 16 => semVal (kcell c k) 0) ∗ bigSep Finset.univ fun k : Fin 16 => roundState ER (ringRd m) (kcell c k) 0)
      ⊢ (|={Set.univ}=> bigSep Finset.univ fun k : Fin 16 => iprop(∃ κ : ℕ, cellInv ER (ringRd m) κ (kcell c k)) : sProp 𝕄) from by
        rw [← bigSep_sep']
        exact (bigSep_mono fun k _ => (Rounds.body_intro ER (ringRd m) (kcell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [Hs]; · iexact Hs
  iexact Hl

def ring : Dev nD ≃ Dev nD := ⟨nxt, prv, prv_nxt, nxt_prv⟩
/-- Whose cell a device pays, for each cell and duty. -/
def tgt (x : Fin 16 × Bool) : Dev nD ≃ Dev nD :=
  if x.1.val = 0 then (if x.2 then ring else ring.symm)
  else if x.1.val = 1 then ring.symm
  else if x.1.val < 6 then Equiv.refl _
  else if x.1.val < 10 then ring
  else if x.1.val < 13 then Equiv.refl _
  else ring.symm

/-- The duties a device pays. -/
def payToks (c : Dev nD) : sProp 𝕄 := bigSep Finset.univ fun x : Fin 16 × Bool => dutyTok ER (kcell (tgt x c) x.1) 0 x.2

theorem bigSep_comm2 {A B : Type} [Fintype A] [Fintype B] [DecidableEq A] [DecidableEq B] (Φ : A → B → sProp 𝕄) :
    bigSep Finset.univ (fun a => bigSep Finset.univ fun b => Φ a b) = bigSep Finset.univ fun b => bigSep Finset.univ fun a => Φ a b := by
  rw [← bigSep_univ_prod (fun p : A × B => Φ p.1 p.2), bigSep_univ_equiv (Equiv.prodComm B A), ← bigSep_univ_prod (fun p : B × A => Φ p.2 p.1)]
  rfl

theorem toks_around : (bigSep Finset.univ fun c : Dev nD => (toks c : sProp 𝕄)) = bigSep Finset.univ fun c : Dev nD => payToks c := by
  unfold toks payToks
  rw [bigSep_comm2 (fun (c : Dev nD) (x : Fin 16 × Bool) => (dutyTok ER (kcell c x.1) 0 x.2 : sProp 𝕄)),
    bigSep_comm2 (fun (c : Dev nD) (x : Fin 16 × Bool) => (dutyTok ER (kcell (tgt x c) x.1) 0 x.2 : sProp 𝕄))]
  exact bigSep_congr fun x _ => bigSep_univ_equiv (tgt x) _

/-- What the slots given back need of a device: its readers, and its writers at its right neighbour. -/
def slotGh (c : Dev nD) : sProp 𝕄 :=
  iprop((bigSep Finset.univ fun i : Fin 2 => rdr c i) ∗ bigSep Finset.univ fun i : Fin 2 => Release.writeTok EK (nxt c, i) 1)

/-- What all devices know, but for the order. -/
def Kn (K : Dev nD × Fin 16 → ℕ) (KR : Dev nD × Fin 2 → ℕ) : sProp 𝕄 :=
  iprop(bigSep Finset.univ (fun p : Dev nD × Fin 16 => cellInv ER (ringRd m) (K p) (kcell p.1 p.2))
    ∗ bigSep Finset.univ (fun p : Dev nD × Fin 16 => reached ER (kcell p.1 p.2) 0)
    ∗ bigSep Finset.univ (fun k : Dev nD × Fin 2 => Release.slotInv EK (KR k) k (Sl k)))
instance Kn_persistent (K KR) : Persistent (Kn (F := F) m K KR) := by unfold Kn; infer_instance

def linear (c : Dev nD) : sProp 𝕄 :=
  iprop((bigSep Finset.univ fun k : Fin 16 => pos c k) ∗ payToks c ∗ slotGh c ∗ locSems c)

/-- What the global step makes of a device's share. -/
def G' (c : Dev nD) : sProp 𝕄 := iprop((∃ K KR, Kn m K KR) ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K KR) (c : Dev nD) : iprop(Kn m K KR ∗ linear c) ⊢ G' m c := by
  unfold G'
  iintro ⟨H, HL⟩
  isplitl [H]
  · iexists K, KR; iexact H
  iexact HL

theorem slots_deal : BI.own (EK (Release.initSlots Finset.univ 1)) ⊢ (|={Set.univ}=> iprop((∃ KR : Dev nD × Fin 2 → ℕ, bigSep Finset.univ (fun k : Dev nD × Fin 2 => Release.slotInv EK (KR k) k (Sl k)))
    ∗ bigSep Finset.univ fun c => slotGh c) : sProp 𝕄) := by
  have h1 : (bigSep Finset.univ fun k : Dev nD × Fin 2 => (Release.readerAt EK k 0 : sProp 𝕄)) = bigSep Finset.univ fun c : Dev nD => bigSep Finset.univ fun i : Fin 2 => rdr c i := by
    rw [bigSep_univ_prod]
  have h2 : (bigSep ((Finset.univ : Finset (Dev nD × Fin 2)) ×ˢ Finset.range 1) fun x => (Release.writeTok EK x.1 (x.2 + 1) : sProp 𝕄))
      = bigSep Finset.univ fun c : Dev nD => bigSep Finset.univ fun i : Fin 2 => Release.writeTok EK (nxt c, i) 1 := by
    rw [Finset.range_one, Finset.product_singleton, bigSep_map]
    refine Eq.trans ?_ (bigSep_univ_equiv ring (fun c : Dev nD => bigSep Finset.univ fun i : Fin 2 => (Release.writeTok EK (c, i) 1 : sProp 𝕄)))
    rw [← bigSep_univ_prod (fun k : Dev nD × Fin 2 => (Release.writeTok EK k 1 : sProp 𝕄))]
    rfl
  unfold slotGh
  rw [bigSep_sep', ← h1, ← h2]
  iintro H
  imod (Release.slots_init EK Finset.univ 1 (Sl (F := F))) $$ H with ⟨%KR, -, HI, HR, HW⟩
  imodintro
  isplitl [HI]
  · iexists KR; iexact HI
  isplitl [HR]; · iexact HR
  iexact HW

theorem regroup :
    (bigSep Finset.univ fun c : Dev nD => iprop((bigSep Finset.univ fun k : Fin 16 => iprop(∃ κ : ℕ, cellInv ER (ringRd m) κ (kcell c k)))
          ∗ (bigSep Finset.univ fun k : Fin 16 => iprop(pos c k ∗ reached ER (kcell c k) 0)) ∗ toks c ∗ slot0 c ∗ locSems c) : sProp 𝕄)
      ⊢ |={Set.univ}=> bigSep Finset.univ (G' m) := by
  rw [bigSep_sep', bigSep_sep', bigSep_sep', bigSep_sep', ← bigSep_univ_prod (fun ck : Dev nD × Fin 16 => iprop(∃ κ : ℕ, cellInv ER (ringRd m) κ (kcell ck.1 ck.2))),
    bigSep_congr (s := Finset.univ) (fun (c : Dev nD) _ => bigSep_sep' Finset.univ (fun k : Fin 16 => (pos c k : sProp 𝕄)) (fun k => reached ER (kcell c k) 0)),
    bigSep_sep', ← bigSep_univ_prod (fun ck : Dev nD × Fin 16 => (reached ER (kcell ck.1 ck.2) 0 : sProp 𝕄)), toks_around]
  iintro ⟨HI, ⟨Hat, #HR⟩, Htok, Hs, Hl⟩
  ihave Hs := (bigSep_get (Finset.mem_univ (0 : Dev nD)) (Φ := fun c : Dev nD => (slot0 c : sProp 𝕄))) $$ Hs
  ihave Hs := (Entails.of_eq (show (slot0 (0 : Dev nD) : sProp 𝕄) = BI.own (EK (Release.initSlots Finset.univ 1)) from if_pos rfl)) $$ Hs
  imod (slots_deal (F := F)) $$ Hs with ⟨⟨%KR, #HS⟩, HG⟩
  ihave HK := (BI.bigSep_exists_pi Finset.univ (fun (ck : Dev nD × Fin 16) (κ : ℕ) => (cellInv ER (ringRd m) κ (kcell ck.1 ck.2) : sProp 𝕄))) $$ HI
  icases HK with ⟨%K, #HI⟩
  imodintro
  iapply (with_persistent (R := Kn m K KR) fun c _ => G'_intro m K KR c)
  isplitr
  · unfold Kn
    isplitr; · iexact HI
    isplitr; · iexact HR
    iexact HS
  unfold linear
  rw [bigSep_sep', bigSep_sep', bigSep_sep']
  isplitl [Hat]; · iexact Hat
  isplitl [Htok]; · iexact Htok
  isplitl [HG]; · iexact HG
  iexact Hl

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) := by
  exact ((bigSep_mono fun (c : Dev nD) (_ : c ∈ Finset.univ) => core_alloc (F := F) m c).trans (bigSep_fupd _ _)).trans
    ((BI.fupd_mono (regroup m)).trans BI.fupd_trans)

end Deal

/-! ## The launch's credits -/

theorem payD_inv (k : ℕ) (c : Dev nD) : payD (if payR k then prv c else nxt c) k = c := by
  unfold payD; by_cases h : payR k = true
  · rw [if_pos h, if_pos h, nxt_prv]
  · rw [if_neg h, if_neg h, prv_nxt]
theorem payD_inv' (k : ℕ) (d : Dev nD) : (if payR k then prv (payD d k) else nxt (payD d k)) = d := by
  unfold payD; by_cases h : payR k = true
  · rw [if_pos h, if_pos h, prv_nxt]
  · rw [if_neg h, if_neg h, nxt_prv]

theorem pay_cred (k : ℕ) (c : Dev nD) :
    (Pipeline.launchCred (fun d => tallyAt (kcell (payD d k) (payS k)) (payI k) (payA k)) c : sProp 𝕄) ⊢ cred (tallyAt (kcell c (payS k)) (payI k) (payA k)) :=
  Pipeline.launchCred_tallyAt (csem (payS k)) (fun d => payD d k) (fun d => if payR k then prv d else nxt d) (payD_inv k) (payD_inv' k) (payI k) (payA k) c

/-- The credits for the payments below `n`. -/
def crs (c : Dev nD) : ℕ → sProp 𝕄
  | 0 => iprop(emp)
  | k + 1 => iprop(crs c k ∗ cred (tallyAt (kcell c (payS k)) (payI k) (payA k)))

theorem crs_intro (c : Dev nD) (n : ℕ) : (Pipeline.launchCred (fun d => Od d n) c : sProp 𝕄) ⊢ crs c n := by
  induction n with
  | zero => exact Entails.of_eq (Pipeline.launchCred_zero c)
  | succ k ih =>
    exact (Entails.of_eq (Pipeline.launchCred_add (fun d => Od d k) (fun d => tallyAt (kcell (payD d k) (payS k)) (payI k) (payA k)) c)).trans
      (BI.sep_mono ih (pay_cred k c))

/-- What a device is paid. -/
def Crs (c : Dev nD) : sProp 𝕄 :=
  iprop(cred (tallyAt (kcell c 0) 0 2) ∗ crd c 6 ∗ crd c 13 ∗ crd c 7 ∗ crd c 14 ∗ cred (tallyAt (kcell c 1) 0 1) ∗ crd c 8 ∗ crd c 15
    ∗ cred (tallyAt (kcell c 1) 1 1) ∗ crd c 9)

theorem crs_all (c : Dev nD) : crs (F := F) c 11 = iprop((((((((((((emp ∗ crd c 9) ∗ cred (tallyAt (kcell c 1) 1 1)) ∗ crd c 15) ∗ crd c 8) ∗ cred (tallyAt (kcell c 1) 0 1)) ∗ crd c 14)
    ∗ crd c 7) ∗ crd c 13) ∗ crd c 6) ∗ cred (tallyAt (kcell c 0) 0 1)) ∗ cred (tallyAt (kcell c 0) 0 1))) := rfl

theorem creds (c : Dev nD) : (Pipeline.launchCred (fun d => Od d 11) c : sProp 𝕄) ⊢ Crs c := by
  refine (crs_intro c 11).trans ?_
  rw [crs_all]
  unfold Crs
  have h2 : iprop(cred (tallyAt (kcell c 0) 0 1) ∗ cred (tallyAt (kcell c 0) 0 1)) ⊢ (cred (tallyAt (kcell c 0) 0 2) : sProp 𝕄) := by
    rw [show (tallyAt (kcell c 0) 0 2 : CellTallies nD τ sig ℕ) = tallyAt (kcell c 0) 0 1 + tallyAt (kcell c 0) 0 1 from (tallyAt_add (kcell c 0) (0 : ℕ) 1 1).symm]
    exact (cred_add _ _).2
  iintro ⟨⟨⟨⟨⟨⟨⟨⟨⟨⟨⟨-, C9⟩, D1⟩, C15⟩, C8⟩, D0⟩, C14⟩, C7⟩, C13⟩, C6⟩, B0⟩, B1⟩
  isplitl [B0 B1]
  · iapply h2; isplitl [B0] <;> iassumption
  isplitl [C6]; · iexact C6
  isplitl [C13]; · iexact C13
  isplitl [C7]; · iexact C7
  isplitl [C14]; · iexact C14
  isplitl [D0]; · iexact D0
  isplitl [C8]; · iexact C8
  isplitl [C15]; · iexact C15
  isplitl [D1]; · iexact D1
  iexact C9

end Cert.RingProof
-- ==== Proof.Launch.lean ====
/-
The launch: from any memory with zero counters, every execution of the program on the eight devices ends with each
device's result block at the contents its part computes, its arguments as they were and every counter at zero.
-/
module

public import proofs.«01_k».proof.Proof.Deal

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat BodyObligation)

variable (m : (ℓ : Loc nD τ sig) → Buf (Elt F) ℓ) (ρ : Dev nD → PrngReg)

/-- The memory at launch. -/
def s₀ : MemSt nD τ sig (Elt F) := ⟨m, fun _ => 0, ρ⟩

def xstg (c : Dev nD) : (cc0_stg0_0 : Ref sig .tc).ty.Contents (Elt F) :=
  (win0_0.blk (0 : Fin 1)).view.read (Elt F) ((s₀ m ρ).mem ((tc c).loc main_arg0))
def outAt (c : Dev nD) : (cc0_stg1_0 : Ref sig .tc).ty.Contents (Elt F) := outB m c (xstg m ρ c)

/-- The arguments that are no window's array. -/
def argsM (c : Dev nD) : sProp 𝕄 :=
  iprop(((tc c).loc main_arg1 ↦{fullShare} m ((tc c).loc main_arg1)) ∗ ((tc c).loc main_arg2 ↦{fullShare} m ((tc c).loc main_arg2))
    ∗ ((tc c).loc main_arg3 ↦{fullShare} m ((tc c).loc main_arg3)) ∗ ((tc c).loc main_arg4 ↦{fullShare} m ((tc c).loc main_arg4)))

/-- The scratch buffers at some contents. -/
def scr (c : Dev nD) : sProp 𝕄 :=
  iprop((∃ f : Buf (Elt F) ((tc c).loc cc0_scratch0), (tc c).loc cc0_scratch0 ↦{fullShare} f) ∗ (∃ f : Buf (Elt F) ((tc c).loc cc0_scratch1), (tc c).loc cc0_scratch1 ↦{fullShare} f)
    ∗ (∃ f : Buf (Elt F) ((tc c).loc cc0_scratch2), (tc c).loc cc0_scratch2 ↦{fullShare} f) ∗ (∃ f : Buf (Elt F) ((tc c).loc cc0_scratch3), (tc c).loc cc0_scratch3 ↦{fullShare} f)
    ∗ (∃ f : Buf (Elt F) ((tc c).loc cc0_scratch4), (tc c).loc cc0_scratch4 ↦{fullShare} f) ∗ (∃ f : Buf (Elt F) ((tc c).loc cc0_scratch5), (tc c).loc cc0_scratch5 ↦{fullShare} f))

/-- What a device's part starts from. -/
def start (c : Dev nD) : sProp 𝕄 := iprop(G' m c ∗ Crs c ∗ levAts L lv ∗ argsM m c)
def Φ₀ (c : Dev nD) : sProp 𝕄 := iprop(start m c ∗ scr c)
/-- What it ends with. -/
def Φ₁ (c : Dev nD) : sProp 𝕄 := iprop(scr c ∗ (zro c 0 ∗ StZ1 c ∗ StZ2 c ∗ StZ3 c ∗ StZ4 c) ∗ locSems c ∗ argsM m c)

def dats (_ : Fin 1) (c : Dev nD) : Dat τ (Elt F) ℕ ℕ UU ℕ cfg0 c where
  A w := (s₀ m ρ).mem ((cfg0.win w).arr.view.loc (tc c))
  after w _ := match w with
    | ⟨0, _⟩ => xstg m ρ c
    | ⟨1, _⟩ => outAt m ρ c
  Φ t := match t with
    | ⟨0, _⟩ => Φ₀ m c
    | ⟨_ + 1, _⟩ => Φ₁ m c
  q _ := fullShare
  owed t := match t with
    | ⟨0, _⟩ => Od c 11
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

theorem owns_whole_eq (c : Dev nD) (b : Ref sig .tc) (X : b.ty.Contents (Elt F)) :
    (owns (Ix := ℕ) (Name := ℕ) (U := UU) (Lvl := ℕ) (tc c) (Memref.whole b) fullShare X : sProp 𝕄)
      = iprop(∃ f : Buf (Elt F) ((tc c).loc b), ⌜f = X⌝ ∗ ((tc c).loc b ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((tc c).loc b), ⌜f = X⌝ ∗ ((tc c).loc b ↦{fullShare} f))

/-! ## A device's part starts -/

set_option maxRecDepth 8000 in
theorem payToks_split (c : Dev nD) : payToks (F := F) c ⊢ iprop(tok (prv c) 0 false ∗ tok (nxt c) 0 true ∗ tok (prv c) 1 false ∗ tok (prv c) 1 true
    ∗ tok c 2 ∗ tok c 3 ∗ tok c 4 ∗ tok c 5 ∗ tok (nxt c) 6 ∗ tok (nxt c) 7 ∗ tok (nxt c) 8 ∗ tok (nxt c) 9 ∗ tok c 10 ∗ tok c 11 ∗ tok c 12
    ∗ tok (prv c) 13 ∗ tok (prv c) 14 ∗ tok (prv c) 15) := by
  unfold payToks
  rw [bigSep_univ_prod, bigSep_sixteen]
  simp only [bigSep_bool]
  iintro ⟨⟨A0, B0⟩, ⟨A1, B1⟩, ⟨A2, -⟩, ⟨A3, -⟩, ⟨A4, -⟩, ⟨A5, -⟩, ⟨A6, -⟩, ⟨A7, -⟩, ⟨A8, -⟩, ⟨A9, -⟩, ⟨A10, -⟩, ⟨A11, -⟩, ⟨A12, -⟩, ⟨A13, -⟩, ⟨A14, -⟩, ⟨A15, -⟩⟩
  isplitl [A0]; · iexact A0
  isplitl [B0]; · iexact B0
  isplitl [A1]; · iexact A1
  isplitl [B1]; · iexact B1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  iexact A15

theorem start_pre (c : Dev nD) (xs : Buf (Elt F) (mI.view.loc (tc c))) :
    iprop(linear c ∗ Crs c ∗ argsM m c ∗ scr c ∗ Ow c (Od c 11) ∗ (mI.view.loc (tc c) ↦{fullShare} xs) ∗ (∃ f, mO.view.loc (tc c) ↦{fullShare} f)) ⊢ PreB m c xs := by
  unfold linear Crs argsM scr slotGh locSems PreB StT0 StT1 StT2 StT3 StT4
  rw [bigSep_sixteen, bigSep_two, bigSep_two]
  iintro ⟨⟨⟨P0, P1, P2, P3, P4, P5, P6, P7, P8, P9, P10, P11, P12, P13, P14, P15⟩, HT, ⟨⟨R0, R1⟩, W0, W1⟩, HL⟩, ⟨CB, C6, C13, C7, C14, D0, C8, C15, D1, C9⟩, HA, HS, HO, HI, Hout⟩
  ihave HT := (payToks_split c) $$ HT
  icases HT with ⟨TA, TB, TC, TD, T2, T3, T4, T5, T6, T7, T8, T9, T10, T11, T12, T13, T14, T15⟩
  isplitl [HO]; · iexact HO
  isplitl [TA]; · iexact TA
  isplitl [TB]; · iexact TB
  isplitl [P0]; · iexact P0
  isplitl [CB]; · iexact CB
  isplitl [T2 T6 T10 T13 P6 C6 P13 C13 P2 P10 T3 T7 T11 T14 TC R0 P7 C7 P14 C14 P3 P11 P1 D0 W0 T4 T8 T12 T15 TD R1 P8 C8 P15 C15 P4 P12 D1 W1 T5 T9 P9 C9 P5]
  · isplitl [T2 T6 T10 T13]
    · isplitl [T2]; · iexact T2
      isplitl [T6]; · iexact T6
      isplitl [T10]; · iexact T10
      iexact T13
    isplitl [P6 C6 P13 C13 P2 P10 T3 T7 T11 T14 TC R0]
    · isplitl [P6]; · iexact P6
      isplitl [C6]; · iexact C6
      isplitl [P13]; · iexact P13
      isplitl [C13]; · iexact C13
      isplitl [P2]; · iexact P2
      isplitl [P10]; · iexact P10
      isplitl [T3]; · iexact T3
      isplitl [T7]; · iexact T7
      isplitl [T11]; · iexact T11
      isplitl [T14]; · iexact T14
      isplitl [TC]; · iexact TC
      iexact R0
    isplitl [P7 C7 P14 C14 P3 P11 P1 D0 W0 T4 T8 T12 T15 TD R1]
    · isplitl [P7]; · iexact P7
      isplitl [C7]; · iexact C7
      isplitl [P14]; · iexact P14
      isplitl [C14]; · iexact C14
      isplitl [P3]; · iexact P3
      isplitl [P11]; · iexact P11
      isplitl [P1]; · iexact P1
      isplitl [D0]; · iexact D0
      isplitl [W0]; · iexact W0
      isplitl [T4]; · iexact T4
      isplitl [T8]; · iexact T8
      isplitl [T12]; · iexact T12
      isplitl [T15]; · iexact T15
      isplitl [TD]; · iexact TD
      iexact R1
    isplitl [P8 C8 P15 C15 P4 P12 D1 W1 T5 T9]
    · isplitl [P8]; · iexact P8
      isplitl [C8]; · iexact C8
      isplitl [P15]; · iexact P15
      isplitl [C15]; · iexact C15
      isplitl [P4]; · iexact P4
      isplitl [P12]; · iexact P12
      isplitl [D1]; · iexact D1
      isplitl [W1]; · iexact W1
      isplitl [T5]; · iexact T5
      iexact T9
    isplitl [P9]; · iexact P9
    isplitl [C9]; · iexact C9
    iexact P5
  isplitl [HS]; · iexact HS
  isplitl [HL]; · iexact HL
  isplitl [HA]; · iexact HA
  isplitl [HI]; · iexact HI
  iexact Hout

/-! ## The pipeline's obligation -/

set_option maxRecDepth 4000 in
def bodyPre' (c : Dev nD) : sProp 𝕄 :=
  iprop(Φ₀ m c ∗ (dats m ρ 0 c).owesAt (0 : ℕ) t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m c ∗ (dats m ρ 0 c).owesAt (0 : ℕ) t₀.succ ∗ stg c cc0_stg0_0 (xstg m ρ c) ∗ stg c cc0_stg1_0 (outAt m ρ c))

theorem post_intro (c : Dev nD) : PostB m c (xstg m ρ c) ⊢ bodyPost m ρ c := by
  unfold PostB bodyPost Φ₁ scr locSems argsM Ow
  iintro ⟨⟨%W, HO⟩, HS, HZ, HL, HA, HI, Hout⟩
  isplitl [HS HZ HL HA]
  · isplitl [HS]; · iexact HS
    isplitl [HZ]; · iexact HZ
    isplitl [HL]; · iexact HL
    iexact HA
  isplitl [HO]
  · unfold Dat.owesAt Pipeline.owesWithin
    rw [show (dats m ρ 0 c).owed t₀.succ = Od c 0 from rfl]
    iexists W
    isplitr
    · ipureintro; exact fun _ _ => Or.inl trivial
    iexact HO
  isplitl [HI]
  · iexists (xstg m ρ c); isplitr; · (ipureintro; rfl)
    iexact HI
  iexists (outAt m ρ c); isplitr; · (ipureintro; rfl)
  iexact Hout

theorem body_pre (c : Dev nD) : bodyPre' m ρ c ⊢ iprop(∃ K KR, Env m K KR ∗ PreB m c (xstg m ρ c)) := by
  unfold bodyPre' Φ₀ start G'
  iintro ⟨⟨⟨⟨⟨%K, %KR, #HK⟩, HL⟩, HC, #Hlev, HA⟩, HS⟩, Ho, ⟨%d, %g0, %hg0, HI⟩, ⟨%d', %g1, %hg1, Hout⟩⟩
  have hx : g0 = xstg m ρ c := by
    rw [hg0]; unfold Dat.before; rw [if_pos (fetch_0 t₀)]; rfl
  subst hx
  iexists K, KR
  isplitr
  · unfold Env Kn
    icases HK with ⟨H1, H2, H3⟩
    isplitr; · iexact H1
    isplitr; · iexact H2
    isplitr; · iexact H3
    iexact Hlev
  iapply (start_pre m c (xstg m ρ c))
  isplitl [HL]; · iexact HL
  isplitl [HC]; · iexact HC
  isplitl [HA]; · iexact HA
  isplitl [HS]; · iexact HS
  isplitl [Ho]
  · unfold Dat.owesAt Pipeline.owesWithin
    icases Ho with ⟨%W, %hW, HO⟩
    rw [show (dats m ρ 0 c).owed t₀.castSucc = Od c 11 from rfl]
    unfold Ow; iexists W; iexact HO
  isplitl [HI]; · iexact HI
  iexists g1; iexact Hout

set_option maxRecDepth 4000 in
theorem body_obligation (c : Dev nD) : BodyObligation (dats (F := F) m ρ 0 c) (defs₀ (F := F)) 𝒱₀ (0 : ℕ) Set.univ := fun t => by
  rw [fin_N t]
  rw [bigSep_W, bigSep_W]
  simp only [owns_whole_eq]
  show bodyPre' m ρ c ⊢ wp frame (wpE (defs₀ (F := F)) 𝒱₀ (tc c) none) Set.univ
    (cc0_body (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) (fun _ => bodyPost m ρ c)
  iintro H
  ihave H := (body_pre m ρ c) $$ H
  icases H with ⟨%K, %KR, H⟩
  iapply ((body_run m K KR c (xstg m ρ c)).trans (wp_mono _ _ _ fun _ => post_intro m ρ c))
  iexact H

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((tc c).loc b)) ∗ levAts L lv
        ∗ Pipeline.launchCred (fun d => Od d 11) c ∗ prngReg c (ρ c) ∗ G' m c)
      ⊢ |={Set.univ}=> iprop(start m c ∗ emp) := by
  rw [Pipeline.unscopedRestP_none, show cfg0.spec = spec0 from rfl, unscopedRest0_eq]
  iintro ⟨HA, Hlev, Hcr, -, HG⟩
  ihave Hc := (creds (F := F) c) $$ Hcr
  imodintro
  unfold start argsM
  isplitl
  · isplitl [HG]; · iexact HG
    isplitl [Hc]; · iexact Hc
    isplitl [Hlev]; · iexact Hlev
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop((unscopedSems0 c ∗ argsM m c) ∗ Pipeline.ownSems0 osem c ∗ Pipeline.scopedRest cfg0.spec c) := by
  rw [show (dats m ρ 0 c).Φ (Fin.last cfg0.N) = Φ₁ m c from rfl, show cfg0.spec = spec0 from rfl, scopedRest0_eq]
  unfold Φ₁ scr
  iintro ⟨Hr, HZ, HL, HA⟩
  ihave H := (sems_back c) $$ [HZ HL]
  · isplitl [HZ] <;> iassumption
  icases H with ⟨Hu, Ho⟩
  isplitl [Hu HA]
  · isplitl [Hu] <;> iassumption
  isplitl [Ho]; · iexact Ho
  iexact Hr

theorem waits (c : Dev nD) : (levAts L lv : sProp 𝕄) ⊢ Pipeline.cellsWaits cfgs (dats m ρ) (0 : ℕ) 0 c :=
  Pipeline.cellsWaits_intro cfgs (dats m ρ) (0 : ℕ) 0 c fun w s t => by
    rcases t with ⟨_ | _, ht⟩
    · exact mayWait_local c _ (by right; revert s; revert w; decide +kernel) 11 le_rfl
    · exact mayWait_local c _ (by right; revert s; revert w; decide +kernel) 0 (Nat.zero_le _)

theorem args_read (c : Dev nD) (s' : Phys nD τ sig (Elt F)) :
    iprop(argsM m c ∗ SI s') ⊢ (iprop(⌜s'.mem.mem ((tc c).loc main_arg1) = m ((tc c).loc main_arg1) ∧ s'.mem.mem ((tc c).loc main_arg2) = m ((tc c).loc main_arg2)
      ∧ s'.mem.mem ((tc c).loc main_arg3) = m ((tc c).loc main_arg3) ∧ s'.mem.mem ((tc c).loc main_arg4) = m ((tc c).loc main_arg4)⌝ ∗ SI s') : sProp 𝕄) := by
  unfold argsM
  iintro ⟨⟨H1, H2, H3, H4⟩, HSI⟩
  icombine HSI H1 gives %h1
  icombine HSI H2 gives %h2
  icombine HSI H3 gives %h3
  icombine HSI H4 gives %h4
  isplitr
  · ipureintro
    exact ⟨Buf.eq_of_forall_mem_univ h1, Buf.eq_of_forall_mem_univ h2, Buf.eq_of_forall_mem_univ h3, Buf.eq_of_forall_mem_univ h4⟩
  iexact HSI

/-! ## The run -/

def finalA (c : Dev nD) (w : Fin cfg0.W) : Buf (Elt F) ((cfg0.win w).arr.view.loc (tc c)) := (dats m ρ 0 c).arrAt w cfg0.N

/-- What is read of a final state. -/
def QC (s : MemSt nD τ sig (Elt F)) : Prop :=
  (∀ c : Dev nD, (∀ w : Fin cfg0.W, s.mem ((cfg0.win w).arr.view.loc (tc c)) = finalA m ρ c w)
    ∧ s.mem ((tc c).loc main_arg1) = m ((tc c).loc main_arg1) ∧ s.mem ((tc c).loc main_arg2) = m ((tc c).loc main_arg2)
    ∧ s.mem ((tc c).loc main_arg3) = m ((tc c).loc main_arg3) ∧ s.mem ((tc c).loc main_arg4) = m ((tc c).loc main_arg4))
  ∧ s.sem = fun _ => 0

set_option maxRecDepth 8000 in
theorem run_main : θ_run defs (onTc (τ := τ) (main (F := F))) (s₀ m ρ) (fun r => QC m ρ r.2) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => Od d 11) (howed₀ := fun _ => rfl) (howedN := fun _ => rfl)
    (L := L) (lv := lv) (hL := L_of_ne) (hwaits := waits m ρ)
    (G := G m) (G' := G' m) (u₀ := u₀) (hu₀ := by
      iintro H
      imod (hu₀_deal m) $$ H with H
      imodintro
      iexact H)
    (hglob := glob m)
    (hA := fun _ _ => rfl) (hpf := fun _ k => k.elim0)
    (X := start m) (Y := fun c => iprop(unscopedSems0 c ∗ argsM m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((tc c).loc main_arg1) = m ((tc c).loc main_arg1) ∧ s.mem ((tc c).loc main_arg2) = m ((tc c).loc main_arg2)
      ∧ s.mem ((tc c).loc main_arg3) = m ((tc c).loc main_arg3) ∧ s.mem ((tc c).loc main_arg4) = m ((tc c).loc main_arg4))
    (hY := fun c s' => by
      iintro ⟨⟨Hu, HA⟩, -, HSI⟩
      ihave H := (args_read m c s') $$ [HA HSI]
      · isplitl [HA] <;> iassumption
      icases H with ⟨%hA, HSI⟩
      imod (Pipeline.unscopedSems0_read (X := unscopedSems0 c) (c := c) fupd_intro s') $$ [Hu HSI] with H
      · isplitl [Hu] <;> iassumption
      icases H with ⟨%hS, HSI⟩
      imodintro
      isplitr
      · ipureintro; exact ⟨hS, hA⟩
      iexact HSI)
    (hQ := fun _ h hs => ⟨fun c => ⟨fun w => (h c).1 w, (h c).2.2.2⟩, sem_eq_zero hs fun c => (h c).2.2.1⟩)

/-- The argument that is a window's array holds what it held. -/
theorem finalA_x (c : Dev nD) : finalA m ρ c (0 : Fin 2) = m ((tc c).loc main_arg0) :=
  (dats (F := F) m ρ 0 c).arrAt_in (0 : Fin 2) rfl _

end Cert.RingProof
-- ==== Proof.KernelValue.lean ====
/- The kernel's result at an index. -/
module

public import proofs.«01_k».proof.Proof.Launch
public import Idealize.ShloMosaic.Lib.Pointwise
public import Idealize.ShloMosaic.Lib.IdealHost

@[expose] public section

set_option maxRecDepth 16384

noncomputable section

namespace Cert.RingProof

open Cert.KernelIdeal Cert.KernelIdeal.Gen
open Idealize.ShloMosaic
open Idealize.ShloMosaic.TcCoe

/-! ## The payloads at an index -/

/-- The row a position is regrped to. -/
def regrp (p : Fin 1024) : Fin 1024 := ⟨p.val / 64 % 4 * 256 + p.val / 256 * 64 + p.val % 64, by omega⟩

theorem pay1_at (v : Vec Ideal S1x1024x1024 .f32) (p k : Fin 1024) :
    k0_pay1 v (ix2 p k) = v (ix3 (0 : Fin 1) (regrp p) k) := by
  pointwise [k0_pay1]
  rfl

theorem pay5_at (v : Vec Ideal S1x1024x1024 .f32) (p k : Fin 1024) :
    k0_pay5 v (ix3 (0 : Fin 1) p k) = v (ix3 (0 : Fin 1) (regrp p) k) := by
  pointwise [k0_pay5]
  rfl

theorem pay2_at (p k : Fin 1024) : (k0_pay2 : FVec Ideal S1x1024x1024 .f32) (ix3 (0 : Fin 1) p k) = (0 : EReal) := by
  pointwise [k0_pay2]

theorem pay6_at (wq : FVec Ideal S1024x1024 .bf16) (xr : Vec Ideal S256x1024 .bf16) (i : Fin 256) (h : Fin 8) (d : Fin 128) :
    k0_pay6 wq xr (ix3 i h d) = (∑ k : Fin 1024, xr (ix2 i k) * wq (ix2 k ⟨h.val * 128 + d.val, by omega⟩))
      * Ideal.ofBits FTy.f32 0x3DB504F3#32 := by
  pointwise [k0_pay6]

theorem pay7_at (v : Vec Ideal S1x256x8x128 .f32) (i : Fin 256) (h : Fin 8) (d : Fin 128) :
    k0_pay7 v (ix3 i h d) = v (ix4 (0 : Fin 1) i h d) := by
  pointwise [k0_pay7]

theorem pay8_at (v : Vec Ideal S1x256x8x128 .f32) (i : Fin 256) (h : Fin 8) (d : Fin 128) :
    k0_pay8 v (ix3 i h d) = v (ix4 (0 : Fin 1) i h d) := by
  pointwise [k0_pay8]

theorem pay3_at (wo : FVec Ideal S1024x1024 .bf16) (q k v : FVec Ideal S256x8x128 .bf16) (o : Vec Ideal S1x256x1024 .f32)
    (i : Fin 256) (n : Fin 1024) :
    k0_pay3 wo q k v (constant S8x256x256 .f32 0x00000000#32) o (ix3 (0 : Fin 1) i n)
      = o (ix3 (0 : Fin 1) i n) + ∑ x : Fin 1024,
        (∑ l : Fin 256, Ideal.exp (∑ d : Fin 128, q (ix3 i ⟨x.val / 128, by omega⟩ d) * k (ix3 l ⟨x.val / 128, by omega⟩ d))
            * v (ix3 l ⟨x.val / 128, by omega⟩ ⟨x.val % 128, by omega⟩))
          * Ideal.div 1 (∑ l : Fin 256, Ideal.exp (∑ d : Fin 128, q (ix3 i ⟨x.val / 128, by omega⟩ d) * k (ix3 l ⟨x.val / 128, by omega⟩ d)))
          * wo (ix2 x n) := by
  pointwise [k0_pay3]

/-! ## A group's rows -/

theorem row_lt (g : Fin 4) (i : Fin 256) : 256 * g.val + i.val < 1024 := by omega

theorem rowsO_emb (g : Fin 4) (i : Fin 256) (n : Fin 1024) :
    (rowsO g).emb (ix3 (0 : Fin 1) i n) = (ix3 (0 : Fin 1) (⟨256 * g.val + i.val, by omega⟩ : Fin 1024) n : S1x1024x1024.Idx) := by
  funext a
  refine Fin.ext ?_
  show ((Rect.unit (s := S1x1024x1024) ![0, 256 * g.val, 0] S1x256x1024.size (orow_inb g)).emb (ix3 (0 : Fin 1) i n) a).val = _
  fin_cases a <;> simp [Rect.emb, Rect.unit, ix3]

theorem rowsX_emb (g : Fin 4) (i : Fin 256) (k : Fin 1024) :
    (rowsX g).emb (ix2 i k) = (ix2 (⟨256 * g.val + i.val, by omega⟩ : Fin 1024) k : S1024x1024.Idx) := by
  funext a
  refine Fin.ext ?_
  show ((Rect.unit (s := S1024x1024) ![256 * g.val, 0] S256x1024.size (xrow_inb g)).emb (ix2 i k) a).val = _
  fin_cases a <;> simp [Rect.emb, Rect.unit, ix2]

theorem rowsO_read (g : Fin 4) (o : FVec Ideal S1x1024x1024 .f32) (i : Fin 256) (n : Fin 1024) :
    (rowsO g).read (Elt Ideal) o (ix3 (0 : Fin 1) i n) = o (ix3 (0 : Fin 1) (⟨256 * g.val + i.val, by omega⟩ : Fin 1024) n) := by
  rw [View.read_apply, rowsO_emb]
  rfl

theorem rowsX_read (g : Fin 4) (x : FVec Ideal S1024x1024 .bf16) (i : Fin 256) (k : Fin 1024) :
    (rowsX g).read (Elt Ideal) x (ix2 i k) = x (ix2 (⟨256 * g.val + i.val, by omega⟩ : Fin 1024) k) := by
  rw [View.read_apply, rowsX_emb]
  rfl

theorem rowsO_write_hit (g : Fin 4) (o : FVec Ideal S1x1024x1024 .f32) (w : FVec Ideal S1x256x1024 .f32) (i : Fin 256) (n : Fin 1024) :
    (rowsO g).write (Elt Ideal) o w Finset.univ (ix3 (0 : Fin 1) (⟨256 * g.val + i.val, by omega⟩ : Fin 1024) n : S1x1024x1024.Idx)
      = w (ix3 (0 : Fin 1) i n) := by
  rw [← rowsO_emb, View.write_emb_of_mem _ _ (Finset.mem_univ _)]
  rfl

theorem rowsO_write_miss (g : Fin 4) (o : FVec Ideal S1x1024x1024 .f32) (w : FVec Ideal S1x256x1024 .f32) (r n : Fin 1024)
    (hr : r.val / 256 ≠ g.val) :
    (rowsO g).write (Elt Ideal) o w Finset.univ (ix3 (0 : Fin 1) r n : S1x1024x1024.Idx) = o (ix3 (0 : Fin 1) r n) := by
  refine View.write_of_not_mem _ _ _ fun hm => hr ?_
  obtain ⟨y, -, hy⟩ := Finset.mem_map.1 hm
  have h0 : y 0 = (0 : Fin 1) := Fin.ext (by have : (y 0).val < 1 := (y 0).isLt; show (y 0).val = 0; omega)
  have hy' : y = (ix3 (0 : Fin 1) (y 1 : Fin 256) (y 2 : Fin 1024) : S1x256x1024.Idx) := by
    rw [← h0]; exact eq_ix3 y
  have h1 := congrArg (fun i : S1x1024x1024.Idx => (i 1).val) (hy.symm.trans
    ((congrArg (rowsO g).emb hy').trans (rowsO_emb g (y 1) (y 2))))
  have h2 : r.val = 256 * g.val + (y 1).val := h1
  have h3 : (y 1).val < 256 := (y 1).isLt
  omega

/-! ## One device's contribution -/

section

variable (m : (ℓ : Loc nD τ sig) → Buf (Elt Ideal) ℓ) (c : Dev nD) (xg : FVec Ideal S1024x1024 .bf16)

/-- The score of regrped row `r` with key `l` of its group, in head `h` of device `j`. -/
def kscore (j : Fin 8) (r : Fin 1024) (h : Fin 8) (l : Fin 256) : EReal :=
  ∑ d : Fin 128, ((∑ k : Fin 1024, xg (ix2 r k) * wqv m j (ix2 k ⟨h.val * 128 + d.val, by omega⟩))
    * Ideal.ofBits FTy.f32 0x3DB504F3#32) * ldK m c j ⟨r.val / 256, by omega⟩ (ix4 (0 : Fin 1) l h d)

/-- What device `j`'s heads add to row `r` at column `n`. -/
def contrib (j : Fin 8) (r n : Fin 1024) : EReal :=
  ∑ x : Fin 1024, (∑ l : Fin 256, Ideal.exp (kscore m c xg j r ⟨x.val / 128, by omega⟩ l)
      * ldV m c j ⟨r.val / 256, by omega⟩ (ix4 (0 : Fin 1) l ⟨x.val / 128, by omega⟩ ⟨x.val % 128, by omega⟩))
    * Ideal.div 1 (∑ l : Fin 256, Ideal.exp (kscore m c xg j r ⟨x.val / 128, by omega⟩ l)) * wov m j (ix2 x n)

theorem grpStep_hit (j : Fin 8) (g : Fin 4) (o : FVec Ideal S1x1024x1024 .f32) (r n : Fin 1024) (hr : r.val / 256 = g.val) :
    grpStep m c j xg (wqv m j) (wov m j) g o (ix3 (0 : Fin 1) r n : S1x1024x1024.Idx) = (o (ix3 (0 : Fin 1) r n) : EReal) + contrib m c xg j r n := by
  obtain ⟨i, hi⟩ : ∃ i : Fin 256, r = (⟨256 * g.val + i.val, row_lt g i⟩ : Fin 1024) :=
    ⟨⟨r.val % 256, by omega⟩, Fin.ext (by show _ = 256 * g.val + r.val % 256; omega)⟩
  subst hi
  unfold grpStep
  have hg : (⟨(256 * g.val + i.val) / 256, by omega⟩ : Fin 4) = g := Fin.ext (by show (256 * g.val + i.val) / 256 = g.val; omega)
  rw [rowsO_write_hit, pay3_at, rowsO_read]
  unfold contrib kscore
  simp only [pay6_at, pay7_at, pay8_at, rowsX_read, hg]

theorem grpStep_miss (j : Fin 8) (g : Fin 4) (o : FVec Ideal S1x1024x1024 .f32) (r n : Fin 1024) (hr : r.val / 256 ≠ g.val) :
    grpStep m c j xg (wqv m j) (wov m j) g o (ix3 (0 : Fin 1) r n : S1x1024x1024.Idx) = o (ix3 (0 : Fin 1) r n) := by
  unfold grpStep
  exact rowsO_write_miss g o _ r n hr

theorem outAfter_at (j : Fin 8) (o : FVec Ideal S1x1024x1024 .f32) (r n : Fin 1024) :
    ∀ k, k ≤ 4 → outAfter m c j xg (wqv m j) (wov m j) o k (ix3 (0 : Fin 1) r n : S1x1024x1024.Idx)
      = if r.val / 256 < k then (o (ix3 (0 : Fin 1) r n) : EReal) + contrib m c xg j r n else o (ix3 (0 : Fin 1) r n) := by
  intro k
  induction k with
  | zero => intro _; rw [if_neg (by omega)]; rfl
  | succ k ih =>
    intro hk
    have hs : outAfter m c j xg (wqv m j) (wov m j) o (k + 1)
        = grpStep m c j xg (wqv m j) (wov m j) ⟨k, by omega⟩ (outAfter m c j xg (wqv m j) (wov m j) o k) := by
      rw [outAfter, dif_pos (by omega)]
    rw [hs]
    by_cases hr : r.val / 256 = k
    · refine (grpStep_hit m c xg j ⟨k, by omega⟩ _ r n hr).trans ?_
      rw [ih (by omega), if_neg (by omega), if_pos (by omega)]
    · refine (grpStep_miss m c xg j ⟨k, by omega⟩ _ r n hr).trans ?_
      rw [ih (by omega)]
      by_cases h : r.val / 256 < k
      · rw [if_pos h, if_pos (by omega)]
      · rw [if_neg h, if_neg (by omega)]

theorem addDev_at (j : Fin 8) (o : FVec Ideal S1x1024x1024 .f32) (r n : Fin 1024) :
    addDev m c xg j o (ix3 (0 : Fin 1) r n : S1x1024x1024.Idx) = (o (ix3 (0 : Fin 1) r n) : EReal) + contrib m c xg j r n := by
  unfold addDev
  rw [outAfter_at m c xg j o r n 4 le_rfl, if_pos (by omega)]

/-- The order the contributions are added in takes every device once. -/
theorem ring_perm : ∀ c : Fin 8, [bk 0 c, bk 1 c, fw 1 c, bk 2 c, fw 2 c, bk 3 c, fw 3 c, bk 4 c].Perm (List.finRange 8) := by
  decide +kernel

theorem ring_sum (f : Fin 8 → EReal) : 0 + f (bk 0 c) + f (bk 1 c) + f (fw 1 c) + f (bk 2 c) + f (fw 2 c) + f (bk 3 c) + f (fw 3 c) + f (bk 4 c)
    = ∑ j, f j := by
  rw [Fin.sum_univ_def, ← ((ring_perm c).map f).sum_eq]
  simp only [List.map, List.sum_cons, List.sum_nil, add_zero, zero_add, add_assoc]

theorem acc5_at (r n : Fin 1024) : acc5 m c xg (ix3 (0 : Fin 1) r n : S1x1024x1024.Idx) = ∑ j : Fin 8, contrib m c xg j r n := by
  rw [← ring_sum c]
  unfold acc5 acc4 acc3 acc2 acc1 acc0
  rw [addDev_at, addDev_at, addDev_at, addDev_at, addDev_at, addDev_at, addDev_at, addDev_at, pay2_at]

/-- The kernel's result on device `c` at an index. -/
theorem outB_at (xs : FVec Ideal S1x1024x1024 .f32) (p n : Fin 1024) :
    outB m c xs (ix3 (0 : Fin 1) p n) = ∑ j : Fin 8, contrib m c (k0_pay1 xs) j (regrp p) n := by
  unfold outB
  rw [pay5_at]
  exact acc5_at m c _ _ _

end

end Cert.RingProof
-- ==== Proof.SoftRow.lean ====
/-
  A row of a softmax restricted to a class of columns, over the extended reals.

  One side takes every column, gives the columns outside of the class the score `⊥`, subtracts the row's greatest
  score and divides each exponential by the row's sum. The other side takes the columns of the class alone, subtracts
  nothing and multiplies by the reciprocal at the end. The scores are real; the values are any extended reals.
-/
module

public import Idealize.ShloMosaic.Lib.IdealHost

@[expose] public section

noncomputable section

open Idealize.ShloMosaic
open scoped BigOperators

namespace Cert.SoftRow

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A number that is neither infinity is real. -/
theorem real_of (x : EReal) (h : ⊥ < x ∧ x < ⊤) : ∃ r : ℝ, x = (r : EReal) :=
  ⟨x.toReal, (EReal.coe_toReal h.2.ne h.1.ne').symm⟩

/-- Scaling the projected row before its products with a key, or the score after them, is one real number. -/
theorem score {κ δ : Type} [Fintype κ] [Fintype δ] (X : κ → EReal) (W : κ → δ → EReal) (K : δ → EReal) (S : EReal)
    (hX : ∀ k, ∃ r : ℝ, X k = r) (hW : ∀ k d, ∃ r : ℝ, W k d = r) (hK : ∀ d, ∃ r : ℝ, K d = r) (hS : ∃ r : ℝ, S = r) :
    ∃ r : ℝ, (∑ d, ((∑ k, X k * W k d) * S) * K d) = r ∧ (∑ d, (∑ k, X k * W k d) * K d) * S = r := by
  choose X' hX using hX
  choose W' hW using hW
  choose K' hK using hK
  obtain ⟨S', rfl⟩ := hS
  refine ⟨∑ d, ((∑ k, X' k * W' k d) * S') * K' d, ?_, ?_⟩
  · simp only [hX, hW, hK, ← EReal.coe_mul, coe_sum]
  · simp only [hX, hW, hK, ← EReal.coe_mul, coe_sum]
    rw [EReal.coe_eq_coe_iff, Finset.sum_mul]
    exact Finset.sum_congr rfl fun d _ => by ring

/-- A sum whose terms outside of the class are zero is the class's sum. -/
theorem sum_class {N M : ℕ} (P : Fin N → Prop) [DecidablePred P] (γ : Fin M → Fin N) (hγ : Function.Injective γ)
    (hP : ∀ q, P q ↔ ∃ k, γ k = q) (f : Fin N → EReal) : (∑ q, if P q then f q else 0) = ∑ k, f (γ k) := by
  classical
  rw [← Finset.sum_filter, ← Finset.sum_image (f := f) (s := Finset.univ) (g := γ) (fun a _ b _ h => hγ h)]
  refine Finset.sum_congr ?_ fun _ _ => rfl
  ext q
  simp [hP]

/-- The two readings of a row agree. -/
theorem row {N M : ℕ} (P : Fin N → Prop) [DecidablePred P] (γ : Fin M → Fin N) (hγ : Function.Injective γ)
    (hP : ∀ q, P q ↔ ∃ k, γ k = q) (k₀ : Fin M) (s : Fin N → ℝ) (V : Fin N → EReal) (ms : Fin N → EReal)
    (hms : ∀ q, ms q = if P q then (s q : EReal) else ⊥) :
    (∑ q, V q * Ideal.div (Ideal.exp (ms q - Finset.univ.fold max ⊥ ms))
        (∑ q', Ideal.exp (ms q' - Finset.univ.fold max ⊥ ms)))
      = (∑ k, Ideal.exp (s (γ k) : EReal) * V (γ k)) * Ideal.div 1 (∑ k, Ideal.exp (s (γ k) : EReal)) := by
  classical
  obtain ⟨M', hM⟩ : ∃ r : ℝ, Finset.univ.fold max ⊥ ms = (r : EReal) := by
    refine real_of _ ⟨?_, ?_⟩
    · refine lt_of_lt_of_le (EReal.bot_lt_coe (s (γ k₀))) ((Finset.le_fold_max _).2 (Or.inr ⟨γ k₀, Finset.mem_univ _, ?_⟩))
      rw [hms, if_pos ((hP _).2 ⟨k₀, rfl⟩)]
    · refine (Finset.fold_max_lt _).2 ⟨bot_lt_top, fun q _ => ?_⟩
      rw [hms]
      split_ifs
      · exact EReal.coe_lt_top _
      · exact bot_lt_top
  have he : ∀ q, Ideal.exp (ms q - (M' : EReal)) = if P q then ((Real.exp (s q - M') : ℝ) : EReal) else 0 := by
    intro q
    rw [hms]
    split_ifs
    · rw [← EReal.coe_sub, Ideal.exp_coe]
    · rw [EReal.bot_sub]; exact Ideal.exp_bot
  have hpos : ∀ t : Fin M → ℝ, 0 < ∑ k, Real.exp (t k) := fun t =>
    Finset.sum_pos (fun k _ => Real.exp_pos _) ⟨k₀, Finset.mem_univ _⟩
  have hZ' := hpos fun k => s (γ k)
  have hZ := hpos fun k => s (γ k) - M'
  rw [hM]
  simp only [he]
  rw [sum_class P γ hγ hP (fun q => ((Real.exp (s q - M') : ℝ) : EReal)), coe_sum]
  have hl : ∀ q, V q * Ideal.div (if P q then ((Real.exp (s q - M') : ℝ) : EReal) else 0)
        ((∑ k, Real.exp (s (γ k) - M') : ℝ) : EReal)
      = if P q then V q * ((Real.exp (s q - M') * (1 / ∑ k, Real.exp (s (γ k) - M')) : ℝ) : EReal) else 0 := by
    intro q
    rw [Ideal.div_coe hZ.ne']
    split_ifs
    · rw [EReal.coe_mul]
    · rw [zero_mul, mul_zero]
  rw [Finset.sum_congr rfl fun q _ => hl q,
    sum_class P γ hγ hP (fun q => V q * ((Real.exp (s q - M') * (1 / ∑ k, Real.exp (s (γ k) - M')) : ℝ) : EReal))]
  simp only [Ideal.exp_coe]
  rw [coe_sum, Ideal.div_coe hZ'.ne', one_mul, sum_mul_coe _ _ _ (by positivity)]
  refine Finset.sum_congr rfl fun k _ => ?_
  rw [mul_comm (Real.exp _ : EReal) (V _), mul_assoc, ← EReal.coe_mul]
  congr 2
  have hS : (∑ k, Real.exp (s (γ k) - M')) = (∑ k, Real.exp (s (γ k))) * Real.exp (-M') := by
    rw [Finset.sum_mul]
    exact Finset.sum_congr rfl fun k _ => by rw [← Real.exp_add, sub_eq_add_neg]
  rw [hS, sub_eq_add_neg, Real.exp_add]
  have := Real.exp_pos (-M')
  field_simp

end Cert.SoftRow
-- ==== Proof.RefValue.lean ====
/- The reference's result at an index. -/
module

public import proofs.«01_k».proof.Defs
public import proofs.«01_k».proof.Proof.Gen.ReferenceIdeal
public import proofs.«01_k».proof.Proof.Gen.ReferenceIdeal.Run
public import Idealize.ShloMosaic.Lib.Pointwise
public import Idealize.ShloMosaic.Lib.Routing.OpsOrder
public import proofs.«01_k».proof.Proof.SoftRow

@[expose] public section

set_option maxRecDepth 16384

noncomputable section

namespace Cert.RefProof

open Cert.ReferenceIdeal Cert.ReferenceIdeal.Gen
open Idealize.ShloMosaic
open Idealize.ShloMosaic.TcCoe

/-! ## The reference's term, in parts -/

/-- The block number of a position. -/
def blockNo : IVec S1024 32 := select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))
/-- The keys' block numbers modulo four. -/
def remK : IVec S1x1024 32 := select (andi (cmpi .ne (cmpi .slt (Host.remsi (broadcastInDim S1x1024 ![1] bcast_S1024_S1x1024_1 blockNo) (broadcastInDim S1x1024 ![] bcast_S_S1x1024 (select (cmpi .eq (id (constantI S_ 32 4#32)) (constantI S_ 32 0#32)) (constantI S_ 32 1#32) (id (constantI S_ 32 4#32))))) (broadcastInDim S1x1024 ![] bcast_S_S1x1024 (constantI S_ 32 0#32))) (broadcastInDim S1x1024 ![] bcast_S_S1x1024 (cmpi .slt (select (cmpi .eq (id (constantI S_ 32 4#32)) (constantI S_ 32 0#32)) (constantI S_ 32 1#32) (id (constantI S_ 32 4#32))) (constantI S_ 32 0#32)))) (cmpi .ne (Host.remsi (broadcastInDim S1x1024 ![1] bcast_S1024_S1x1024_1 blockNo) (broadcastInDim S1x1024 ![] bcast_S_S1x1024 (select (cmpi .eq (id (constantI S_ 32 4#32)) (constantI S_ 32 0#32)) (constantI S_ 32 1#32) (id (constantI S_ 32 4#32))))) (broadcastInDim S1x1024 ![] bcast_S_S1x1024 (constantI S_ 32 0#32)))) (addi (Host.remsi (broadcastInDim S1x1024 ![1] bcast_S1024_S1x1024_1 blockNo) (broadcastInDim S1x1024 ![] bcast_S_S1x1024 (select (cmpi .eq (id (constantI S_ 32 4#32)) (constantI S_ 32 0#32)) (constantI S_ 32 1#32) (id (constantI S_ 32 4#32))))) (broadcastInDim S1x1024 ![] bcast_S_S1x1024 (select (cmpi .eq (id (constantI S_ 32 4#32)) (constantI S_ 32 0#32)) (constantI S_ 32 1#32) (id (constantI S_ 32 4#32))))) (Host.remsi (broadcastInDim S1x1024 ![1] bcast_S1024_S1x1024_1 blockNo) (broadcastInDim S1x1024 ![] bcast_S_S1x1024 (select (cmpi .eq (id (constantI S_ 32 4#32)) (constantI S_ 32 0#32)) (constantI S_ 32 1#32) (id (constantI S_ 32 4#32)))))
/-- The queries' block numbers modulo four. -/
def remQ : IVec S1024x1 32 := select (andi (cmpi .ne (cmpi .slt (Host.remsi (broadcastInDim S1024x1 ![0] bcast_S1024_S1024x1_0 blockNo) (broadcastInDim S1024x1 ![] bcast_S_S1024x1 (select (cmpi .eq (id (constantI S_ 32 4#32)) (constantI S_ 32 0#32)) (constantI S_ 32 1#32) (id (constantI S_ 32 4#32))))) (broadcastInDim S1024x1 ![] bcast_S_S1024x1 (constantI S_ 32 0#32))) (broadcastInDim S1024x1 ![] bcast_S_S1024x1 (cmpi .slt (select (cmpi .eq (id (constantI S_ 32 4#32)) (constantI S_ 32 0#32)) (constantI S_ 32 1#32) (id (constantI S_ 32 4#32))) (constantI S_ 32 0#32)))) (cmpi .ne (Host.remsi (broadcastInDim S1024x1 ![0] bcast_S1024_S1024x1_0 blockNo) (broadcastInDim S1024x1 ![] bcast_S_S1024x1 (select (cmpi .eq (id (constantI S_ 32 4#32)) (constantI S_ 32 0#32)) (constantI S_ 32 1#32) (id (constantI S_ 32 4#32))))) (broadcastInDim S1024x1 ![] bcast_S_S1024x1 (constantI S_ 32 0#32)))) (addi (Host.remsi (broadcastInDim S1024x1 ![0] bcast_S1024_S1024x1_0 blockNo) (broadcastInDim S1024x1 ![] bcast_S_S1024x1 (select (cmpi .eq (id (constantI S_ 32 4#32)) (constantI S_ 32 0#32)) (constantI S_ 32 1#32) (id (constantI S_ 32 4#32))))) (broadcastInDim S1024x1 ![] bcast_S_S1024x1 (select (cmpi .eq (id (constantI S_ 32 4#32)) (constantI S_ 32 0#32)) (constantI S_ 32 1#32) (id (constantI S_ 32 4#32))))) (Host.remsi (broadcastInDim S1024x1 ![0] bcast_S1024_S1024x1_0 blockNo) (broadcastInDim S1024x1 ![] bcast_S_S1024x1 (select (cmpi .eq (id (constantI S_ 32 4#32)) (constantI S_ 32 0#32)) (constantI S_ 32 1#32) (id (constantI S_ 32 4#32)))))
/-- The mask. -/
def maskT : IVec S1024x1024 1 := ori (cmpi .eq (broadcastInDim S1024x1024 ![0, 1] bcast_S1024x1_S1024x1024_0_1 (broadcastInDim S1024x1 ![0] bcast_S1024_S1024x1_0 blockNo)) (broadcastInDim S1024x1024 ![0, 1] bcast_S1x1024_S1024x1024_0_1 (broadcastInDim S1x1024 ![1] bcast_S1024_S1x1024_1 blockNo))) (cmpi .eq (broadcastInDim S1024x1024 ![0, 1] bcast_S1x1024_S1024x1024_0_1 remK) (broadcastInDim S1024x1024 ![0, 1] bcast_S1024x1_S1024x1024_0_1 remQ))
/-- The scaled scores. -/
def scT (x : FVec Ideal S8x1024x1024 .f32) (wq : FVec Ideal S1024x8192 .f32) (kk : FVec Ideal S8x1024x64x128 .f32) : FVec Ideal S8x64x1024x1024 .f32 :=
  mulf (Host.dotGeneral dot_S8x1024x64x128_S8x1024x64x128_S8x64x1024x1024_3_3_1_1_02_02 none (shapeCast S8x1024x64x128 (Host.dotGeneral dot_S8x1024x1024_S1024x8192_S8x1024x8192_2_0_01_1_n_n none x wq) shapeCasts_S8x1024x8192_S8x1024x64x128) kk) (broadcastInDim S8x64x1024x1024 ![] bcast_S_S8x64x1024x1024 (constant S_ .f32 0x3DB504F3#32))
/-- The masked scores. -/
def sT (mask : IVec S1024x1024 1) (sc : FVec Ideal S8x64x1024x1024 .f32) : FVec Ideal S8x64x1024x1024 .f32 :=
  select (broadcastInDim S8x64x1024x1024 ![0, 1, 2, 3] bcast_S1x1x1024x1024_S8x64x1024x1024_0_1_2_3 (broadcastInDim S1x1x1024x1024 ![2, 3] bcast_S1024x1024_S1x1x1024x1024_2_3 mask)) sc (broadcastInDim S8x64x1024x1024 ![] bcast_S_S8x64x1024x1024 (id (constant S_ .f32 0xFF800000#32)))
/-- The exponentials. -/
def eT (s : FVec Ideal S8x64x1024x1024 .f32) : FVec Ideal S8x64x1024x1024 .f32 :=
  Host.exp (subf s (broadcastInDim S8x64x1024x1024 ![0, 1, 2, 3] bcast_S8x64x1024x1_S8x64x1024x1024_0_1_2_3 (broadcastInDim S8x64x1024x1 ![0, 1, 2] bcast_S8x64x1024_S8x64x1024x1_0_1_2 (Host.reduce FloatOps.maximumf s (constant S_ .f32 0xFF800000#32) reducesTo_S8x64x1024x1024_S8x64x1024_d3 h_S_))))
/-- The weights. -/
def wT (mask : IVec S1024x1024 1) (e : FVec Ideal S8x64x1024x1024 .f32) : FVec Ideal S8x64x1024x1024 .f32 :=
  select (broadcastInDim S8x64x1024x1024 ![0, 1, 2, 3] bcast_S1x1x1024x1_S8x64x1024x1024_0_1_2_3 (broadcastInDim S1x1x1024x1 ![2] bcast_S1024_S1x1x1024x1_2 (Host.reduce IntOp.ori mask (constantI S_ 1 0#1) reducesTo_S1024x1024_S1024_d1 h_S_))) (Host.divf e (broadcastInDim S8x64x1024x1024 ![0, 1, 2, 3] bcast_S8x64x1024x1_S8x64x1024x1024_0_1_2_3 (select (broadcastInDim S8x64x1024x1 ![0, 1, 2, 3] bcast_S1x1x1024x1_S8x64x1024x1_0_1_2_3 (broadcastInDim S1x1x1024x1 ![2] bcast_S1024_S1x1x1024x1_2 (Host.reduce IntOp.ori mask (constantI S_ 1 0#1) reducesTo_S1024x1024_S1024_d1 h_S_))) (broadcastInDim S8x64x1024x1 ![0, 1, 2] bcast_S8x64x1024_S8x64x1024x1_0_1_2 (Host.reduceAdd e (constant S_ .f32 0x00000000#32) reducesTo_S8x64x1024x1024_S8x64x1024_d3 h_S_)) (broadcastInDim S8x64x1024x1 ![] bcast_S_S8x64x1024x1 (id (constant S_ .f32 0x3F800000#32)))))) (broadcastInDim S8x64x1024x1024 ![] bcast_S_S8x64x1024x1024 (id (constant S_ .f32 0x00000000#32)))
/-- The result. -/
def outT (vv : FVec Ideal S8x1024x64x128 .f32) (wo : FVec Ideal S8192x1024 .f32) (w : FVec Ideal S8x64x1024x1024 .f32) : FVec Ideal S8x1024x1024 .f32 :=
  Host.dotGeneral dot_S8x1024x8192_S8192x1024_S8x1024x1024_2_0_01_1_n_n none (shapeCast S8x1024x8192 (transpose S8x1024x64x128 [0, 3, 1, 2] (Host.dotGeneral dot_S8x1024x64x128_S8x64x1024x1024_S8x64x128x1024_1_3_3_2_02_01 none vv w) transposes_S8x64x128x1024_S8x1024x64x128_0_3_1_2) shapeCasts_S8x1024x64x128_S8x1024x8192) wo

theorem res_eq (m : (ℓ : Loc nD τ sig) → Buf (Elt Ideal) ℓ) (c : Dev nD) :
    Value.res_main_v39 m c = outT (m ((c.tc : Thread nD τ).loc main_arg3)) (m ((c.tc : Thread nD τ).loc main_arg4))
      (wT maskT (eT (sT maskT (scT (m ((c.tc : Thread nD τ).loc main_arg0)) (m ((c.tc : Thread nD τ).loc main_arg1)) (m ((c.tc : Thread nD τ).loc main_arg2)))))) := by
  unfold Value.res_main_v39
  rfl

/-! ## The parts at an index -/

theorem scT_at (x : FVec Ideal S8x1024x1024 .f32) (wq : FVec Ideal S1024x8192 .f32) (kk : FVec Ideal S8x1024x64x128 .f32)
    (b : Fin 8) (h : Fin 64) (p q : Fin 1024) :
    scT x wq kk (ix4 b h p q) = (∑ d : Fin 128, (∑ k : Fin 1024, x (ix3 b p k) * wq (ix2 k ⟨h.val * 128 + d.val, by omega⟩))
      * kk (ix4 b q h d)) * Ideal.ofBits FTy.f32 0x3DB504F3#32 := by
  pointwise [scT]

theorem sT_at (mask : IVec S1024x1024 1) (sc : FVec Ideal S8x64x1024x1024 .f32) (b : Fin 8) (h : Fin 64) (p q : Fin 1024) :
    sT mask sc (ix4 b h p q)
      = Scalar.select (mask (ix2 p q)) (sc (ix4 b h p q)) (id (constant (F := Ideal) S_ FTy.f32 0xFF800000#32) ix0) := by
  pointwise [sT]

theorem eT_at (s : FVec Ideal S8x64x1024x1024 .f32) (b : Fin 8) (h : Fin 64) (p q : Fin 1024) :
    eT s (ix4 b h p q) = Ideal.exp (s (ix4 b h p q)
      - Finset.fold max (Ideal.ofBits FTy.f32 0xFF800000#32) (fun x => s (ix4 b h p x)) Finset.univ) := by
  pointwise [eT]

theorem wT_at (mask : IVec S1024x1024 1) (e : FVec Ideal S8x64x1024x1024 .f32) (b : Fin 8) (h : Fin 64) (p q : Fin 1024) :
    wT mask e (ix4 b h p q)
      = Scalar.select (Finset.fold IntOp.ori (0#1) (fun x => mask (ix2 p x)) Finset.univ)
          (Ideal.div (e (ix4 b h p q)) (Scalar.select (Finset.fold IntOp.ori (0#1) (fun x => mask (ix2 p x)) Finset.univ)
            (∑ x, e (ix4 b h p x)) (id (constant (F := Ideal) S_ FTy.f32 0x3F800000#32) ix0)))
          (id (constant (F := Ideal) S_ FTy.f32 0x00000000#32) ix0) := by
  pointwise [wT]

theorem outT_at (vv : FVec Ideal S8x1024x64x128 .f32) (wo : FVec Ideal S8192x1024 .f32) (w : FVec Ideal S8x64x1024x1024 .f32)
    (b : Fin 8) (p n : Fin 1024) :
    outT vv wo w (ix3 b p n) = ∑ x : Fin 8192, (∑ q : Fin 1024,
      vv (ix4 b q ⟨x.val / 128, by omega⟩ ⟨x.val % 128, by omega⟩) * w (ix4 b ⟨x.val / 128, by omega⟩ p q)) * wo (ix2 x n) := by
  pointwise [outT]

/-! ## The mask -/

theorem blockNo_at : ∀ q : Fin 1024, blockNo (ix1 q) = BitVec.ofNat 32 (q.val / 64) := by decide +kernel

theorem remK_at : ∀ q : Fin 1024, remK (ix2 (0 : Fin 1) q) = BitVec.ofNat 32 (q.val / 64 % 4) := by decide +kernel

theorem remQ_at : ∀ q : Fin 1024, remQ (ix2 q (0 : Fin 1)) = BitVec.ofNat 32 (q.val / 64 % 4) := by decide +kernel

theorem bits_at : ∀ a b : Fin 16, IntOp.ori (IntOp.cmpi .eq (BitVec.ofNat 32 a.val) (BitVec.ofNat 32 b.val))
    (IntOp.cmpi .eq (BitVec.ofNat 32 (b.val % 4)) (BitVec.ofNat 32 (a.val % 4))) = 1#1 ↔ b.val % 4 = a.val % 4 := by
  decide +kernel

theorem maskT_form (p q : Fin 1024) : maskT (ix2 p q) = IntOp.ori (IntOp.cmpi .eq (blockNo (ix1 p)) (blockNo (ix1 q)))
    (IntOp.cmpi .eq (remK (ix2 (0 : Fin 1) q)) (remQ (ix2 p (0 : Fin 1)))) := by
  pointwise [maskT]

/-- A query sees the keys whose block has the same number modulo four. -/
theorem maskT_at (p q : Fin 1024) : maskT (ix2 p q) = 1#1 ↔ q.val / 64 % 4 = p.val / 64 % 4 := by
  rw [maskT_form, blockNo_at, blockNo_at, remK_at, remQ_at]
  exact bits_at ⟨p.val / 64, by omega⟩ ⟨q.val / 64, by omega⟩

/-- The keys a query sees, in order. -/
def seen (p : Fin 1024) (i : Fin 256) : Fin 1024 := ⟨64 * (p.val / 64 % 4) + 256 * (i.val / 64) + i.val % 64, by omega⟩

theorem seen_inj (p : Fin 1024) : Function.Injective (seen p) := by
  intro i j h
  have := congrArg Fin.val h
  simp only [seen] at this
  exact Fin.ext (by omega)

theorem mask_seen (p q : Fin 1024) : maskT (ix2 p q) = 1#1 ↔ ∃ i, seen p i = q := by
  rw [maskT_at]
  constructor
  · intro h
    exact ⟨⟨64 * (q.val / 256) + q.val % 64, by omega⟩, Fin.ext (by simp only [seen]; omega)⟩
  · rintro ⟨i, rfl⟩
    simp only [seen]
    omega

theorem any_seen (p : Fin 1024) : Finset.fold IntOp.ori (0#1) (fun x => maskT (ix2 p x)) Finset.univ = 1#1 :=
  (Idealize.ShloMosaic.Routing.fold_ori _ _).2 ⟨seen p 0, Finset.mem_univ _, (mask_seen p _).2 ⟨0, rfl⟩⟩

/-! ## The result -/

theorem neg_inf : Ideal.ofBits .f32 0xFF800000#32 = ⊥ := by simp [Ideal.ofBits, Ideal.ieee]

theorem scale_real : ∃ r : ℝ, Ideal.ofBits .f32 0x3DB504F3#32 = (r : EReal) := by
  simp only [Ideal.ofBits, Ideal.ieee]
  rw [if_neg (by decide), if_neg (by decide)]
  exact ⟨_, rfl⟩

/-- The score of a query with a key, the query scaled first. -/
def score (x : FVec Ideal S8x1024x1024 .f32) (wq : FVec Ideal S1024x8192 .f32) (kk : FVec Ideal S8x1024x64x128 .f32)
    (b : Fin 8) (h : Fin 64) (p q : Fin 1024) : EReal :=
  ∑ d : Fin 128, ((∑ k : Fin 1024, x (ix3 b p k) * wq (ix2 k ⟨h.val * 128 + d.val, by omega⟩))
    * Ideal.ofBits FTy.f32 0x3DB504F3#32) * kk (ix4 b q h d)

/-- What a head gives a query at one lane. -/
def attend (x : FVec Ideal S8x1024x1024 .f32) (wq : FVec Ideal S1024x8192 .f32) (kk vv : FVec Ideal S8x1024x64x128 .f32)
    (b : Fin 8) (h : Fin 64) (p : Fin 1024) (d : Fin 128) : EReal :=
  (∑ i : Fin 256, Ideal.exp (score x wq kk b h p (seen p i)) * vv (ix4 b (seen p i) h d))
    * Ideal.div 1 (∑ i : Fin 256, Ideal.exp (score x wq kk b h p (seen p i)))

theorem attend_eq (x : FVec Ideal S8x1024x1024 .f32) (wq : FVec Ideal S1024x8192 .f32) (kk vv : FVec Ideal S8x1024x64x128 .f32)
    (hx : ∀ i, ∃ r : ℝ, x i = (r : EReal)) (hwq : ∀ i, ∃ r : ℝ, wq i = (r : EReal)) (hkk : ∀ i, ∃ r : ℝ, kk i = (r : EReal))
    (b : Fin 8) (h : Fin 64) (p : Fin 1024) (d : Fin 128) :
    (∑ q : Fin 1024, vv (ix4 b q h d) * wT maskT (eT (sT maskT (scT x wq kk))) (ix4 b h p q)) = attend x wq kk vv b h p d := by
  have hs : ∀ q : Fin 1024, ∃ r : ℝ, score x wq kk b h p q = (r : EReal) ∧ scT x wq kk (ix4 b h p q) = (r : EReal) := fun q => by
    obtain ⟨r, h₁, h₂⟩ := SoftRow.score (fun k : Fin 1024 => x (ix3 b p k))
      (fun (k : Fin 1024) (d : Fin 128) => wq (ix2 k ⟨h.val * 128 + d.val, by omega⟩)) (fun d : Fin 128 => kk (ix4 b q h d))
      (Ideal.ofBits FTy.f32 0x3DB504F3#32) (fun _ => hx _) (fun _ _ => hwq _) (fun _ => hkk _) scale_real
    exact ⟨r, h₁, (scT_at x wq kk b h p q).trans h₂⟩
  choose s hs using hs
  have hw : ∀ q, wT maskT (eT (sT maskT (scT x wq kk))) (ix4 b h p q)
      = Ideal.div (Ideal.exp (sT maskT (scT x wq kk) (ix4 b h p q)
          - Finset.univ.fold max ⊥ fun x' => sT maskT (scT x wq kk) (ix4 b h p x')))
        (∑ q', Ideal.exp (sT maskT (scT x wq kk) (ix4 b h p q')
          - Finset.univ.fold max ⊥ fun x' => sT maskT (scT x wq kk) (ix4 b h p x'))) := fun q => by
    rw [wT_at, any_seen]
    simp only [eT_at, neg_inf]
    rfl
  simp only [hw]
  rw [SoftRow.row (fun q => maskT (ix2 p q) = 1#1) (seen p) (seen_inj p) (mask_seen p) 0 s (fun q => vv (ix4 b q h d))
    (fun q => sT maskT (scT x wq kk) (ix4 b h p q)) ?_]
  · unfold attend
    simp only [(hs _).1]
  · intro q
    rw [sT_at]
    split_ifs with hm
    · rw [hm, ← (hs q).2]; rfl
    · rw [(BitVec.eq_zero_or_eq_one _).resolve_right hm]
      exact neg_inf

/-- The reference's result at an index. -/
theorem res_at (x : FVec Ideal S8x1024x1024 .f32) (wq : FVec Ideal S1024x8192 .f32) (kk vv : FVec Ideal S8x1024x64x128 .f32)
    (wo : FVec Ideal S8192x1024 .f32)
    (hx : ∀ i, ∃ r : ℝ, x i = (r : EReal)) (hwq : ∀ i, ∃ r : ℝ, wq i = (r : EReal)) (hkk : ∀ i, ∃ r : ℝ, kk i = (r : EReal))
    (b : Fin 8) (p n : Fin 1024) :
    outT vv wo (wT maskT (eT (sT maskT (scT x wq kk)))) (ix3 b p n)
      = ∑ y : Fin 8192, attend x wq kk vv b ⟨y.val / 128, by omega⟩ p ⟨y.val % 128, by omega⟩ * wo (ix2 y n) := by
  rw [outT_at]
  exact Finset.sum_congr rfl fun y _ => by rw [attend_eq x wq kk vv hx hwq hkk]

end Cert.RefProof
-- ==== Proof.Value.lean ====
/- The kernel's result on device `c` is block `c` of the reference's. -/
module

public import proofs.«01_k».proof.Proof.KernelValue
public import proofs.«01_k».proof.Proof.RefValue
public import Idealize.ShloMosaic.Lib.LayoutAt
public import Idealize.ShloMosaic.Lib.Pipeline.ValueKit

@[expose] public section

set_option maxRecDepth 16384

noncomputable section

namespace Cert.RingProof

open Cert.KernelIdeal Cert.KernelIdeal.Gen
open Idealize.ShloMosaic
open Idealize.ShloMosaic.TcCoe

/-! ## The arguments, device by device -/

section

variable (m : (ℓ : Loc nD τ sig) → Buf (Elt Ideal) ℓ)

theorem x_at (X : FVec Ideal ⟨3, ![8, 1024, 1024]⟩ .f32) (c : Dev nD)
    (h : m ((c.tc : Thread nD τ).loc main_arg0) = Layout.block ⟨3, ![1, 1024, 1024]⟩ ⟨3, ![8, 1024, 1024]⟩ 0 8 c X) (p k : Fin 1024) :
    (m ((c.tc : Thread nD τ).loc main_arg0) : FVec Ideal S1x1024x1024 .f32) (ix3 (0 : Fin 1) p k) = X (ix3 (c : Fin 8) p k) := by
  rw [h]
  refine (Layout.block_apply (S := ⟨3, ![1, 1024, 1024]⟩) (T := ⟨3, ![8, 1024, 1024]⟩) (a := 0) (k := 8) c X (by decide) _).trans (congrArg X ?_)
  shard_ext

theorem wq_at (Wq : FVec Ideal ⟨2, ![1024, 8192]⟩ .f32) (c : Dev nD)
    (h : m ((c.tc : Thread nD τ).loc main_arg1) = Layout.block ⟨2, ![1024, 1024]⟩ ⟨2, ![1024, 8192]⟩ 1 8 c Wq) (k l : Fin 1024) :
    (m ((c.tc : Thread nD τ).loc main_arg1) : FVec Ideal S1024x1024 .f32) (ix2 k l)
      = Wq (ix2 k (⟨c.val * 1024 + l.val, by have : c.val < 8 := c.isLt; omega⟩ : Fin 8192)) := by
  rw [h]
  refine (Layout.block_apply (S := ⟨2, ![1024, 1024]⟩) (T := ⟨2, ![1024, 8192]⟩) (a := 1) (k := 8) c Wq (by decide) _).trans (congrArg Wq ?_)
  shard_ext

theorem wo_at (Wo : FVec Ideal ⟨2, ![8192, 1024]⟩ .f32) (c : Dev nD)
    (h : m ((c.tc : Thread nD τ).loc main_arg4) = Layout.block ⟨2, ![1024, 1024]⟩ ⟨2, ![8192, 1024]⟩ 0 8 c Wo) (k l : Fin 1024) :
    (m ((c.tc : Thread nD τ).loc main_arg4) : FVec Ideal S1024x1024 .f32) (ix2 k l)
      = Wo (ix2 (⟨c.val * 1024 + k.val, by have : c.val < 8 := c.isLt; omega⟩ : Fin 8192) l) := by
  rw [h]
  refine (Layout.block_apply (S := ⟨2, ![1024, 1024]⟩) (T := ⟨2, ![8192, 1024]⟩) (a := 0) (k := 8) c Wo (by decide) _).trans (congrArg Wo ?_)
  shard_ext

/-! ## The staged block and the result's window -/

variable (ρ : Dev nD → PrngReg)

theorem out_whole : (cfg0.win (1 : Fin 2)).WholeAt t₀ :=
  ⟨by decide +kernel, fun t _ => Subsingleton.elim (α := Fin 1) t t₀, fun a => by
    revert a; decide +kernel⟩

theorem finalA_out (c : Dev nD) : finalA m ρ c (1 : Fin 2) = outAt m ρ c := by
  refine (dats m ρ 0 c).arrAt_eq_of_after_last (1 : Fin 2) t₀ out_whole _ fun j => ?_
  rfl

theorem xstg_eq (c : Dev nD) : xstg m ρ c = m ((c.tc : Thread nD τ).loc main_arg0) := by
  unfold xstg
  exact Memref.read_access_unit_zero (Elt Ideal) main_arg0 (by funext a; fin_cases a <;> rfl) _ _

/-! ## The contributions are the reference's heads -/

theorem sum_heads (f : Fin 8192 → EReal) :
    ∑ y, f y = ∑ j : Fin 8, ∑ x : Fin 1024, f ⟨j.val * 1024 + x.val, by omega⟩ := by
  rw [← (finProdFinEquiv (m := 8) (n := 1024)).sum_comp f, Fintype.sum_prod_type]
  refine Finset.sum_congr rfl fun j _ => Finset.sum_congr rfl fun x _ => congrArg f (Fin.ext ?_)
  show x.val + 1024 * j.val = j.val * 1024 + x.val
  omega

theorem regrp_regrp : ∀ p : Fin 1024, regrp (regrp p) = p := by decide +kernel

theorem ldK_at (c : Dev nD) (j : Fin 8) (p : Fin 1024) (l : Fin 256) (x : Fin 1024) (d : Fin 128)
    (K : FVec Ideal ⟨4, ![8, 1024, 64, 128]⟩ .f32) (hK : m ((c.tc : Thread nD τ).loc main_arg2) = K) :
    ldK m c j ⟨(regrp p).val / 256, by omega⟩ (ix4 (0 : Fin 1) l (⟨x.val / 128, by omega⟩ : Fin 8) d)
      = K (ix4 (c : Fin 8) (RefProof.seen p l) (⟨(j.val * 1024 + x.val) / 128, by omega⟩ : Fin 64) d) := by
  subst hK
  unfold ldK landIdx
  refine congrArg (m ((c.tc : Thread nD τ).loc main_arg2)) ?_
  refine congrArg₂ (fun (a : Fin 1024) (b : Fin 64) => (ix4 (c : Fin 8) a b d : S8x1024x64x128.Idx)) (Fin.ext ?_) (Fin.ext ?_)
  · show 64 * ((regrp p).val / 256) + 256 * (l.val / 64) + l.val % 64 = 64 * (p.val / 64 % 4) + 256 * (l.val / 64) + l.val % 64
    simp only [regrp]
    omega
  · show 8 * j.val + x.val / 128 = (j.val * 1024 + x.val) / 128
    omega

theorem ldV_at (c : Dev nD) (j : Fin 8) (p : Fin 1024) (l : Fin 256) (x : Fin 1024) (d : Fin 128)
    (V : FVec Ideal ⟨4, ![8, 1024, 64, 128]⟩ .f32) (hV : m ((c.tc : Thread nD τ).loc main_arg3) = V) :
    ldV m c j ⟨(regrp p).val / 256, by omega⟩ (ix4 (0 : Fin 1) l (⟨x.val / 128, by omega⟩ : Fin 8) d)
      = V (ix4 (c : Fin 8) (RefProof.seen p l) (⟨(j.val * 1024 + x.val) / 128, by omega⟩ : Fin 64) d) := by
  subst hV
  unfold ldV landIdx
  refine congrArg (m ((c.tc : Thread nD τ).loc main_arg3)) ?_
  refine congrArg₂ (fun (a : Fin 1024) (b : Fin 64) => (ix4 (c : Fin 8) a b d : S8x1024x64x128.Idx)) (Fin.ext ?_) (Fin.ext ?_)
  · show 64 * ((regrp p).val / 256) + 256 * (l.val / 64) + l.val % 64 = 64 * (p.val / 64 % 4) + 256 * (l.val / 64) + l.val % 64
    simp only [regrp]
    omega
  · show 8 * j.val + x.val / 128 = (j.val * 1024 + x.val) / 128
    omega

variable (X : FVec Ideal ⟨3, ![8, 1024, 1024]⟩ .f32) (Wq : FVec Ideal ⟨2, ![1024, 8192]⟩ .f32)
  (K V : FVec Ideal ⟨4, ![8, 1024, 64, 128]⟩ .f32) (Wo : FVec Ideal ⟨2, ![8192, 1024]⟩ .f32)
  (h0 : ∀ c : Dev nD, m ((c.tc : Thread nD τ).loc main_arg0) = Layout.block ⟨3, ![1, 1024, 1024]⟩ ⟨3, ![8, 1024, 1024]⟩ 0 8 c X)
  (h1 : ∀ c : Dev nD, m ((c.tc : Thread nD τ).loc main_arg1) = Layout.block ⟨2, ![1024, 1024]⟩ ⟨2, ![1024, 8192]⟩ 1 8 c Wq)
  (h2 : ∀ c : Dev nD, m ((c.tc : Thread nD τ).loc main_arg2) = K)
  (h3 : ∀ c : Dev nD, m ((c.tc : Thread nD τ).loc main_arg3) = V)
  (h4 : ∀ c : Dev nD, m ((c.tc : Thread nD τ).loc main_arg4) = Layout.block ⟨2, ![1024, 1024]⟩ ⟨2, ![8192, 1024]⟩ 0 8 c Wo)

include h0 h1 h2 in
theorem kscore_eq (c : Dev nD) (j : Fin 8) (p : Fin 1024) (x : Fin 1024) (l : Fin 256) :
    kscore m c (k0_pay1 (m ((c.tc : Thread nD τ).loc main_arg0) : FVec Ideal S1x1024x1024 .f32)) j (regrp p) ⟨x.val / 128, by omega⟩ l
      = RefProof.score X Wq K c ⟨(j.val * 1024 + x.val) / 128, by omega⟩ p (RefProof.seen p l) := by
  unfold kscore RefProof.score
  refine Finset.sum_congr rfl fun d _ => ?_
  rw [ldK_at m c j p l x d K (h2 c)]
  refine congrArg (fun s : EReal => s * Ideal.ofBits FTy.f32 0x3DB504F3#32 * K (ix4 (c : Fin 8) (RefProof.seen p l) _ d)) ?_
  refine Finset.sum_congr rfl fun k _ => ?_
  rw [pay1_at, regrp_regrp, x_at m X c (h0 c)]
  refine congrArg (fun s : EReal => X (ix3 (c : Fin 8) p k) * s) ?_
  refine (wq_at m Wq j (h1 j) k _).trans (congrArg (fun a : Fin 8192 => Wq (ix2 k a)) (Fin.ext ?_))
  show j.val * 1024 + (x.val / 128 * 128 + d.val) = (j.val * 1024 + x.val) / 128 * 128 + d.val
  omega

include h0 h1 h2 h3 h4 in
theorem outB_eq (c : Dev nD) (p n : Fin 1024) :
    (outB m c (m ((c.tc : Thread nD τ).loc main_arg0)) : FVec Ideal S1x1024x1024 .f32) (ix3 (0 : Fin 1) p n)
      = (∑ y : Fin 8192, RefProof.attend X Wq K V c ⟨y.val / 128, by omega⟩ p ⟨y.val % 128, by omega⟩ * Wo (ix2 y n) : EReal) := by
  refine (outB_at m c _ p n).trans ?_
  refine Eq.trans (b := ∑ j : Fin 8, ∑ x : Fin 1024, (RefProof.attend X Wq K V c ⟨(j.val * 1024 + x.val) / 128, by omega⟩ p
    ⟨(j.val * 1024 + x.val) % 128, by omega⟩ : EReal) * Wo (ix2 (⟨j.val * 1024 + x.val, by omega⟩ : Fin 8192) n)) ?_
    (sum_heads fun y : Fin 8192 => (RefProof.attend X Wq K V c ⟨y.val / 128, by omega⟩ p ⟨y.val % 128, by omega⟩ : EReal) * Wo (ix2 y n)).symm
  refine Finset.sum_congr rfl fun j _ => ?_
  unfold contrib
  refine Finset.sum_congr rfl fun x _ => ?_
  have hw : wov m j (ix2 x n) = Wo (ix2 (⟨j.val * 1024 + x.val, by omega⟩ : Fin 8192) n) := wo_at m Wo j (h4 j) x n
  rw [hw]
  refine congrArg (fun s : EReal => s * Wo (ix2 (⟨j.val * 1024 + x.val, by omega⟩ : Fin 8192) n)) ?_
  unfold RefProof.attend
  have hd : (⟨(j.val * 1024 + x.val) % 128, by omega⟩ : Fin 128) = ⟨x.val % 128, by omega⟩ := Fin.ext (by show (j.val * 1024 + x.val) % 128 = x.val % 128; omega)
  simp only [kscore_eq m X Wq K h0 h1 h2, ldV_at m c j p _ x _ V (h3 c), hd]

end

end Cert.RingProof
-- ==== Proof.lean ====
/- The claims of this directory, put together from the runs of the programs. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Claim

@[expose] public section

open Idealize.ShloMosaic Idealize.SL.Sem Idealize.ShloMosaic.TcCoe

set_option maxHeartbeats 4000000

namespace Cert.Proof

/-- The two programs have the same text: one table of bodies. -/
theorem bodies_eq : Cert.Kernel.defs₀ (F := Bits) = Cert.KernelIdeal.defs₀ (F := Bits) := by
  unfold Cert.Kernel.defs₀ Cert.KernelIdeal.defs₀
  congr 1
  funext l x
  match l, x with
  | 0, (t, s) => exact rfl

theorem table_eq : Cert.Kernel.defs (F := Bits) = Cert.KernelIdeal.defs (F := Bits) :=
  congrArg (Pipeline.defs (Cert.Kernel.pcfgs (F := Bits))) bodies_eq

/-- The kernel's frame: the run from the launch at words, read at the arguments and the counters. -/
theorem frame_kernel : Cert.quiescent_Kernel := by
  intro m ρ _
  rw [table_eq]
  exact (θ_run (Cert.KernelIdeal.defs (F := Bits)) _ _).mono
    (fun _ h => ⟨fun c => ⟨((h.1 c).1 (0 : Fin 2)).trans (Cert.RingProof.finalA_x m ρ c), (h.1 c).2⟩, h.2⟩)
    (Cert.RingProof.run_main (F := Bits) m ρ)

/-- The same run over the extended reals. -/
theorem frame_kernelIdeal : Cert.quiescent_KernelIdeal := by
  intro m ρ _
  exact (θ_run Cert.KernelIdeal.defs _ _).mono
    (fun _ h => ⟨fun c => ⟨((h.1 c).1 (0 : Fin 2)).trans (Cert.RingProof.finalA_x m ρ c), (h.1 c).2⟩, h.2⟩)
    (Cert.RingProof.run_main (F := Ideal) m ρ)

/-- The reference's frame: host operations only, and the program has no semaphore. -/
theorem frame_referenceIdeal : Cert.quiescent_ReferenceIdeal := by
  intro m ρ _
  refine (θ_run Cert.ReferenceIdeal.defs _ _).mono (fun r h => ⟨fun c => (h c).2, ?_⟩) (Cert.ReferenceIdeal.Value.run (F := Ideal) m ρ)
  funext s
  rcases s with ⟨d, s | s⟩
  · exact Fin.elim0 s
  · exact Fin.elim0 s

/-! ## The precondition -/

instance pre_kernelIdeal : Cert.Pre_finite_KernelIdeal.Facts where
  bcast_S_S1x1024x1024 := by decide
  bcast_S_S1024x1024 := by decide
  bcast_S_S8x1024x64x128 := by decide

instance pre_referenceIdeal : Cert.Pre_finite_ReferenceIdeal.Facts := by
  constructor <;> decide

/-- An extended real strictly between the two infinities is real. -/
theorem real_of_bits (x : EReal)
    (h : IntOp.andi (Ideal.cmp .ogt x (Ideal.ofBits .f32 0xFF800000#32)) (Ideal.cmp .olt x (Ideal.ofBits .f32 0x7F800000#32)) = 1#1) :
    ∃ r : ℝ, x = (r : EReal) := by
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht] at h
  refine Cert.SoftRow.real_of x ⟨?_, ?_⟩
  · by_contra hx
    have : Ideal.cmp .ogt x ⊥ = 0#1 := by
      show BitVec.ofBool (decide (⊥ < x)) = 0#1
      rw [decide_eq_false hx]; rfl
    rw [this] at h
    revert h
    generalize Ideal.cmp .olt x ⊤ = b
    revert b
    decide
  · by_contra hx
    have : Ideal.cmp .olt x ⊤ = 0#1 := by
      show BitVec.ofBool (decide (x < ⊤)) = 0#1
      rw [decide_eq_false hx]; rfl
    rw [this] at h
    revert h
    generalize Ideal.cmp .ogt x ⊥ = b
    revert b
    decide

/-- The kernel's frame holds of the memories the value claim reads. -/
theorem frame_kernelIdeal_pre : Cert.quiescent_KernelIdeal_pre_finite_KernelIdeal :=
  fun m ρ _ => frame_kernelIdeal m ρ trivial

/-- And the reference's. -/
theorem frame_referenceIdeal_pre : Cert.quiescent_ReferenceIdeal_pre_finite_ReferenceIdeal :=
  fun m ρ _ => frame_referenceIdeal m ρ trivial

/-! ## The value claim -/

section

open Cert.KernelIdeal

variable (m : (ℓ : Loc nD τ sig) → Buf (Elt Ideal) ℓ) (hp : Cert.Pre_KernelIdeal_finite_KernelIdeal m)

include hp in
theorem x_real (c : Dev nD) (i : S1x1024x1024.Idx) :
    ∃ r : ℝ, (m ((c.tc : Thread nD τ).loc main_arg0) : FVec Ideal S1x1024x1024 .f32) i = (r : EReal) :=
  real_of_bits _ (congrFun (hp c).1 i)

include hp in
theorem wq_real (c : Dev nD) (i : S1024x1024.Idx) :
    ∃ r : ℝ, (m ((c.tc : Thread nD τ).loc main_arg1) : FVec Ideal S1024x1024 .f32) i = (r : EReal) :=
  real_of_bits _ (congrFun (hp c).2.1 i)

include hp in
theorem k_real (c : Dev nD) (i : S8x1024x64x128.Idx) :
    ∃ r : ℝ, (m ((c.tc : Thread nD τ).loc main_arg2) : FVec Ideal S8x1024x64x128 .f32) i = (r : EReal) :=
  real_of_bits _ (congrFun (hp c).2.2 i)

variable (X : FVec Ideal ⟨3, ![8, 1024, 1024]⟩ .f32) (Wq : FVec Ideal ⟨2, ![1024, 8192]⟩ .f32)
  (K V : FVec Ideal ⟨4, ![8, 1024, 64, 128]⟩ .f32) (Wo : FVec Ideal ⟨2, ![8192, 1024]⟩ .f32)
  (h0 : ∀ c : Dev nD, m ((c.tc : Thread nD τ).loc main_arg0) = Layout.block ⟨3, ![1, 1024, 1024]⟩ ⟨3, ![8, 1024, 1024]⟩ 0 8 c X)
  (h1 : ∀ c : Dev nD, m ((c.tc : Thread nD τ).loc main_arg1) = Layout.block ⟨2, ![1024, 1024]⟩ ⟨2, ![1024, 8192]⟩ 1 8 c Wq)
  (h2 : ∀ c : Dev nD, m ((c.tc : Thread nD τ).loc main_arg2) = K)
  (h3 : ∀ c : Dev nD, m ((c.tc : Thread nD τ).loc main_arg3) = V)
  (h4 : ∀ c : Dev nD, m ((c.tc : Thread nD τ).loc main_arg4) = Layout.block ⟨2, ![1024, 1024]⟩ ⟨2, ![8192, 1024]⟩ 0 8 c Wo)

include hp h0 in
theorem X_real (i : (⟨3, ![8, 1024, 1024]⟩ : Shape).Idx) : ∃ r : ℝ, X i = (r : EReal) := by
  obtain ⟨r, hr⟩ := x_real m hp (i 0) (ix3 (0 : Fin 1) (i 1) (i 2))
  exact ⟨r, ((congrArg X (eq_ix3 i)).trans (Cert.RingProof.x_at m X (i 0) (h0 (i 0)) (i 1) (i 2)).symm).trans hr⟩

include hp h1 in
theorem Wq_real (i : (⟨2, ![1024, 8192]⟩ : Shape).Idx) : ∃ r : ℝ, Wq i = (r : EReal) := by
  have hi : (i 1).val < 8192 := (i 1).isLt
  let j : Fin 8 := ⟨(i 1).val / 1024, by omega⟩
  let l : Fin 1024 := ⟨(i 1).val % 1024, by omega⟩
  obtain ⟨r, hr⟩ := wq_real m hp j (ix2 (i 0 : Fin 1024) l)
  have hl : i = (ix2 (i 0 : Fin 1024) (⟨j.val * 1024 + l.val, by omega⟩ : Fin 8192) : (⟨2, ![1024, 8192]⟩ : Shape).Idx) := by
    refine (eq_ix2 i).trans (congrArg (fun a : Fin 8192 => (ix2 (i 0 : Fin 1024) a : (⟨2, ![1024, 8192]⟩ : Shape).Idx)) (Fin.ext ?_))
    show (i 1).val = (i 1).val / 1024 * 1024 + (i 1).val % 1024
    omega
  exact ⟨r, ((congrArg Wq hl).trans (Cert.RingProof.wq_at m Wq j (h1 j) (i 0) l).symm).trans hr⟩

include hp h2 in
theorem K_real (i : (⟨4, ![8, 1024, 64, 128]⟩ : Shape).Idx) : ∃ r : ℝ, K i = (r : EReal) := by
  obtain ⟨r, hr⟩ := k_real m hp (0 : Fin 8) i
  exact ⟨r, (congrFun (h2 (0 : Fin 8)).symm i).trans hr⟩

include hp h0 h1 h2 h3 h4 in
/-- Device `c` ends with block `c` of the reference's result. -/
theorem value_eq (ρ : Dev nD → PrngReg) (c : Dev nD) :
    Cert.RingProof.finalA m ρ c (1 : Fin 2) = Layout.block ⟨3, ![1, 1024, 1024]⟩ ⟨3, ![8, 1024, 1024]⟩ 0 8 c
      (Cert.RefProof.outT V Wo (Cert.RefProof.wT Cert.RefProof.maskT (Cert.RefProof.eT (Cert.RefProof.sT Cert.RefProof.maskT (Cert.RefProof.scT X Wq K))))) := by
  rw [Cert.RingProof.finalA_out]
  unfold Cert.RingProof.outAt
  rw [Cert.RingProof.xstg_eq]
  generalize hR : Cert.RefProof.outT V Wo (Cert.RefProof.wT Cert.RefProof.maskT (Cert.RefProof.eT (Cert.RefProof.sT Cert.RefProof.maskT (Cert.RefProof.scT X Wq K)))) = R
  funext i
  have hi : i = (ix3 (0 : Fin 1) (i 1 : Fin 1024) (i 2 : Fin 1024) : S1x1024x1024.Idx) := by
    have h0 : i 0 = (0 : Fin 1) := Fin.ext (by have : (i 0).val < 1 := (i 0).isLt; show (i 0).val = 0; omega)
    rw [← h0]; exact eq_ix3 i
  generalize (i 1 : Fin 1024) = p at hi
  generalize (i 2 : Fin 1024) = n at hi
  subst hi
  refine (Cert.RingProof.outB_eq m X Wq K V Wo h0 h1 h2 h3 h4 c p n).trans ?_
  refine (Cert.RefProof.res_at X Wq K V Wo (X_real m hp X h0) (Wq_real m hp Wq h1) (K_real m hp K h2) c p n).symm.trans ?_
  rw [hR]
  refine Eq.trans (congrArg R ?_) (Layout.block_apply (S := ⟨3, ![1, 1024, 1024]⟩) (T := ⟨3, ![8, 1024, 1024]⟩) (a := 0) (k := 8) c R (by decide) _).symm
  shard_ext

end

theorem value : Cert.algebraic_KernelIdeal_ReferenceIdeal_pre_finite_KernelIdeal := by
  intro m ρ m' ρ' hp hagree
  refine ⟨Cert.ReferenceIdeal.Value.res_main_v39 m' 0, ?_, ?_⟩
  · refine (θ_run Cert.KernelIdeal.defs _ _).mono (fun r h c => ⟨?_, ((h.1 c).1 (0 : Fin 2)).trans (Cert.RingProof.finalA_x m ρ c), (h.1 c).2⟩)
      (Cert.RingProof.run_main (F := Ideal) m ρ)
    rw [Cert.RefProof.res_eq]
    exact ((h.1 c).1 (1 : Fin 2)).trans (value_eq m hp _ _ _ _ _ (fun c => (hagree c).1) (fun c => (hagree c).2.1) (fun c => (hagree c).2.2.1)
      (fun c => (hagree c).2.2.2.1) (fun c => (hagree c).2.2.2.2) ρ c)
  · exact (θ_run Cert.ReferenceIdeal.defs _ _).mono (fun r h => h 0) (Cert.ReferenceIdeal.Value.run (F := Ideal) m' ρ')

end Cert.Proof

/-- Every claim of the directory. -/
theorem Cert.Proof.claim : Cert.Claim :=
  ⟨Cert.Kernel.Gen.facts, Cert.KernelIdeal.Gen.facts, Cert.ReferenceIdeal.Gen.facts, Cert.Proof.pre_kernelIdeal, Cert.Proof.pre_referenceIdeal,
    Cert.Proof.frame_kernel, Cert.Proof.frame_kernelIdeal, Cert.Proof.frame_kernelIdeal_pre, Cert.Proof.frame_referenceIdeal,
    Cert.Proof.frame_referenceIdeal_pre, trivial, Cert.Proof.value⟩
